-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormWide (m : (ℓ : Loc Cert.NormWide.nD Cert.NormWide.τ Cert.NormWide.sig) → Buf (Elt Bits) ℓ) : Prop :=
  True

def Pre_NormWideIdeal (m : (ℓ : Loc Cert.NormWideIdeal.nD Cert.NormWideIdeal.τ Cert.NormWideIdeal.sig) → Buf (Elt Ideal) ℓ) : Prop :=
  True

def Pre_NormWideRefIdeal (m : (ℓ : Loc Cert.NormWideRefIdeal.nD Cert.NormWideRefIdeal.τ Cert.NormWideRefIdeal.sig) → Buf (Elt Ideal) ℓ) : Prop :=
  True

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearRefIdeal (m : (ℓ : Loc Cert.LinearRefIdeal.nD Cert.LinearRefIdeal.τ Cert.LinearRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormWide [hNormWide : Cert.NormWide.Facts] : Prop :=
  ∀ (m : (ℓ : Loc Cert.NormWide.nD Cert.NormWide.τ Cert.NormWide.sig) → Buf (Elt Bits) ℓ) (g : Dev Cert.NormWide.nD → PrngReg), Pre_NormWide m →
    θ_run (Cert.NormWide.defs (F := Bits)) (onTc (τ := Cert.NormWide.τ) (Cert.NormWide.main (F := Bits))) ⟨m, fun _ => 0, g⟩ (fun r => (∀ c : Dev Cert.NormWide.nD,
      r.2.mem ((c.tc : Thread Cert.NormWide.nD Cert.NormWide.τ).loc Cert.NormWide.main_arg0) = m ((c.tc : Thread Cert.NormWide.nD Cert.NormWide.τ).loc Cert.NormWide.main_arg0)
      ∧ r.2.mem ((c.tc : Thread Cert.NormWide.nD Cert.NormWide.τ).loc Cert.NormWide.main_arg1) = m ((c.tc : Thread Cert.NormWide.nD Cert.NormWide.τ).loc Cert.NormWide.main_arg1)
      ∧ r.2.mem ((c.tc : Thread Cert.NormWide.nD Cert.NormWide.τ).loc Cert.NormWide.main_arg2) = m ((c.tc : Thread Cert.NormWide.nD Cert.NormWide.τ).loc Cert.NormWide.main_arg2)
      ∧ r.2.mem ((c.tc : Thread Cert.NormWide.nD Cert.NormWide.τ).loc Cert.NormWide.main_arg3) = m ((c.tc : Thread Cert.NormWide.nD Cert.NormWide.τ).loc Cert.NormWide.main_arg3)
      ∧ r.2.mem ((c.tc : Thread Cert.NormWide.nD Cert.NormWide.τ).loc Cert.NormWide.main_arg4) = m ((c.tc : Thread Cert.NormWide.nD Cert.NormWide.τ).loc Cert.NormWide.main_arg4)
      ∧ r.2.mem ((c.tc : Thread Cert.NormWide.nD Cert.NormWide.τ).loc Cert.NormWide.main_arg5) = m ((c.tc : Thread Cert.NormWide.nD Cert.NormWide.τ).loc Cert.NormWide.main_arg5)
      ∧ r.2.mem ((c.tc : Thread Cert.NormWide.nD Cert.NormWide.τ).loc Cert.NormWide.main_arg6) = m ((c.tc : Thread Cert.NormWide.nD Cert.NormWide.τ).loc Cert.NormWide.main_arg6))
      ∧ r.2.sem = fun _ => 0)

def quiescent_NormWideIdeal [hNormWideIdeal : Cert.NormWideIdeal.Facts] : Prop :=
  ∀ (m : (ℓ : Loc Cert.NormWideIdeal.nD Cert.NormWideIdeal.τ Cert.NormWideIdeal.sig) → Buf (Elt Ideal) ℓ) (g : Dev Cert.NormWideIdeal.nD → PrngReg), Pre_NormWideIdeal m →
    θ_run (Cert.NormWideIdeal.defs (F := Ideal)) (onTc (τ := Cert.NormWideIdeal.τ) (Cert.NormWideIdeal.main (F := Ideal))) ⟨m, fun _ => 0, g⟩ (fun r => (∀ c : Dev Cert.NormWideIdeal.nD,
      r.2.mem ((c.tc : Thread Cert.NormWideIdeal.nD Cert.NormWideIdeal.τ).loc Cert.NormWideIdeal.main_arg0) = m ((c.tc : Thread Cert.NormWideIdeal.nD Cert.NormWideIdeal.τ).loc Cert.NormWideIdeal.main_arg0)
      ∧ r.2.mem ((c.tc : Thread Cert.NormWideIdeal.nD Cert.NormWideIdeal.τ).loc Cert.NormWideIdeal.main_arg1) = m ((c.tc : Thread Cert.NormWideIdeal.nD Cert.NormWideIdeal.τ).loc Cert.NormWideIdeal.main_arg1)
      ∧ r.2.mem ((c.tc : Thread Cert.NormWideIdeal.nD Cert.NormWideIdeal.τ).loc Cert.NormWideIdeal.main_arg2) = m ((c.tc : Thread Cert.NormWideIdeal.nD Cert.NormWideIdeal.τ).loc Cert.NormWideIdeal.main_arg2)
      ∧ r.2.mem ((c.tc : Thread Cert.NormWideIdeal.nD Cert.NormWideIdeal.τ).loc Cert.NormWideIdeal.main_arg3) = m ((c.tc : Thread Cert.NormWideIdeal.nD Cert.NormWideIdeal.τ).loc Cert.NormWideIdeal.main_arg3)
      ∧ r.2.mem ((c.tc : Thread Cert.NormWideIdeal.nD Cert.NormWideIdeal.τ).loc Cert.NormWideIdeal.main_arg4) = m ((c.tc : Thread Cert.NormWideIdeal.nD Cert.NormWideIdeal.τ).loc Cert.NormWideIdeal.main_arg4)
      ∧ r.2.mem ((c.tc : Thread Cert.NormWideIdeal.nD Cert.NormWideIdeal.τ).loc Cert.NormWideIdeal.main_arg5) = m ((c.tc : Thread Cert.NormWideIdeal.nD Cert.NormWideIdeal.τ).loc Cert.NormWideIdeal.main_arg5)
      ∧ r.2.mem ((c.tc : Thread Cert.NormWideIdeal.nD Cert.NormWideIdeal.τ).loc Cert.NormWideIdeal.main_arg6) = m ((c.tc : Thread Cert.NormWideIdeal.nD Cert.NormWideIdeal.τ).loc Cert.NormWideIdeal.main_arg6))
      ∧ r.2.sem = fun _ => 0)

def quiescent_NormWideRefIdeal [hNormWideRefIdeal : Cert.NormWideRefIdeal.Facts] : Prop :=
  ∀ (m : (ℓ : Loc Cert.NormWideRefIdeal.nD Cert.NormWideRefIdeal.τ Cert.NormWideRefIdeal.sig) → Buf (Elt Ideal) ℓ) (g : Dev Cert.NormWideRefIdeal.nD → PrngReg), Pre_NormWideRefIdeal m →
    θ_run (Cert.NormWideRefIdeal.defs (F := Ideal)) (onTc (τ := Cert.NormWideRefIdeal.τ) (Cert.NormWideRefIdeal.main (F := Ideal))) ⟨m, fun _ => 0, g⟩ (fun r => (∀ c : Dev Cert.NormWideRefIdeal.nD,
      r.2.mem ((c.tc : Thread Cert.NormWideRefIdeal.nD Cert.NormWideRefIdeal.τ).loc Cert.NormWideRefIdeal.main_arg0) = m ((c.tc : Thread Cert.NormWideRefIdeal.nD Cert.NormWideRefIdeal.τ).loc Cert.NormWideRefIdeal.main_arg0)
      ∧ r.2.mem ((c.tc : Thread Cert.NormWideRefIdeal.nD Cert.NormWideRefIdeal.τ).loc Cert.NormWideRefIdeal.main_arg1) = m ((c.tc : Thread Cert.NormWideRefIdeal.nD Cert.NormWideRefIdeal.τ).loc Cert.NormWideRefIdeal.main_arg1)
      ∧ r.2.mem ((c.tc : Thread Cert.NormWideRefIdeal.nD Cert.NormWideRefIdeal.τ).loc Cert.NormWideRefIdeal.main_arg2) = m ((c.tc : Thread Cert.NormWideRefIdeal.nD Cert.NormWideRefIdeal.τ).loc Cert.NormWideRefIdeal.main_arg2)
      ∧ r.2.mem ((c.tc : Thread Cert.NormWideRefIdeal.nD Cert.NormWideRefIdeal.τ).loc Cert.NormWideRefIdeal.main_arg3) = m ((c.tc : Thread Cert.NormWideRefIdeal.nD Cert.NormWideRefIdeal.τ).loc Cert.NormWideRefIdeal.main_arg3)
      ∧ r.2.mem ((c.tc : Thread Cert.NormWideRefIdeal.nD Cert.NormWideRefIdeal.τ).loc Cert.NormWideRefIdeal.main_arg4) = m ((c.tc : Thread Cert.NormWideRefIdeal.nD Cert.NormWideRefIdeal.τ).loc Cert.NormWideRefIdeal.main_arg4)
      ∧ r.2.mem ((c.tc : Thread Cert.NormWideRefIdeal.nD Cert.NormWideRefIdeal.τ).loc Cert.NormWideRefIdeal.main_arg5) = m ((c.tc : Thread Cert.NormWideRefIdeal.nD Cert.NormWideRefIdeal.τ).loc Cert.NormWideRefIdeal.main_arg5)
      ∧ r.2.mem ((c.tc : Thread Cert.NormWideRefIdeal.nD Cert.NormWideRefIdeal.τ).loc Cert.NormWideRefIdeal.main_arg6) = m ((c.tc : Thread Cert.NormWideRefIdeal.nD Cert.NormWideRefIdeal.τ).loc Cert.NormWideRefIdeal.main_arg6))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3)
      ∧ r.2.mem ((c.tc : Thread Cert.Linear.nD Cert.Linear.τ).loc Cert.Linear.main_arg4) = m ((c.tc : Thread Cert.Linear.nD Cert.Linear.τ).loc Cert.Linear.main_arg4)
      ∧ r.2.mem ((c.tc : Thread Cert.Linear.nD Cert.Linear.τ).loc Cert.Linear.main_arg5) = m ((c.tc : Thread Cert.Linear.nD Cert.Linear.τ).loc Cert.Linear.main_arg5)
      ∧ r.2.mem ((c.tc : Thread Cert.Linear.nD Cert.Linear.τ).loc Cert.Linear.main_arg6) = m ((c.tc : Thread Cert.Linear.nD Cert.Linear.τ).loc Cert.Linear.main_arg6)
      ∧ r.2.mem ((c.tc : Thread Cert.Linear.nD Cert.Linear.τ).loc Cert.Linear.main_arg7) = m ((c.tc : Thread Cert.Linear.nD Cert.Linear.τ).loc Cert.Linear.main_arg7)
      ∧ r.2.mem ((c.tc : Thread Cert.Linear.nD Cert.Linear.τ).loc Cert.Linear.main_arg8) = m ((c.tc : Thread Cert.Linear.nD Cert.Linear.τ).loc Cert.Linear.main_arg8))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
      ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
      ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
      ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7)
      ∧ r.2.mem ((c.tc : Thread Cert.LinearIdeal.nD Cert.LinearIdeal.τ).loc Cert.LinearIdeal.main_arg8) = m ((c.tc : Thread Cert.LinearIdeal.nD Cert.LinearIdeal.τ).loc Cert.LinearIdeal.main_arg8))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2)
      ∧ r.2.mem ((c.tc : Thread Cert.LinearRefIdeal.nD Cert.LinearRefIdeal.τ).loc Cert.LinearRefIdeal.main_arg3) = m ((c.tc : Thread Cert.LinearRefIdeal.nD Cert.LinearRefIdeal.τ).loc Cert.LinearRefIdeal.main_arg3)
      ∧ r.2.mem ((c.tc : Thread Cert.LinearRefIdeal.nD Cert.LinearRefIdeal.τ).loc Cert.LinearRefIdeal.main_arg4) = m ((c.tc : Thread Cert.LinearRefIdeal.nD Cert.LinearRefIdeal.τ).loc Cert.LinearRefIdeal.main_arg4)
      ∧ r.2.mem ((c.tc : Thread Cert.LinearRefIdeal.nD Cert.LinearRefIdeal.τ).loc Cert.LinearRefIdeal.main_arg5) = m ((c.tc : Thread Cert.LinearRefIdeal.nD Cert.LinearRefIdeal.τ).loc Cert.LinearRefIdeal.main_arg5)
      ∧ r.2.mem ((c.tc : Thread Cert.LinearRefIdeal.nD Cert.LinearRefIdeal.τ).loc Cert.LinearRefIdeal.main_arg6) = m ((c.tc : Thread Cert.LinearRefIdeal.nD Cert.LinearRefIdeal.τ).loc Cert.LinearRefIdeal.main_arg6)
      ∧ r.2.mem ((c.tc : Thread Cert.LinearRefIdeal.nD Cert.LinearRefIdeal.τ).loc Cert.LinearRefIdeal.main_arg7) = m ((c.tc : Thread Cert.LinearRefIdeal.nD Cert.LinearRefIdeal.τ).loc Cert.LinearRefIdeal.main_arg7)
      ∧ r.2.mem ((c.tc : Thread Cert.LinearRefIdeal.nD Cert.LinearRefIdeal.τ).loc Cert.LinearRefIdeal.main_arg8) = m ((c.tc : Thread Cert.LinearRefIdeal.nD Cert.LinearRefIdeal.τ).loc Cert.LinearRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v9_0)) (v1 : (c : Dev Cert.MlpIdeal.nD) → Buf (Elt Ideal) ((c.tc : Thread Cert.MlpIdeal.nD Cert.MlpIdeal.τ).loc Cert.MlpIdeal.main_v12)) (v2 : (c : Dev Cert.MlpIdeal.nD) → Buf (Elt Ideal) ((c.tc : Thread Cert.MlpIdeal.nD Cert.MlpIdeal.τ).loc Cert.MlpIdeal.main_v13)) (v3 : (c : Dev Cert.MlpIdeal.nD) → Buf (Elt Ideal) ((c.tc : Thread Cert.MlpIdeal.nD Cert.MlpIdeal.τ).loc Cert.MlpIdeal.main_v11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9_0) = v0 c
          ∧ r.2.mem ((c.tc : Thread Cert.MlpIdeal.nD Cert.MlpIdeal.τ).loc Cert.MlpIdeal.main_v12) = v1 c
          ∧ r.2.mem ((c.tc : Thread Cert.MlpIdeal.nD Cert.MlpIdeal.τ).loc Cert.MlpIdeal.main_v13) = v2 c
          ∧ r.2.mem ((c.tc : Thread Cert.MlpIdeal.nD Cert.MlpIdeal.τ).loc Cert.MlpIdeal.main_v11) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v11) = v0 c
          ∧ r.2.mem ((c.tc : Thread Cert.MlpRefIdeal.nD Cert.MlpRefIdeal.τ).loc Cert.MlpRefIdeal.main_v27) = v1 c
          ∧ r.2.mem ((c.tc : Thread Cert.MlpRefIdeal.nD Cert.MlpRefIdeal.τ).loc Cert.MlpRefIdeal.main_v28) = v2 c
          ∧ r.2.mem ((c.tc : Thread Cert.MlpRefIdeal.nD Cert.MlpRefIdeal.τ).loc Cert.MlpRefIdeal.main_v29) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v3) = v0 c
          ∧ r.2.mem ((c.tc : Thread Cert.NormRefIdeal.nD Cert.NormRefIdeal.τ).loc Cert.NormRefIdeal.main_v22) = v1 c
          ∧ r.2.mem ((c.tc : Thread Cert.NormRefIdeal.nD Cert.NormRefIdeal.τ).loc Cert.NormRefIdeal.main_v23) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_NormWide_NormWideIdeal : Prop :=
  True

def algebraic_NormWideIdeal_NormWideRefIdeal [hNormWideIdeal : Cert.NormWideIdeal.Facts] [hNormWideRefIdeal : Cert.NormWideRefIdeal.Facts] : Prop :=
  ∀ (m : (ℓ : Loc Cert.NormWideIdeal.nD Cert.NormWideIdeal.τ Cert.NormWideIdeal.sig) → Buf (Elt Ideal) ℓ) (g : Dev Cert.NormWideIdeal.nD → PrngReg)
    (m' : (ℓ : Loc Cert.NormWideRefIdeal.nD Cert.NormWideRefIdeal.τ Cert.NormWideRefIdeal.sig) → Buf (Elt Ideal) ℓ) (g' : Dev Cert.NormWideRefIdeal.nD → PrngReg), Pre_NormWideIdeal m →
    (∀ c : Dev Cert.NormWideIdeal.nD,
      m' ((c.tc : Thread Cert.NormWideRefIdeal.nD Cert.NormWideRefIdeal.τ).loc Cert.NormWideRefIdeal.main_arg0) = m ((c.tc : Thread Cert.NormWideIdeal.nD Cert.NormWideIdeal.τ).loc Cert.NormWideIdeal.main_arg0)
      ∧ m' ((c.tc : Thread Cert.NormWideRefIdeal.nD Cert.NormWideRefIdeal.τ).loc Cert.NormWideRefIdeal.main_arg1) = m ((c.tc : Thread Cert.NormWideIdeal.nD Cert.NormWideIdeal.τ).loc Cert.NormWideIdeal.main_arg1)
      ∧ m' ((c.tc : Thread Cert.NormWideRefIdeal.nD Cert.NormWideRefIdeal.τ).loc Cert.NormWideRefIdeal.main_arg2) = m ((c.tc : Thread Cert.NormWideIdeal.nD Cert.NormWideIdeal.τ).loc Cert.NormWideIdeal.main_arg2)
      ∧ m' ((c.tc : Thread Cert.NormWideRefIdeal.nD Cert.NormWideRefIdeal.τ).loc Cert.NormWideRefIdeal.main_arg3) = m ((c.tc : Thread Cert.NormWideIdeal.nD Cert.NormWideIdeal.τ).loc Cert.NormWideIdeal.main_arg3)
      ∧ m' ((c.tc : Thread Cert.NormWideRefIdeal.nD Cert.NormWideRefIdeal.τ).loc Cert.NormWideRefIdeal.main_arg4) = m ((c.tc : Thread Cert.NormWideIdeal.nD Cert.NormWideIdeal.τ).loc Cert.NormWideIdeal.main_arg4)
      ∧ m' ((c.tc : Thread Cert.NormWideRefIdeal.nD Cert.NormWideRefIdeal.τ).loc Cert.NormWideRefIdeal.main_arg5) = m ((c.tc : Thread Cert.NormWideIdeal.nD Cert.NormWideIdeal.τ).loc Cert.NormWideIdeal.main_arg5)
      ∧ m' ((c.tc : Thread Cert.NormWideRefIdeal.nD Cert.NormWideRefIdeal.τ).loc Cert.NormWideRefIdeal.main_arg6) = m ((c.tc : Thread Cert.NormWideIdeal.nD Cert.NormWideIdeal.τ).loc Cert.NormWideIdeal.main_arg6)) →
    ∃ (v0 : (c : Dev Cert.NormWideIdeal.nD) → Buf (Elt Ideal) ((c.tc : Thread Cert.NormWideIdeal.nD Cert.NormWideIdeal.τ).loc Cert.NormWideIdeal.main_v2_0)) (v1 : (c : Dev Cert.NormWideIdeal.nD) → Buf (Elt Ideal) ((c.tc : Thread Cert.NormWideIdeal.nD Cert.NormWideIdeal.τ).loc Cert.NormWideIdeal.main_v2_1)) (v2 : (c : Dev Cert.NormWideIdeal.nD) → Buf (Elt Ideal) ((c.tc : Thread Cert.NormWideIdeal.nD Cert.NormWideIdeal.τ).loc Cert.NormWideIdeal.main_v2_2)),
      θ_run (Cert.NormWideIdeal.defs (F := Ideal)) (onTc (τ := Cert.NormWideIdeal.τ) (Cert.NormWideIdeal.main (F := Ideal))) ⟨m, fun _ => 0, g⟩ (fun r => ∀ c : Dev Cert.NormWideIdeal.nD,
          r.2.mem ((c.tc : Thread Cert.NormWideIdeal.nD Cert.NormWideIdeal.τ).loc Cert.NormWideIdeal.main_v2_0) = v0 c
          ∧ r.2.mem ((c.tc : Thread Cert.NormWideIdeal.nD Cert.NormWideIdeal.τ).loc Cert.NormWideIdeal.main_v2_1) = v1 c
          ∧ r.2.mem ((c.tc : Thread Cert.NormWideIdeal.nD Cert.NormWideIdeal.τ).loc Cert.NormWideIdeal.main_v2_2) = v2 c
          ∧ r.2.mem ((c.tc : Thread Cert.NormWideIdeal.nD Cert.NormWideIdeal.τ).loc Cert.NormWideIdeal.main_arg0) = m ((c.tc : Thread Cert.NormWideIdeal.nD Cert.NormWideIdeal.τ).loc Cert.NormWideIdeal.main_arg0)
          ∧ r.2.mem ((c.tc : Thread Cert.NormWideIdeal.nD Cert.NormWideIdeal.τ).loc Cert.NormWideIdeal.main_arg1) = m ((c.tc : Thread Cert.NormWideIdeal.nD Cert.NormWideIdeal.τ).loc Cert.NormWideIdeal.main_arg1)
          ∧ r.2.mem ((c.tc : Thread Cert.NormWideIdeal.nD Cert.NormWideIdeal.τ).loc Cert.NormWideIdeal.main_arg2) = m ((c.tc : Thread Cert.NormWideIdeal.nD Cert.NormWideIdeal.τ).loc Cert.NormWideIdeal.main_arg2)
          ∧ r.2.mem ((c.tc : Thread Cert.NormWideIdeal.nD Cert.NormWideIdeal.τ).loc Cert.NormWideIdeal.main_arg3) = m ((c.tc : Thread Cert.NormWideIdeal.nD Cert.NormWideIdeal.τ).loc Cert.NormWideIdeal.main_arg3)
          ∧ r.2.mem ((c.tc : Thread Cert.NormWideIdeal.nD Cert.NormWideIdeal.τ).loc Cert.NormWideIdeal.main_arg4) = m ((c.tc : Thread Cert.NormWideIdeal.nD Cert.NormWideIdeal.τ).loc Cert.NormWideIdeal.main_arg4)
          ∧ r.2.mem ((c.tc : Thread Cert.NormWideIdeal.nD Cert.NormWideIdeal.τ).loc Cert.NormWideIdeal.main_arg5) = m ((c.tc : Thread Cert.NormWideIdeal.nD Cert.NormWideIdeal.τ).loc Cert.NormWideIdeal.main_arg5)
          ∧ r.2.mem ((c.tc : Thread Cert.NormWideIdeal.nD Cert.NormWideIdeal.τ).loc Cert.NormWideIdeal.main_arg6) = m ((c.tc : Thread Cert.NormWideIdeal.nD Cert.NormWideIdeal.τ).loc Cert.NormWideIdeal.main_arg6))
      ∧ θ_run (Cert.NormWideRefIdeal.defs (F := Ideal)) (onTc (τ := Cert.NormWideRefIdeal.τ) (Cert.NormWideRefIdeal.main (F := Ideal))) ⟨m', fun _ => 0, g'⟩ (fun r => ∀ c : Dev Cert.NormWideRefIdeal.nD,
          r.2.mem ((c.tc : Thread Cert.NormWideRefIdeal.nD Cert.NormWideRefIdeal.τ).loc Cert.NormWideRefIdeal.main_v3) = v0 c
          ∧ r.2.mem ((c.tc : Thread Cert.NormWideRefIdeal.nD Cert.NormWideRefIdeal.τ).loc Cert.NormWideRefIdeal.main_v22) = v1 c
          ∧ r.2.mem ((c.tc : Thread Cert.NormWideRefIdeal.nD Cert.NormWideRefIdeal.τ).loc Cert.NormWideRefIdeal.main_v21) = v2 c
          ∧ r.2.mem ((c.tc : Thread Cert.NormWideRefIdeal.nD Cert.NormWideRefIdeal.τ).loc Cert.NormWideRefIdeal.main_arg0) = m' ((c.tc : Thread Cert.NormWideRefIdeal.nD Cert.NormWideRefIdeal.τ).loc Cert.NormWideRefIdeal.main_arg0)
          ∧ r.2.mem ((c.tc : Thread Cert.NormWideRefIdeal.nD Cert.NormWideRefIdeal.τ).loc Cert.NormWideRefIdeal.main_arg1) = m' ((c.tc : Thread Cert.NormWideRefIdeal.nD Cert.NormWideRefIdeal.τ).loc Cert.NormWideRefIdeal.main_arg1)
          ∧ r.2.mem ((c.tc : Thread Cert.NormWideRefIdeal.nD Cert.NormWideRefIdeal.τ).loc Cert.NormWideRefIdeal.main_arg2) = m' ((c.tc : Thread Cert.NormWideRefIdeal.nD Cert.NormWideRefIdeal.τ).loc Cert.NormWideRefIdeal.main_arg2)
          ∧ r.2.mem ((c.tc : Thread Cert.NormWideRefIdeal.nD Cert.NormWideRefIdeal.τ).loc Cert.NormWideRefIdeal.main_arg3) = m' ((c.tc : Thread Cert.NormWideRefIdeal.nD Cert.NormWideRefIdeal.τ).loc Cert.NormWideRefIdeal.main_arg3)
          ∧ r.2.mem ((c.tc : Thread Cert.NormWideRefIdeal.nD Cert.NormWideRefIdeal.τ).loc Cert.NormWideRefIdeal.main_arg4) = m' ((c.tc : Thread Cert.NormWideRefIdeal.nD Cert.NormWideRefIdeal.τ).loc Cert.NormWideRefIdeal.main_arg4)
          ∧ r.2.mem ((c.tc : Thread Cert.NormWideRefIdeal.nD Cert.NormWideRefIdeal.τ).loc Cert.NormWideRefIdeal.main_arg5) = m' ((c.tc : Thread Cert.NormWideRefIdeal.nD Cert.NormWideRefIdeal.τ).loc Cert.NormWideRefIdeal.main_arg5)
          ∧ r.2.mem ((c.tc : Thread Cert.NormWideRefIdeal.nD Cert.NormWideRefIdeal.τ).loc Cert.NormWideRefIdeal.main_arg6) = m' ((c.tc : Thread Cert.NormWideRefIdeal.nD Cert.NormWideRefIdeal.τ).loc Cert.NormWideRefIdeal.main_arg6))

def preserves_Linear_LinearIdeal : Prop :=
  True

def algebraic_LinearIdeal_LinearRefIdeal [hLinearIdeal : Cert.LinearIdeal.Facts] [hLinearRefIdeal : Cert.LinearRefIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)
      ∧ m' ((c.tc : Thread Cert.LinearRefIdeal.nD Cert.LinearRefIdeal.τ).loc Cert.LinearRefIdeal.main_arg2) = m ((c.tc : Thread Cert.LinearIdeal.nD Cert.LinearIdeal.τ).loc Cert.LinearIdeal.main_arg2)
      ∧ m' ((c.tc : Thread Cert.LinearRefIdeal.nD Cert.LinearRefIdeal.τ).loc Cert.LinearRefIdeal.main_arg3) = m ((c.tc : Thread Cert.LinearIdeal.nD Cert.LinearIdeal.τ).loc Cert.LinearIdeal.main_arg3)
      ∧ m' ((c.tc : Thread Cert.LinearRefIdeal.nD Cert.LinearRefIdeal.τ).loc Cert.LinearRefIdeal.main_arg4) = m ((c.tc : Thread Cert.LinearIdeal.nD Cert.LinearIdeal.τ).loc Cert.LinearIdeal.main_arg4)
      ∧ m' ((c.tc : Thread Cert.LinearRefIdeal.nD Cert.LinearRefIdeal.τ).loc Cert.LinearRefIdeal.main_arg5) = m ((c.tc : Thread Cert.LinearIdeal.nD Cert.LinearIdeal.τ).loc Cert.LinearIdeal.main_arg5)
      ∧ m' ((c.tc : Thread Cert.LinearRefIdeal.nD Cert.LinearRefIdeal.τ).loc Cert.LinearRefIdeal.main_arg6) = m ((c.tc : Thread Cert.LinearIdeal.nD Cert.LinearIdeal.τ).loc Cert.LinearIdeal.main_arg6)
      ∧ m' ((c.tc : Thread Cert.LinearRefIdeal.nD Cert.LinearRefIdeal.τ).loc Cert.LinearRefIdeal.main_arg7) = m ((c.tc : Thread Cert.LinearIdeal.nD Cert.LinearIdeal.τ).loc Cert.LinearIdeal.main_arg7)
      ∧ m' ((c.tc : Thread Cert.LinearRefIdeal.nD Cert.LinearRefIdeal.τ).loc Cert.LinearRefIdeal.main_arg8) = m ((c.tc : Thread Cert.LinearIdeal.nD Cert.LinearIdeal.τ).loc Cert.LinearIdeal.main_arg8)) →
    ∃ (v0 : (c : Dev Cert.LinearIdeal.nD) → Buf (Elt Ideal) ((c.tc : Thread Cert.LinearIdeal.nD Cert.LinearIdeal.τ).loc Cert.LinearIdeal.main_v9)) (v1 : (c : Dev Cert.LinearIdeal.nD) → Buf (Elt Ideal) ((c.tc : Thread Cert.LinearIdeal.nD Cert.LinearIdeal.τ).loc Cert.LinearIdeal.main_v10)) (v2 : (c : Dev Cert.LinearIdeal.nD) → Buf (Elt Ideal) ((c.tc : Thread Cert.LinearIdeal.nD Cert.LinearIdeal.τ).loc Cert.LinearIdeal.main_v11)) (v3 : (c : Dev Cert.LinearIdeal.nD) → Buf (Elt Ideal) ((c.tc : Thread Cert.LinearIdeal.nD Cert.LinearIdeal.τ).loc Cert.LinearIdeal.main_v12)) (v4 : (c : Dev Cert.LinearIdeal.nD) → Buf (Elt Ideal) ((c.tc : Thread Cert.LinearIdeal.nD Cert.LinearIdeal.τ).loc Cert.LinearIdeal.main_v13)) (v5 : (c : Dev Cert.LinearIdeal.nD) → Buf (Elt Ideal) ((c.tc : Thread Cert.LinearIdeal.nD Cert.LinearIdeal.τ).loc Cert.LinearIdeal.main_v14)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v9) = v0 c
          ∧ r.2.mem ((c.tc : Thread Cert.LinearIdeal.nD Cert.LinearIdeal.τ).loc Cert.LinearIdeal.main_v10) = v1 c
          ∧ r.2.mem ((c.tc : Thread Cert.LinearIdeal.nD Cert.LinearIdeal.τ).loc Cert.LinearIdeal.main_v11) = v2 c
          ∧ r.2.mem ((c.tc : Thread Cert.LinearIdeal.nD Cert.LinearIdeal.τ).loc Cert.LinearIdeal.main_v12) = v3 c
          ∧ r.2.mem ((c.tc : Thread Cert.LinearIdeal.nD Cert.LinearIdeal.τ).loc Cert.LinearIdeal.main_v13) = v4 c
          ∧ r.2.mem ((c.tc : Thread Cert.LinearIdeal.nD Cert.LinearIdeal.τ).loc Cert.LinearIdeal.main_v14) = v5 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
          ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
          ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
          ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7)
          ∧ r.2.mem ((c.tc : Thread Cert.LinearIdeal.nD Cert.LinearIdeal.τ).loc Cert.LinearIdeal.main_arg8) = m ((c.tc : Thread Cert.LinearIdeal.nD Cert.LinearIdeal.τ).loc Cert.LinearIdeal.main_arg8))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v12) = v0 c
          ∧ r.2.mem ((c.tc : Thread Cert.LinearRefIdeal.nD Cert.LinearRefIdeal.τ).loc Cert.LinearRefIdeal.main_v13) = v1 c
          ∧ r.2.mem ((c.tc : Thread Cert.LinearRefIdeal.nD Cert.LinearRefIdeal.τ).loc Cert.LinearRefIdeal.main_v14) = v2 c
          ∧ r.2.mem ((c.tc : Thread Cert.LinearRefIdeal.nD Cert.LinearRefIdeal.τ).loc Cert.LinearRefIdeal.main_v15) = v3 c
          ∧ r.2.mem ((c.tc : Thread Cert.LinearRefIdeal.nD Cert.LinearRefIdeal.τ).loc Cert.LinearRefIdeal.main_v16) = v4 c
          ∧ r.2.mem ((c.tc : Thread Cert.LinearRefIdeal.nD Cert.LinearRefIdeal.τ).loc Cert.LinearRefIdeal.main_v17) = v5 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1)
          ∧ r.2.mem ((c.tc : Thread Cert.LinearRefIdeal.nD Cert.LinearRefIdeal.τ).loc Cert.LinearRefIdeal.main_arg2) = m' ((c.tc : Thread Cert.LinearRefIdeal.nD Cert.LinearRefIdeal.τ).loc Cert.LinearRefIdeal.main_arg2)
          ∧ r.2.mem ((c.tc : Thread Cert.LinearRefIdeal.nD Cert.LinearRefIdeal.τ).loc Cert.LinearRefIdeal.main_arg3) = m' ((c.tc : Thread Cert.LinearRefIdeal.nD Cert.LinearRefIdeal.τ).loc Cert.LinearRefIdeal.main_arg3)
          ∧ r.2.mem ((c.tc : Thread Cert.LinearRefIdeal.nD Cert.LinearRefIdeal.τ).loc Cert.LinearRefIdeal.main_arg4) = m' ((c.tc : Thread Cert.LinearRefIdeal.nD Cert.LinearRefIdeal.τ).loc Cert.LinearRefIdeal.main_arg4)
          ∧ r.2.mem ((c.tc : Thread Cert.LinearRefIdeal.nD Cert.LinearRefIdeal.τ).loc Cert.LinearRefIdeal.main_arg5) = m' ((c.tc : Thread Cert.LinearRefIdeal.nD Cert.LinearRefIdeal.τ).loc Cert.LinearRefIdeal.main_arg5)
          ∧ r.2.mem ((c.tc : Thread Cert.LinearRefIdeal.nD Cert.LinearRefIdeal.τ).loc Cert.LinearRefIdeal.main_arg6) = m' ((c.tc : Thread Cert.LinearRefIdeal.nD Cert.LinearRefIdeal.τ).loc Cert.LinearRefIdeal.main_arg6)
          ∧ r.2.mem ((c.tc : Thread Cert.LinearRefIdeal.nD Cert.LinearRefIdeal.τ).loc Cert.LinearRefIdeal.main_arg7) = m' ((c.tc : Thread Cert.LinearRefIdeal.nD Cert.LinearRefIdeal.τ).loc Cert.LinearRefIdeal.main_arg7)
          ∧ r.2.mem ((c.tc : Thread Cert.LinearRefIdeal.nD Cert.LinearRefIdeal.τ).loc Cert.LinearRefIdeal.main_arg8) = m' ((c.tc : Thread Cert.LinearRefIdeal.nD Cert.LinearRefIdeal.τ).loc Cert.LinearRefIdeal.main_arg8))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v51)) (v1 : (c : Dev Cert.AttnIdeal.nD) → Buf (Elt Ideal) ((c.tc : Thread Cert.AttnIdeal.nD Cert.AttnIdeal.τ).loc Cert.AttnIdeal.main_v47_1)) (v2 : (c : Dev Cert.AttnIdeal.nD) → Buf (Elt Ideal) ((c.tc : Thread Cert.AttnIdeal.nD Cert.AttnIdeal.τ).loc Cert.AttnIdeal.main_v47_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v51) = v0 c
          ∧ r.2.mem ((c.tc : Thread Cert.AttnIdeal.nD Cert.AttnIdeal.τ).loc Cert.AttnIdeal.main_v47_1) = v1 c
          ∧ r.2.mem ((c.tc : Thread Cert.AttnIdeal.nD Cert.AttnIdeal.τ).loc Cert.AttnIdeal.main_v47_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_v77) = v1 c
          ∧ r.2.mem ((c.tc : Thread Cert.AttnRefIdeal.nD Cert.AttnRefIdeal.τ).loc Cert.AttnRefIdeal.main_v78) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hMlp : Cert.Mlp.Facts) (hMlpIdeal : Cert.MlpIdeal.Facts) (hMlpRefIdeal : Cert.MlpRefIdeal.Facts) (hNorm : Cert.Norm.Facts) (hNormIdeal : Cert.NormIdeal.Facts) (hNormRefIdeal : Cert.NormRefIdeal.Facts) (hNormWide : Cert.NormWide.Facts) (hNormWideIdeal : Cert.NormWideIdeal.Facts) (hNormWideRefIdeal : Cert.NormWideRefIdeal.Facts) (hLinear : Cert.Linear.Facts) (hLinearIdeal : Cert.LinearIdeal.Facts) (hLinearRefIdeal : Cert.LinearRefIdeal.Facts) (hAttn : Cert.Attn.Facts) (hAttnIdeal : Cert.AttnIdeal.Facts) (hAttnRefIdeal : Cert.AttnRefIdeal.Facts) (hPre_finite_inputs : Cert.Pre_finite_inputs.Facts),
    quiescent_Mlp (hMlp := hMlp)
    ∧ quiescent_MlpIdeal (hMlpIdeal := hMlpIdeal)
    ∧ quiescent_MlpRefIdeal (hMlpRefIdeal := hMlpRefIdeal)
    ∧ quiescent_Norm (hNorm := hNorm)
    ∧ quiescent_NormIdeal (hNormIdeal := hNormIdeal)
    ∧ quiescent_NormRefIdeal (hNormRefIdeal := hNormRefIdeal)
    ∧ quiescent_NormWide (hNormWide := hNormWide)
    ∧ quiescent_NormWideIdeal (hNormWideIdeal := hNormWideIdeal)
    ∧ quiescent_NormWideRefIdeal (hNormWideRefIdeal := hNormWideRefIdeal)
    ∧ quiescent_Linear (hLinear := hLinear)
    ∧ quiescent_LinearIdeal (hLinearIdeal := hLinearIdeal)
    ∧ quiescent_LinearRefIdeal (hLinearRefIdeal := hLinearRefIdeal)
    ∧ quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ preserves_Mlp_MlpIdeal
    ∧ algebraic_MlpIdeal_MlpRefIdeal (hMlpIdeal := hMlpIdeal) (hMlpRefIdeal := hMlpRefIdeal)
    ∧ preserves_Norm_NormIdeal
    ∧ algebraic_NormIdeal_NormRefIdeal (hNormIdeal := hNormIdeal) (hNormRefIdeal := hNormRefIdeal)
    ∧ preserves_NormWide_NormWideIdeal
    ∧ algebraic_NormWideIdeal_NormWideRefIdeal (hNormWideIdeal := hNormWideIdeal) (hNormWideRefIdeal := hNormWideRefIdeal)
    ∧ preserves_Linear_LinearIdeal
    ∧ algebraic_LinearIdeal_LinearRefIdeal (hLinearIdeal := hLinearIdeal) (hLinearRefIdeal := hLinearRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x2048 .f32) (main_arg3 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Mlp.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S2048x256 : Shape := ⟨2, ![2048, 256]⟩
abbrev S512x4096 : Shape := ⟨2, ![512, 4096]⟩
abbrev S512x1024 : Shape := ⟨2, ![512, 1024]⟩
abbrev S1024x1024 : Shape := ⟨2, ![1024, 1024]⟩
abbrev S256x1024 : Shape := ⟨2, ![256, 1024]⟩
abbrev S2x4x512x1024 : Shape := ⟨4, ![2, 4, 512, 1024]⟩
abbrev S4096x512 : Shape := ⟨2, ![4096, 512]⟩
abbrev S1x1x512x1024 : Shape := ⟨4, ![1, 1, 512, 1024]⟩

abbrev nBuf : Space → Nat
  | .hbm => 22
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x4096, .bf16⟩
  | .hbm, ⟨15, _⟩ => ⟨S4096x4096, .bf16⟩
  | .hbm, ⟨16, _⟩ => ⟨S4096x1024, .f32⟩
  | .hbm, ⟨17, _⟩ => ⟨S4096x1024, .bf16⟩
  | .hbm, ⟨18, _⟩ => ⟨S4096x4096, .bf16⟩
  | .hbm, ⟨19, _⟩ => ⟨S2x4x512x1024, .bf16⟩
  | .hbm, ⟨20, _⟩ => ⟨S4096x1024, .bf16⟩
  | .hbm, ⟨21, _⟩ => ⟨S2x4x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S4096x512, .bf16⟩
  | .local _ .vmem, ⟨27, _⟩ => ⟨S4096x512, .bf16⟩
  | .local _ .vmem, ⟨28, _⟩ => ⟨S4096x1024, .bf16⟩
  | .local _ .vmem, ⟨29, _⟩ => ⟨S1x1x512x1024, .bf16⟩
  | .local _ .vmem, ⟨30, _⟩ => ⟨S1x1x512x1024, .bf16⟩
  | .local _ .vmem, ⟨31, _⟩ => ⟨S1024x4096, .bf16⟩
  | .local _ .vmem, ⟨32, _⟩ => ⟨S1024x4096, .bf16⟩
  | .local _ .vmem, ⟨33, _⟩ => ⟨S4x1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S4096x512, .bf16⟩
  | .local _ .vmem, ⟨37, _⟩ => ⟨S4096x512, .bf16⟩
  | .local _ .vmem, ⟨38, _⟩ => ⟨S4096x1024, .bf16⟩
  | .local _ .vmem, ⟨39, _⟩ => ⟨S4096x1024, .bf16⟩
  | .local _ .vmem, ⟨40, _⟩ => ⟨S1x1x512x1024, .bf16⟩
  | .local _ .vmem, ⟨41, _⟩ => ⟨S1x1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v26.toNat, v43.toNat, v53.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S4x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, false]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1x512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpRefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S2x512x4x1024 : Shape := ⟨4, ![2, 512, 4, 1024]⟩
abbrev S2x4x512x1024 : Shape := ⟨4, ![2, 4, 512, 1024]⟩
abbrev S4x2x512x1024 : Shape := ⟨4, ![4, 2, 512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x4096, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S1024x4096, .f32⟩
  | .hbm, ⟨34, _⟩ => ⟨S4096x1024, .f32⟩
  | .hbm, ⟨35, _⟩ => ⟨S2x512x4x1024, .f32⟩
  | .hbm, ⟨36, _⟩ => ⟨S2x4x512x1024, .f32⟩
  | .hbm, ⟨37, _⟩ => ⟨S4x2x512x1024, .f32⟩
  | .hbm, ⟨38, _⟩ => ⟨S2x4x512x1024, .f32⟩
  | .hbm, ⟨39, _⟩ => ⟨S4096x1024, .bf16⟩
  | .hbm, ⟨40, _⟩ => ⟨S2x4x512x1024, .bf16⟩
  | .hbm, ⟨41, _⟩ => ⟨S2x4x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x4096, .bf16⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== NormRefIdeal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== NormWide.lean ====
abbrev S4096x1024 : Shape := ⟨2, ![4096, 1024]⟩
abbrev S1x1024 : Shape := ⟨2, ![1, 1024]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x4096, .bf16⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== NormWideRefIdeal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Linear.lean ====
abbrev S4096x1024 : Shape := ⟨2, ![4096, 1024]⟩
abbrev S1024x1024 : Shape := ⟨2, ![1024, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 24
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x1024, .bf16⟩
  | .hbm, ⟨10, _⟩ => ⟨S1024x1024, .bf16⟩
  | .hbm, ⟨11, _⟩ => ⟨S4096x1024, .bf16⟩
  | .hbm, ⟨12, _⟩ => ⟨S1024x2048, .bf16⟩
  | .hbm, ⟨13, _⟩ => ⟨S4096x2048, .bf16⟩
  | .hbm, ⟨14, _⟩ => ⟨S2048x1024, .bf16⟩
  | .hbm, ⟨15, _⟩ => ⟨S4096x1024, .bf16⟩
  | .hbm, ⟨16, _⟩ => ⟨S4096x2048, .bf16⟩
  | .hbm, ⟨17, _⟩ => ⟨S4096x1024, .bf16⟩
  | .hbm, ⟨18, _⟩ => ⟨S4096x1024, .bf16⟩
  | .hbm, ⟨19, _⟩ => ⟨S1024x1024, .bf16⟩
  | .hbm, ⟨20, _⟩ => ⟨S4096x1024, .bf16⟩
  | .hbm, ⟨21, _⟩ => ⟨S1024x2048, .bf16⟩
  | .hbm, ⟨22, _⟩ => ⟨S4096x2048, .bf16⟩
  | .hbm, ⟨23, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S4096x1024, .bf16⟩
  | .local _ .vmem, ⟨6, _⟩ => ⟨S4096x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | .local _ .vmem, ⟨12, _⟩ => ⟨S1024x1024, .bf16⟩
  | .local _ .vmem, ⟨13, _⟩ => ⟨S4096x1024, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4096x1024, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .bf16⟩
  | .local _ .vmem, ⟨28, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem1_1 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== LinearRefIdeal.lean ====
abbrev S4096x1024 : Shape := ⟨2, ![4096, 1024]⟩
abbrev S1024x1024 : Shape := ⟨2, ![1024, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S4096x1024, .f32⟩
  | .hbm, ⟨12, _⟩ => ⟨S1024x2048, .f32⟩
  | .hbm, ⟨13, _⟩ => ⟨S2048x1024, .f32⟩
  | .hbm, ⟨14, _⟩ => ⟨S4096x2048, .f32⟩
  | .hbm, ⟨15, _⟩ => ⟨S2048x1024, .f32⟩
  | .hbm, ⟨16, _⟩ => ⟨S1024x2048, .f32⟩
  | .hbm, ⟨17, _⟩ => ⟨S4096x1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S4096x1024, .bf16⟩
  | .hbm, ⟨22, _⟩ => ⟨S1024x1024, .bf16⟩
  | .hbm, ⟨23, _⟩ => ⟨S4096x1024, .bf16⟩
  | .hbm, ⟨24, _⟩ => ⟨S1024x2048, .bf16⟩
  | .hbm, ⟨25, _⟩ => ⟨S4096x2048, .bf16⟩
  | .hbm, ⟨26, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Attn.lean ====
abbrev S4096x4096 : Shape := ⟨2, ![4096, 4096]⟩
abbrev S4096x2048 : Shape := ⟨2, ![4096, 2048]⟩
abbrev S4096x16x256 : Shape := ⟨3, ![4096, 16, 256]⟩
abbrev S4096x16x128 : Shape := ⟨3, ![4096, 16, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S1x4096x4096 : Shape := ⟨3, ![1, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S16x8x1x512 : Shape := ⟨4, ![16, 8, 1, 512]⟩
abbrev S4096x16 : Shape := ⟨2, ![4096, 16]⟩
abbrev S16x8x256x512 : Shape := ⟨4, ![16, 8, 256, 512]⟩
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S2x8x1x512 : Shape := ⟨4, ![2, 8, 1, 512]⟩
abbrev S2x8x256x512 : Shape := ⟨4, ![2, 8, 256, 512]⟩
abbrev S256x256 : Shape := ⟨2, ![256, 256]⟩
abbrev S256x128 : Shape := ⟨2, ![256, 128]⟩
abbrev S1x1x1x512 : Shape := ⟨4, ![1, 1, 1, 512]⟩
abbrev S1x512 : Shape := ⟨2, ![1, 512]⟩
abbrev S1x256 : Shape := ⟨2, ![1, 256]⟩
abbrev S1x1x256x256 : Shape := ⟨4, ![1, 1, 256, 256]⟩
abbrev S512x128 : Shape := ⟨2, ![512, 128]⟩
abbrev S256x512 : Shape := ⟨2, ![256, 512]⟩
abbrev S1x1x256x512 : Shape := ⟨4, ![1, 1, 256, 512]⟩

abbrev nBuf : Space → Nat
  | .hbm => 70
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S4096x16x256, .f32⟩
  | .hbm, ⟨5, _⟩ => ⟨S4096x16x256, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x4096, .i1⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S_, .f32⟩
  | .hbm, ⟨22, _⟩ => ⟨S16x4096x4096, .i1⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x128x4096, .f32⟩
  | .hbm, ⟨37, _⟩ => ⟨S4096x16x128, .f32⟩
  | .hbm, ⟨38, _⟩ => ⟨S16x4096x1, .f32⟩
  | .hbm, ⟨39, _⟩ => ⟨S16x4096x1, .f32⟩
  | .hbm, ⟨40, _⟩ => ⟨S_, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x8x1x512, .f32⟩
  | .hbm, ⟨45, _⟩ => ⟨S4096x16x128, .f32⟩
  | .hbm, ⟨46, _⟩ => ⟨S_, .f32⟩
  | .hbm, ⟨47, _⟩ => ⟨S4096x16, .f32⟩
  | .hbm, ⟨48, _⟩ => ⟨S16x4096, .f32⟩
  | .hbm, ⟨49, _⟩ => ⟨S16x8x1x512, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .bf16⟩
  | .hbm, ⟨58, _⟩ => ⟨S4096x4096, .bf16⟩
  | .hbm, ⟨59, _⟩ => ⟨S4096x4096, .bf16⟩
  | .hbm, ⟨60, _⟩ => ⟨S4096x2048, .bf16⟩
  | .hbm, ⟨61, _⟩ => ⟨S4096x2048, .bf16⟩
  | .hbm, ⟨62, _⟩ => ⟨S16x8x256x512, .bf16⟩
  | .hbm, ⟨63, _⟩ => ⟨S4096x4096, .bf16⟩
  | .hbm, ⟨64, _⟩ => ⟨S4096x2048, .bf16⟩
  | .hbm, ⟨65, _⟩ => ⟨S16x8x256x512, .f32⟩
  | .hbm, ⟨66, _⟩ => ⟨S_, .f32⟩
  | .hbm, ⟨67, _⟩ => ⟨S16x8x256x512, .f32⟩
  | .hbm, ⟨68, _⟩ => ⟨S16x8x256x512, .f32⟩
  | .hbm, ⟨69, _⟩ => ⟨S16x8x256x512, .bf16⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S4096x256, .bf16⟩
  | .local _ .vmem, ⟨9, _⟩ => ⟨S4096x256, .bf16⟩
  | .local _ .vmem, ⟨10, _⟩ => ⟨S2x8x1x512, .f32⟩
  | .local _ .vmem, ⟨11, _⟩ => ⟨S2x8x1x512, .f32⟩
  | .local _ .vmem, ⟨12, _⟩ => ⟨S2x8x1x512, .f32⟩
  | .local _ .vmem, ⟨13, _⟩ => ⟨S2x8x1x512, .f32⟩
  | .local _ .vmem, ⟨14, _⟩ => ⟨S2x8x256x512, .bf16⟩
  | .local _ .vmem, ⟨15, _⟩ => ⟨S2x8x256x512, .bf16⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S2x8x256x512, .f32⟩
  | .local _ .vmem, ⟨21, _⟩ => ⟨S512x512, .f32⟩
  | .local _ .vmem, ⟨22, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : BitVec 32 := Scalar.addi v12 c0_i32_5
  let v14 : Index := Scalar.indexCast v13
  let c0_6 : Index := 0#32
  ![v14.toNat, 0]
def k0_off2 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : BitVec 32 := Scalar.addi v12 c0_i32_5
  let v17 : Index := Scalar.indexCast v13
  let c0_7 : Index := 0#32
  ![v17.toNat, 0]
def k0_off3 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : BitVec 32 := Scalar.addi v12 c0_i32_5
  let v26 : Index := Scalar.indexCast v13
  let c256 : Index := 256#32
  ![v26.toNat, 256]
def k0_off4 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : BitVec 32 := Scalar.addi v12 c0_i32_5
  let v29 : Index := Scalar.indexCast v13
  let c128 : Index := 128#32
  ![v29.toNat, 128]
def k0_off5 (i : grid0.Coords) : Fin 4 → Nat :=
  let c0_22 : Index := 0#32
  let arg1 : BitVec 32 := BitVec.ofNat 32 (i 1).val
  let v45 : Index := Scalar.indexCast arg1
  let c0_23 : Index := 0#32
  let c0_24 : Index := 0#32
  ![0, v45.toNat, 0, 0]
def k0_off6 (i : grid0.Coords) : Fin 4 → Nat :=
  let c0_38 : Index := 0#32
  let arg1 : BitVec 32 := BitVec.ofNat 32 (i 1).val
  let v73 : Index := Scalar.indexCast arg1
  let c0_39 : Index := 0#32
  let c0_40 : Index := 0#32
  ![0, v73.toNat, 0, 0]
def k0_off7 (i : grid0.Coords) : Fin 4 → Nat :=
  let c1 : Index := 1#32
  let arg1 : BitVec 32 := BitVec.ofNat 32 (i 1).val
  let v91 : Index := Scalar.indexCast arg1
  let c0_49 : Index := 0#32
  let c0_50 : Index := 0#32
  ![1, v91.toNat, 0, 0]
def k0_off8 (i : grid0.Coords) : Fin 4 → Nat :=
  let c1_64 : Index := 1#32
  let arg1 : BitVec 32 := BitVec.ofNat 32 (i 1).val
  let v119 : Index := Scalar.indexCast arg1
  let c0_65 : Index := 0#32
  let c0_66 : Index := 0#32
  ![1, v119.toNat, 0, 0]
def k0_off9 (i : grid0.Coords) : Fin 4 → Nat :=
  let c0_107 : Index := 0#32
  let arg1 : BitVec 32 := BitVec.ofNat 32 (i 1).val
  let v190 : Index := Scalar.indexCast arg1
  let c0_108 : Index := 0#32
  let c256_109 : Index := 256#32
  ![0, v190.toNat, 0, 256]
def k0_off10 (i : grid0.Coords) : Fin 4 → Nat :=
  let c1_134 : Index := 1#32
  let arg1 : BitVec 32 := BitVec.ofNat 32 (i 1).val
  let v236 : Index := Scalar.indexCast arg1
  let c0_135 : Index := 0#32
  let c256_136 : Index := 256#32
  ![1, v236.toNat, 0, 256]
@[reducible] def k0_t1_loop (i : grid0.Coords) : Scf.Loop 32 :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_145 : BitVec 32 := 1#32
  ⟨v247, v252, c1_i32_145⟩
def k0_mult2 (i : grid0.Coords) (k0_t1 : Fin (k0_t1_loop i).trips) : BitVec 32 :=
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let c512_i32_175 : BitVec 32 := 512#32
  let v282 : BitVec 32 := Scalar.muli arg15 c512_i32_175
  v282
def k0_off11 (i : grid0.Coords) (k0_t1 : Fin (k0_t1_loop i).trips) : Fin 2 → Nat :=
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v285 : Index := Scalar.indexCast v284
  let c0_177 : Index := 0#32
  ![v285.toNat, 0]
def k0_off12 (i : grid0.Coords) (k0_t1 : Fin (k0_t1_loop i).trips) : Fin 2 → Nat :=
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v288 : Index := Scalar.indexCast v284
  let c0_178 : Index := 0#32
  ![v288.toNat, 0]
def k0_off13 (i : grid0.Coords) (k0_t1 : Fin (k0_t1_loop i).trips) : Fin 2 → Nat :=
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v297 : Index := Scalar.indexCast v284
  let c256_185 : Index := 256#32
  ![v297.toNat, 256]
def k0_off14 (i : grid0.Coords) (k0_t1 : Fin (k0_t1_loop i).trips) : Fin 2 → Nat :=
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v300 : Index := Scalar.indexCast v284
  let c128_186 : Index := 128#32
  ![v300.toNat, 128]
def k0_off15 (i : grid0.Coords) (k0_t1 : Fin (k0_t1_loop i).trips) : Fin 4 → Nat :=
  let c0_193 : Index := 0#32
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let v309 : Index := Scalar.indexCast arg15
  let c0_194 : Index := 0#32
  let c0_195 : Index := 0#32
  ![0, v309.toNat, 0, 0]
def k0_off16 (i : grid0.Coords) (k0_t1 : Fin (k0_t1_loop i).trips) : Fin 4 → Nat :=
  let c0_209 : Index := 0#32
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let v335 : Index := Scalar.indexCast arg15
  let c0_210 : Index := 0#32
  let c0_211 : Index := 0#32
  ![0, v335.toNat, 0, 0]
def k0_off17 (i : grid0.Coords) (k0_t1 : Fin (k0_t1_loop i).trips) : Fin 4 → Nat :=
  let c1_218 : Index := 1#32
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let v346 : Index := Scalar.indexCast arg15
  let c0_219 : Index := 0#32
  let c0_220 : Index := 0#32
  ![1, v346.toNat, 0, 0]
def k0_off18 (i : grid0.Coords) (k0_t1 : Fin (k0_t1_loop i).trips) : Fin 4 → Nat :=
  let c1_234 : Index := 1#32
  let arg1 : BitVec 32 := BitVec.ofNat 32 (i 1).val
  let c1_i32 : BitVec 32 := 1#32
  let v247 : BitVec 32 := Scalar.addi arg1 c1_i32
  let c1_i32_145 : BitVec 32 := 1#32
  let arg15 : BitVec 32 := Scf.iv v247 c1_i32_145 k0_t1
  let v372 : Index := Scalar.indexCast arg15
  let c0_235 : Index := 0#32
  let c0_236 : Index := 0#32
  ![1, v372.toNat, 0, 0]
@[reducible] def k0_t2_loop (i : grid0.Coords) : Scf.Loop 32 :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let v249 : BitVec 32 := Scalar.addi v247 v248
  let c1_i32_146 : BitVec 32 := 1#32
  ⟨v252, v249, c1_i32_146⟩
def k0_mult3 (i : grid0.Coords) (k0_t2 : Fin (k0_t2_loop i).trips) : BitVec 32 :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let c512_i32_175 : BitVec 32 := 512#32
  let v282 : BitVec 32 := Scalar.muli arg15 c512_i32_175
  v282
def k0_off19 (i : grid0.Coords) (k0_t2 : Fin (k0_t2_loop i).trips) : Fin 2 → Nat :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v285 : Index := Scalar.indexCast v284
  let c0_177 : Index := 0#32
  ![v285.toNat, 0]
def k0_off20 (i : grid0.Coords) (k0_t2 : Fin (k0_t2_loop i).trips) : Fin 2 → Nat :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v288 : Index := Scalar.indexCast v284
  let c0_178 : Index := 0#32
  ![v288.toNat, 0]
def k0_off21 (i : grid0.Coords) (k0_t2 : Fin (k0_t2_loop i).trips) : Fin 2 → Nat :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v297 : Index := Scalar.indexCast v284
  let c256_185 : Index := 256#32
  ![v297.toNat, 256]
def k0_off22 (i : grid0.Coords) (k0_t2 : Fin (k0_t2_loop i).trips) : Fin 2 → Nat :=
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let c512_i32_175 : BitVec 32 := 512#32
  let v282 : BitVec 32 := Scalar.muli arg15 c512_i32_175
  let v283 : BitVec 32 := v282
  let c0_i32_176 : BitVec 32 := 0#32
  let v284 : BitVec 32 := Scalar.addi v283 c0_i32_176
  let v300 : Index := Scalar.indexCast v284
  let c128_186 : Index := 128#32
  ![v300.toNat, 128]
def k0_off23 (i : grid0.Coords) (k0_t2 : Fin (k0_t2_loop i).trips) : Fin 4 → Nat :=
  let c0_193 : Index := 0#32
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let v309 : Index := Scalar.indexCast arg15
  let c0_194 : Index := 0#32
  let c0_195 : Index := 0#32
  ![0, v309.toNat, 0, 0]
def k0_off24 (i : grid0.Coords) (k0_t2 : Fin (k0_t2_loop i).trips) : Fin 4 → Nat :=
  let c0_209 : Index := 0#32
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let v335 : Index := Scalar.indexCast arg15
  let c0_210 : Index := 0#32
  let c0_211 : Index := 0#32
  ![0, v335.toNat, 0, 0]
def k0_off25 (i : grid0.Coords) (k0_t2 : Fin (k0_t2_loop i).trips) : Fin 4 → Nat :=
  let c1_218 : Index := 1#32
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let v346 : Index := Scalar.indexCast arg15
  let c0_219 : Index := 0#32
  let c0_220 : Index := 0#32
  ![1, v346.toNat, 0, 0]
def k0_off26 (i : grid0.Coords) (k0_t2 : Fin (k0_t2_loop i).trips) : Fin 4 → Nat :=
  let c1_234 : Index := 1#32
  let arg1 : BitVec 32 := BitVec.ofNat 32 (i 1).val
  let c1_i32 : BitVec 32 := 1#32
  let v247 : BitVec 32 := Scalar.addi arg1 c1_i32
  let c8_i32 : BitVec 32 := 8#32
  let v248 : BitVec 32 := Scalar.subi c8_i32 v247
  let c1_i32_144 : BitVec 32 := 1#32
  let v250 : BitVec 32 := Scalar.divsi v248 c1_i32_144
  let v251 : BitVec 32 := Scalar.muli v250 c1_i32_144
  let v252 : BitVec 32 := Scalar.addi v247 v251
  let c1_i32_146 : BitVec 32 := 1#32
  let arg15 : BitVec 32 := Scf.iv v252 c1_i32_146 k0_t2
  let v372 : Index := Scalar.indexCast arg15
  let c0_235 : Index := 0#32
  let c0_236 : Index := 0#32
  ![1, v372.toNat, 0, 0]
def k0_cond2 (i : grid0.Coords) : BitVec 1 :=
  let arg1 : BitVec 32 := BitVec.ofNat 32 (i 1).val
  let c7_i32 : BitVec 32 := 7#32
  let v279 : BitVec 1 := Scalar.cmpi .eq arg1 c7_i32
  let v280 : BitVec 32 := Scalar.extui v279
  let c0_i32_174 : BitVec 32 := 0#32
  let v281 : BitVec 1 := Scalar.cmpi .ne v280 c0_i32_174
  v281

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x8x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S4096x4096 : Shape := ⟨2, ![4096, 4096]⟩
abbrev S4096x2048 : Shape := ⟨2, ![4096, 2048]⟩
abbrev S4096x16x256 : Shape := ⟨3, ![4096, 16, 256]⟩
abbrev S4096x16x128 : Shape := ⟨3, ![4096, 16, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S1x4096x4096 : Shape := ⟨3, ![1, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S16x4096x256 : Shape := ⟨3, ![16, 4096, 256]⟩
abbrev S8x512x16x256 : Shape := ⟨4, ![8, 512, 16, 256]⟩
abbrev S16x8x256x512 : Shape := ⟨4, ![16, 8, 256, 512]⟩

abbrev nBuf : Space → Nat
  | .hbm => 105
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S4096x16x256, .f32⟩
  | .hbm, ⟨5, _⟩ => ⟨S4096x16x256, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x4096, .i1⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S_, .f32⟩
  | .hbm, ⟨22, _⟩ => ⟨S16x4096x4096, .i1⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .i1⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S16x4096, .f32⟩
  | .hbm, ⟨38, _⟩ => ⟨S_, .f32⟩
  | .hbm, ⟨39, _⟩ => ⟨S16x4096, .f32⟩
  | .hbm, ⟨40, _⟩ => ⟨S16x4096, .i1⟩
  | .hbm, ⟨41, _⟩ => ⟨S_, .f32⟩
  | .hbm, ⟨42, _⟩ => ⟨S16x4096, .f32⟩
  | .hbm, ⟨43, _⟩ => ⟨S16x4096, .i1⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S_, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S16x128x4096, .f32⟩
  | .hbm, ⟨66, _⟩ => ⟨S4096x16x128, .f32⟩
  | .hbm, ⟨67, _⟩ => ⟨S16x128x4096, .f32⟩
  | .hbm, ⟨68, _⟩ => ⟨S16x4096x4096, .f32⟩
  | .hbm, ⟨69, _⟩ => ⟨S16x128x4096, .f32⟩
  | .hbm, ⟨70, _⟩ => ⟨S4096x16x128, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S16x4096x1, .f32⟩
  | .hbm, ⟨78, _⟩ => ⟨S16x4096x4096, .f32⟩
  | .hbm, ⟨79, _⟩ => ⟨S16x4096x4096, .f32⟩
  | .hbm, ⟨80, _⟩ => ⟨S_, .f32⟩
  | .hbm, ⟨81, _⟩ => ⟨S16x4096, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S_, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096x4096, .f32⟩
  | .hbm, ⟨90, _⟩ => ⟨S16x4096x4096, .f32⟩
  | .hbm, ⟨91, _⟩ => ⟨S16x4096x256, .f32⟩
  | .hbm, ⟨92, _⟩ => ⟨S4096x16x256, .f32⟩
  | .hbm, ⟨93, _⟩ => ⟨S16x4096x256, .f32⟩
  | .hbm, ⟨94, _⟩ => ⟨S4096x16x256, .f32⟩
  | .hbm, ⟨95, _⟩ => ⟨S8x512x16x256, .f32⟩
  | .hbm, ⟨96, _⟩ => ⟨S16x8x256x512, .f32⟩
  | .hbm, ⟨97, _⟩ => ⟨S4096x16x128, .f32⟩
  | .hbm, ⟨98, _⟩ => ⟨S4096x16x256, .f32⟩
  | .hbm, ⟨99, _⟩ => ⟨S4096x4096, .f32⟩
  | .hbm, ⟨100, _⟩ => ⟨S4096x16x128, .f32⟩
  | .hbm, ⟨101, _⟩ => ⟨S4096x2048, .f32⟩
  | .hbm, ⟨102, _⟩ => ⟨S16x8x256x512, .bf16⟩
  | .hbm, ⟨103, _⟩ => ⟨S4096x4096, .bf16⟩
  | .hbm, ⟨104, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Proof.MlpRun.lean ====
/- The MLP program's run: every weakly fair execution ends with each result array at the last boundary's contents, the arguments as launched and every counter at zero. -/
module

public import proofs.«01_k».proof.Proof.Gen.MlpIdeal.Frame

@[expose] public section

set_option maxRecDepth 16384

noncomputable section

namespace Cert.MlpIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, with the last boundary's contents read at the results. -/
theorem run : θ_run defs (onTc (τ := τ) (main (F := F))) ⟨m, fun _ => 0, ρ⟩ (fun r => (∀ c : Dev nD,
      r.2.mem ((c.tc : Thread nD τ).loc main_v9_0) = W7 m ρ c main_v9_0
      ∧ r.2.mem ((c.tc : Thread nD τ).loc main_v12) = W7 m ρ c main_v12
      ∧ r.2.mem ((c.tc : Thread nD τ).loc main_v13) = W7 m ρ c main_v13
      ∧ r.2.mem ((c.tc : Thread nD τ).loc main_v11) = W7 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v9_0 (by decide)),
       h c _ (mem_uc main_v12 (by decide)),
       h c _ (mem_uc main_v13 (by decide)),
       h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩), funext fun g => hz g (.inr (no_unscoped g.2))⟩)

end Cert.MlpIdeal.Value

end
-- ==== Proof.MlpFirst.lean ====
/- The first forward product of the MLP: its two result arrays are the squared activations and twice the activations. -/
module

public import proofs.«01_k».proof.Proof.Gen.MlpIdeal.Frame
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The rectified product of the hidden rows with the first weight. -/
abbrev rect (h : FVec Ideal Cert.MlpRefIdeal.S4096x1024 .f32) (w1 : FVec Ideal Cert.MlpRefIdeal.S1024x4096 .f32) : FVec Ideal Cert.MlpRefIdeal.S4096x4096 .f32 :=
  maximumf (Host.dotGeneral Cert.MlpRefIdeal.dot_S4096x1024_S1024x4096_S4096x4096_1_0_0_1_n_n none h w1)
    (broadcastInDim Cert.MlpRefIdeal.S4096x4096 ![] Cert.MlpRefIdeal.Gen.bcast_S_S4096x4096 (constant Cert.MlpRefIdeal.S_ .f32 0x00000000#32))

/-- Its square. -/
abbrev square (h : FVec Ideal Cert.MlpRefIdeal.S4096x1024 .f32) (w1 : FVec Ideal Cert.MlpRefIdeal.S1024x4096 .f32) : FVec Ideal Cert.MlpRefIdeal.S4096x4096 .f32 :=
  mulf (rect h w1) (rect h w1)

/-- Twice it: the slope of the square. -/
abbrev slope (h : FVec Ideal Cert.MlpRefIdeal.S4096x1024 .f32) (w1 : FVec Ideal Cert.MlpRefIdeal.S1024x4096 .f32) : FVec Ideal Cert.MlpRefIdeal.S4096x4096 .f32 :=
  mulf (broadcastInDim Cert.MlpRefIdeal.S4096x4096 ![] Cert.MlpRefIdeal.Gen.bcast_S_S4096x4096 (constant Cert.MlpRefIdeal.S_ .f32 0x40000000#32)) (rect h w1)

/-- The chips' column blocks of the first weight, as the gather leaves them. -/
abbrev chips (w1 : FVec Ideal Cert.MlpRefIdeal.S1024x4096 .f32) : FVec Ideal S4x1024x1024 .f32 :=
  transpose S4x1024x1024 [1, 0, 2] (shapeCast S1024x4x1024 w1 shapeCasts_S1024x4096_S1024x4x1024) transposes_S1024x4x1024_S4x1024x1024_1_0_2

/-- Where each window's block sits. -/
theorem first_idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

set_option maxHeartbeats 2000000 in
/-- What a point stores into window 2 is its part of that array. -/
theorem first_point (h : FVec Ideal Cert.MlpRefIdeal.S4096x1024 .f32) (w1 : FVec Ideal Cert.MlpRefIdeal.S1024x4096 .f32) (c : Dev nD)
    (hh : V c main_v0 = h) (hw : V c main_v3 = chips w1) (t : Fin cfg0.N) (y) :
    out0_2 (iblk0 V c 0 t) (iblk0 V c 1 t) y = square h w1 (((cfg0.win 2).blk t).view.emb y) := by
  unfold out0_2
  canon_tiles x h
  all_goals (open_payloads; pointwise [square, rect])
  all_goals (blk_point [iblk0, first_idx t])
  all_goals first
    | (rw [hh]; blk_ext [first_idx t]; done)
    | (rw [hw]; pointwise [chips]; blk_ext [first_idx t])

/-- Window 2's array after the call. -/
theorem first_final (h : FVec Ideal Cert.MlpRefIdeal.S4096x1024 .f32) (w1 : FVec Ideal Cert.MlpRefIdeal.S1024x4096 .f32) (c : Dev nD)
    (hh : V c main_v0 = h) (hw : V c main_v3 = chips w1) : (dat0 V c).arrAt 2 cfg0.N = square h w1 := by
  refine (dat0 V c).arrAt_eq_of_covers 2 _ (by decide +kernel) fun t _ y => ?_
  blk_simp
  rw [after0_2]
  exact first_point V h w1 c hh hw t y

set_option maxHeartbeats 2000000 in
/-- What a point stores into window 3 is its part of that array. -/
theorem slope_point (h : FVec Ideal Cert.MlpRefIdeal.S4096x1024 .f32) (w1 : FVec Ideal Cert.MlpRefIdeal.S1024x4096 .f32) (c : Dev nD)
    (hh : V c main_v0 = h) (hw : V c main_v3 = chips w1) (t : Fin cfg0.N) (y) :
    out0_3 (iblk0 V c 0 t) (iblk0 V c 1 t) y = slope h w1 (((cfg0.win 3).blk t).view.emb y) := by
  unfold out0_3
  canon_tiles x h
  all_goals (open_payloads; pointwise [slope, rect])
  all_goals (blk_point [iblk0, first_idx t])
  all_goals first
    | (rw [hh]; blk_ext [first_idx t]; done)
    | (rw [hw]; pointwise [chips]; blk_ext [first_idx t])

/-- Window 3's array after the call. -/
theorem slope_final (h : FVec Ideal Cert.MlpRefIdeal.S4096x1024 .f32) (w1 : FVec Ideal Cert.MlpRefIdeal.S1024x4096 .f32) (c : Dev nD)
    (hh : V c main_v0 = h) (hw : V c main_v3 = chips w1) : (dat0 V c).arrAt 3 cfg0.N = slope h w1 := by
  refine (dat0 V c).arrAt_eq_of_covers 3 _ (by decide +kernel) fun t _ y => ?_
  blk_simp
  rw [after0_3]
  exact slope_point V h w1 c hh hw t y

end Cert.MlpIdeal.Value

end
-- ==== Proof.MlpSecond.lean ====
/- The second forward product of the MLP: its result array is the residual plus the gated product. -/
module

public import proofs.«01_k».proof.Proof.Gen.MlpIdeal.Frame
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The residual stream plus the gated product of the activations with the second weight. -/
abbrev residual (z : FVec Ideal Cert.MlpRefIdeal.S4096x4096 .f32) (w2 x2 : FVec Ideal Cert.MlpRefIdeal.S4096x1024 .f32) (g2 : FVec Ideal Cert.MlpRefIdeal.S1x1024 .f32) :
    FVec Ideal Cert.MlpRefIdeal.S4096x1024 .f32 :=
  addf x2 (mulf (broadcastInDim Cert.MlpRefIdeal.S4096x1024 ![0, 1] Cert.MlpRefIdeal.Gen.bcast_S1x1024_S4096x1024_0_1 g2)
    (Host.dotGeneral Cert.MlpRefIdeal.dot_S4096x4096_S4096x1024_S4096x1024_1_0_0_1_n_n none z w2))

/-- Where each window's block sits. -/
theorem second_idx : ∀ t : Fin cfg1.N, win1_0.index t = ![t.val, 0] ∧ win1_1.index t = ![0, 0] ∧ win1_2.index t = ![t.val, 0]
    ∧ win1_3.index t = ![0, 0] ∧ win1_4.index t = ![t.val, 0] :=
  (by decide +kernel : ∀ t : Fin grid1.N, _)

set_option maxHeartbeats 1000000 in
/-- What a point stores is the residual sum at the rows the point owns. -/
theorem second_point (c : Dev nD) (t : Fin cfg1.N) (y) :
    k1_pay2 (iblk1 V c 0 t) (iblk1 V c 1 t) (iblk1 V c 2 t) (iblk1 V c 3 t) y
      = residual (V c main_v8_0) (V c main_v4) (V c main_arg0) (V c main_arg1) (((cfg1.win 4).blk t).view.emb y) := by
  pointwise [k1_pay2, k1_pay1, residual]
  blk_point [iblk1, second_idx t]

/-- The result array of the second product. -/
theorem second_final (c : Dev nD) : (dat1 V c).arrAt 4 cfg1.N
    = residual (V c main_v8_0) (V c main_v4) (V c main_arg0) (V c main_arg1) := by
  refine (dat1 V c).arrAt_eq_of_covers 4 _ (by decide +kernel) fun t _ y => ?_
  blk_simp
  rw [after1_4]; frame_out
  exact second_point V c t y

end Cert.MlpIdeal.Value

end
-- ==== Proof.MlpActivation.lean ====
/- The gradient of the activations: its result array is the gated cotangent times the second weight, by the slope. -/
module

public import proofs.«01_k».proof.Proof.Gen.MlpIdeal.Frame
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The gradient of the product that enters the activation. -/
abbrev activation (d w2 : FVec Ideal Cert.MlpRefIdeal.S4096x1024 .f32) (s : FVec Ideal Cert.MlpRefIdeal.S4096x4096 .f32) : FVec Ideal Cert.MlpRefIdeal.S4096x4096 .f32 :=
  mulf (Host.dotGeneral Cert.MlpRefIdeal.dot_S4096x1024_S4096x1024_S4096x4096_1_1_0_0_n_n none d w2) s

/-- Where each window's block sits. -/
theorem activation_idx : ∀ t : Fin cfg2.N, win2_0.index t = ![t.val / 4, 0] ∧ win2_1.index t = ![t.val % 4, 0]
    ∧ win2_2.index t = ![t.val / 4, t.val % 4] ∧ win2_3.index t = ![t.val / 4, t.val % 4] :=
  (by decide +kernel : ∀ t : Fin grid2.N, _)

set_option maxHeartbeats 1000000 in
/-- What a point stores is the gradient at the block the point owns. -/
theorem activation_point (c : Dev nD) (t : Fin cfg2.N) (y) :
    out2_3 (iblk2 V c 0 t) (iblk2 V c 1 t) (iblk2 V c 2 t) y
      = activation (V c main_v7) (V c main_v4) (V c main_v8_1) (((cfg2.win 3).blk t).view.emb y) := by
  unfold out2_3
  canon_tiles x h
  all_goals (open_payloads; pointwise [activation])
  all_goals (blk_point [iblk2, activation_idx t])

/-- The gradient array of the activations. -/
theorem activation_final (c : Dev nD) : (dat2 V c).arrAt 3 cfg2.N
    = activation (V c main_v7) (V c main_v4) (V c main_v8_1) := by
  refine (dat2 V c).arrAt_eq_of_covers 3 _ (by decide +kernel) fun t _ y => ?_
  blk_simp
  rw [after2_3]
  exact activation_point V c t y

end Cert.MlpIdeal.Value

end
-- ==== Proof.MlpWeight2.lean ====
/- The gradient of the second weight: its result array is the transposed product, in the layout the step hands on. -/
module

public import proofs.«01_k».proof.Proof.Gen.MlpIdeal.Frame
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The gradient of the second weight, split into the halves and the chips' row blocks. -/
abbrev weight2 (z : FVec Ideal Cert.MlpRefIdeal.S4096x4096 .f32) (d : FVec Ideal Cert.MlpRefIdeal.S4096x1024 .f32) : FVec Ideal Cert.MlpRefIdeal.S2x4x512x1024 .f32 :=
  transpose Cert.MlpRefIdeal.S2x4x512x1024 [1, 0, 2, 3] (shapeCast Cert.MlpRefIdeal.S4x2x512x1024 (transpose Cert.MlpRefIdeal.S4096x1024 [1, 0]
    (Host.dotGeneral Cert.MlpRefIdeal.dot_S4096x1024_S4096x4096_S1024x4096_0_0_1_1_n_n none d z) Cert.MlpRefIdeal.Gen.transposes_S1024x4096_S4096x1024_1_0)
    Cert.MlpRefIdeal.Gen.shapeCasts_S4096x1024_S4x2x512x1024) Cert.MlpRefIdeal.Gen.transposes_S4x2x512x1024_S2x4x512x1024_1_0_2_3

/-- Where each window's block sits. -/
theorem weight2_idx : ∀ t : Fin cfg3.N, win3_0.index t = ![0, t.val] ∧ win3_1.index t = ![0, 0]
    ∧ win3_2.index t = ![t.val % 2, t.val / 2, 0, 0] :=
  (by decide +kernel : ∀ t : Fin grid3.N, _)

set_option maxHeartbeats 1000000 in
/-- What a point stores is the gradient at the rows the point owns. -/
theorem weight2_point (c : Dev nD) (t : Fin cfg3.N) (y) :
    k3_pay1 (iblk3 V c 0 t) (iblk3 V c 1 t) y
      = weight2 (V c main_v8_0) (V c main_v7) (((cfg3.win 2).blk t).view.emb y) := by
  pointwise [k3_pay1, weight2]
  refine Fin.sum_fin_congr fun k => (mul_comm (G := EReal) _ _).trans ?_
  blk_point [iblk3, weight2_idx t]

/-- The gradient array of the second weight. -/
theorem weight2_final (c : Dev nD) : (dat3 V c).arrAt 2 cfg3.N = weight2 (V c main_v8_0) (V c main_v7) := by
  refine (dat3 V c).arrAt_eq_of_covers 2 _ (by decide +kernel) fun t _ y => ?_
  blk_simp
  rw [after3_2]; frame_out
  exact weight2_point V c t y

end Cert.MlpIdeal.Value

end
-- ==== Proof.MlpHidden.lean ====
/- The gradient of the MLP input: the partial products of the four chips add up to the whole product. -/
module

public import proofs.«01_k».proof.Proof.MlpFirst
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The gradient of the hidden rows. -/
abbrev hidden (d : FVec Ideal Cert.MlpRefIdeal.S4096x4096 .f32) (w1 : FVec Ideal Cert.MlpRefIdeal.S1024x4096 .f32) : FVec Ideal Cert.MlpRefIdeal.S4096x1024 .f32 :=
  Host.dotGeneral Cert.MlpRefIdeal.dot_S4096x4096_S1024x4096_S4096x1024_1_1_0_0_n_n none d w1

/-- Where each window's block sits. -/
theorem hidden_idx : ∀ t : Fin cfg4.N, win4_0.index t = ![t.val, 0] ∧ win4_1.index t = ![0, 0, 0] ∧ win4_2.index t = ![t.val, 0] :=
  (by decide +kernel : ∀ t : Fin grid4.N, _)

/-- A sum of 4096 terms is the sum of its four quarters. -/
theorem quarters (f : Fin 4096 → EReal) :
    (∑ x : Fin 1024, f ⟨x.val, by omega⟩) + (∑ x : Fin 1024, f ⟨1024 + x.val, by omega⟩)
      + (∑ x : Fin 1024, f ⟨2048 + x.val, by omega⟩) + (∑ x : Fin 1024, f ⟨3072 + x.val, by omega⟩) = ∑ k, f k := by
  rw [show ∑ k, f k = ∑ s : Fin 4, ∑ x : Fin 1024, f ⟨s.val * 1024 + x.val, by omega⟩ from
    (Fin.sum_mul_add_fin 4 1024 f).symm]
  rw [Fin.sum_univ_four]
  congr 1

set_option maxHeartbeats 1000000 in
/-- What a point stores is the gradient at the rows the point owns. -/
theorem hidden_point (w1 : FVec Ideal Cert.MlpRefIdeal.S1024x4096 .f32) (c : Dev nD) (hw : V c main_v3 = chips w1) (t : Fin cfg4.N) (y) :
    k4_pay1 (View.ld (iblk4 V c 0 t) r4_0) (View.ld (iblk4 V c 1 t) r4_1) (View.ld (iblk4 V c 0 t) r4_2) (View.ld (iblk4 V c 1 t) r4_3)
      (View.ld (iblk4 V c 0 t) r4_4) (View.ld (iblk4 V c 1 t) r4_5) (View.ld (iblk4 V c 0 t) r4_6) (View.ld (iblk4 V c 1 t) r4_7) y
      = hidden (V c main_v10) w1 (((cfg4.win 2).blk t).view.emb y) := by
  pointwise [k4_pay1, hidden]
  refine Eq.trans ?_ (quarters _)
  blk_point [iblk4, hidden_idx t]
  all_goals (rw [hw]; pointwise [chips]; blk_ext [hidden_idx t])

/-- The gradient array of the hidden rows. -/
theorem hidden_final (w1 : FVec Ideal Cert.MlpRefIdeal.S1024x4096 .f32) (c : Dev nD) (hw : V c main_v3 = chips w1) :
    (dat4 V c).arrAt 2 cfg4.N = hidden (V c main_v10) w1 := by
  refine (dat4 V c).arrAt_eq_of_covers 2 _ (by decide +kernel) fun t _ y => ?_
  blk_simp
  rw [after4_2]; frame_out
  exact hidden_point V w1 c hw t y

end Cert.MlpIdeal.Value

end
-- ==== Proof.MlpWeight1.lean ====
/- The gradient of the first weight: its result array is the transposed product, in the layout the step hands on. -/
module

public import proofs.«01_k».proof.Proof.Gen.MlpIdeal.Frame
public import proofs.«01_k».proof.Proof.Gen.MlpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (V : (c : Dev nD) → (b : Ref sig .tc) → Buf (Elt Ideal) ((c : Thread nD τ).loc b))

/-- The gradient of the first weight, split into the halves and the chips' column blocks. -/
abbrev weight1 (h : FVec Ideal Cert.MlpRefIdeal.S4096x1024 .f32) (d : FVec Ideal Cert.MlpRefIdeal.S4096x4096 .f32) : FVec Ideal Cert.MlpRefIdeal.S2x4x512x1024 .f32 :=
  transpose Cert.MlpRefIdeal.S2x4x512x1024 [0, 2, 1, 3] (shapeCast Cert.MlpRefIdeal.S2x512x4x1024 (transpose Cert.MlpRefIdeal.S1024x4096 [1, 0]
    (Host.dotGeneral Cert.MlpRefIdeal.dot_S4096x4096_S4096x1024_S4096x1024_0_0_1_1_n_n none d h) Cert.MlpRefIdeal.Gen.transposes_S4096x1024_S1024x4096_1_0)
    Cert.MlpRefIdeal.Gen.shapeCasts_S1024x4096_S2x512x4x1024) Cert.MlpRefIdeal.Gen.transposes_S2x512x4x1024_S2x4x512x1024_0_2_1_3

/-- Where each window's block sits. -/
theorem weight1_idx : ∀ t : Fin cfg5.N, win5_0.index t = ![0, t.val / 4] ∧ win5_1.index t = ![0, t.val % 4]
    ∧ win5_2.index t = ![t.val / 4, t.val % 4, 0, 0] :=
  (by decide +kernel : ∀ t : Fin grid5.N, _)

set_option maxHeartbeats 1000000 in
/-- What a point stores is the gradient at the block the point owns. -/
theorem weight1_point (c : Dev nD) (t : Fin cfg5.N) (y) :
    k5_pay1 (iblk5 V c 0 t) (iblk5 V c 1 t) y
      = weight1 (V c main_v0) (V c main_v10) (((cfg5.win 2).blk t).view.emb y) := by
  pointwise [k5_pay1, weight1]
  refine Fin.sum_fin_congr fun k => (mul_comm (G := EReal) _ _).trans ?_
  blk_point [iblk5, weight1_idx t]

/-- The gradient array of the first weight. -/
theorem weight1_final (c : Dev nD) : (dat5 V c).arrAt 2 cfg5.N = weight1 (V c main_v0) (V c main_v10) := by
  refine (dat5 V c).arrAt_eq_of_covers 2 _ (by decide +kernel) fun t _ y => ?_
  blk_simp
  rw [after5_2]; frame_out
  exact weight1_point V c t y

end Cert.MlpIdeal.Value

end
-- ==== Proof.MlpValue.lean ====
/- The MLP program's results at its last boundary, as terms of its arguments. -/
module

public import proofs.«01_k».proof.Proof.MlpFirst
public import proofs.«01_k».proof.Proof.MlpSecond
public import proofs.«01_k».proof.Proof.MlpActivation
public import proofs.«01_k».proof.Proof.MlpWeight2
public import proofs.«01_k».proof.Proof.MlpHidden
public import proofs.«01_k».proof.Proof.MlpWeight1
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (m : (ℓ : Loc nD τ sig) → Buf (Elt Ideal) ℓ) (ρ : Dev nD → PrngReg) (c : Dev nD)

/-- The product that enters the activation. -/
abbrev pre (h : FVec Ideal Cert.MlpRefIdeal.S4096x1024 .f32) (w1 : FVec Ideal Cert.MlpRefIdeal.S1024x4096 .f32) : FVec Ideal Cert.MlpRefIdeal.S4096x4096 .f32 :=
  Host.dotGeneral Cert.MlpRefIdeal.dot_S4096x1024_S1024x4096_S4096x4096_1_0_0_1_n_n none h w1

/-- The zero array of the activations. -/
abbrev zeros : FVec Ideal Cert.MlpRefIdeal.S4096x4096 .f32 :=
  broadcastInDim Cert.MlpRefIdeal.S4096x4096 ![] Cert.MlpRefIdeal.Gen.bcast_S_S4096x4096 (constant Cert.MlpRefIdeal.S_ .f32 0x00000000#32)

/-- The gated cotangent. -/
abbrev gated (g2 : FVec Ideal Cert.MlpRefIdeal.S1x1024 .f32) (ct : FVec Ideal Cert.MlpRefIdeal.S4096x1024 .f32) : FVec Ideal Cert.MlpRefIdeal.S4096x1024 .f32 :=
  mulf (broadcastInDim Cert.MlpRefIdeal.S4096x1024 ![0, 1] Cert.MlpRefIdeal.Gen.bcast_S1x1024_S4096x1024_0_1 g2) ct

/-- The activations' gradient, zero where the product is not positive. -/
abbrev masked (h d w2 : FVec Ideal Cert.MlpRefIdeal.S4096x1024 .f32) (w1 : FVec Ideal Cert.MlpRefIdeal.S1024x4096 .f32) : FVec Ideal Cert.MlpRefIdeal.S4096x4096 .f32 :=
  select (cmpf .ogt (pre h w1) zeros) (activation d w2 (slope h w1)) zeros

/-- Where the product is not positive the slope is zero, so the mask changes nothing. -/
theorem masked_eq (h d w2 : FVec Ideal Cert.MlpRefIdeal.S4096x1024 .f32) (w1 : FVec Ideal Cert.MlpRefIdeal.S1024x4096 .f32) :
    activation d w2 (slope h w1) = masked h d w2 w1 := by
  funext j
  pointwise [masked, activation, slope, rect, pre, zeros]
  split_ifs with hp
  · rfl
  · rw [max_eq_right (not_lt.mp hp), mul_zero, mul_zero]

/-- The arguments of a launch at the reference's shapes. -/
abbrev aX : FVec Ideal Cert.MlpRefIdeal.S4096x1024 .f32 := m ((c : Thread nD τ).loc main_arg0)
abbrev aG : FVec Ideal Cert.MlpRefIdeal.S1x1024 .f32 := m ((c : Thread nD τ).loc main_arg1)
abbrev aH : FVec Ideal Cert.MlpRefIdeal.S4096x1024 .f32 := m ((c : Thread nD τ).loc main_arg2)
abbrev aW1 : FVec Ideal Cert.MlpRefIdeal.S1024x4096 .f32 := m ((c : Thread nD τ).loc main_arg3)
abbrev aW2 : FVec Ideal Cert.MlpRefIdeal.S4096x1024 .f32 := m ((c : Thread nD τ).loc main_arg4)
abbrev aD : FVec Ideal Cert.MlpRefIdeal.S4096x1024 .f32 := gated (aG m c) (m ((c : Thread nD τ).loc main_arg5))

theorem v1_h : V1 m ρ c main_v0 = aH m c := by
  unfold V1 W1 hostOps0; after_results; rfl
theorem v1_w1 : V1 m ρ c main_v3 = chips (aW1 m c) := by
  unfold V1 W1 hostOps0; after_results; rfl
theorem v1_w2 : V1 m ρ c main_v4 = aW2 m c := by
  unfold V1 W1 hostOps0; after_results; rfl
theorem v1_d : V1 m ρ c main_v7 = aD m c := by
  unfold V1 W1 hostOps0; after_results; rfl

theorem v2_z : V2 m ρ c main_v8_0 = square (aH m c) (aW1 m c) :=
  (W2_arr m ρ c 2).trans (first_final (V1 m ρ) _ _ c (v1_h m ρ c) (v1_w1 m ρ c))
theorem v2_s : V2 m ρ c main_v8_1 = slope (aH m c) (aW1 m c) :=
  (W2_arr m ρ c 3).trans (slope_final (V1 m ρ) _ _ c (v1_h m ρ c) (v1_w1 m ρ c))
theorem v2_w2 : V2 m ρ c main_v4 = aW2 m c := (W2_of m ρ c main_v4 (by decide)).trans (v1_w2 m ρ c)
theorem v2_d : V2 m ρ c main_v7 = aD m c := (W2_of m ρ c main_v7 (by decide)).trans (v1_d m ρ c)

theorem v3_x : V3 m ρ c main_v9_0 = residual (square (aH m c) (aW1 m c)) (aW2 m c) (aX m c) (aG m c) := by
  refine (W3_arr m ρ c 4).trans ((second_final (V2 m ρ) c).trans ?_)
  rw [v2_z, v2_w2, show V2 m ρ c main_arg0 = aX m c from W2_args m ρ c main_arg0 (by decide), show V2 m ρ c main_arg1 = aG m c from W2_args m ρ c main_arg1 (by decide)]
theorem v3_w2 : V3 m ρ c main_v4 = aW2 m c := (W3_of m ρ c main_v4 (by decide)).trans (v2_w2 m ρ c)
theorem v3_d : V3 m ρ c main_v7 = aD m c := (W3_of m ρ c main_v7 (by decide)).trans (v2_d m ρ c)
theorem v3_s : V3 m ρ c main_v8_1 = slope (aH m c) (aW1 m c) := (W3_of m ρ c main_v8_1 (by decide)).trans (v2_s m ρ c)
theorem v3_z : V3 m ρ c main_v8_0 = square (aH m c) (aW1 m c) := (W3_of m ρ c main_v8_0 (by decide)).trans (v2_z m ρ c)

theorem v4_a : V4 m ρ c main_v10 = masked (aH m c) (aD m c) (aW2 m c) (aW1 m c) := by
  refine (W4_arr m ρ c 3).trans ((activation_final (V3 m ρ) c).trans ?_)
  rw [v3_d, v3_w2, v3_s]; exact masked_eq _ _ _ _
theorem v4_z : V4 m ρ c main_v8_0 = square (aH m c) (aW1 m c) := (W4_of m ρ c main_v8_0 (by decide)).trans (v3_z m ρ c)
theorem v4_d : V4 m ρ c main_v7 = aD m c := (W4_of m ρ c main_v7 (by decide)).trans (v3_d m ρ c)

theorem v5_w : V5 m ρ c main_v11 = weight2 (square (aH m c) (aW1 m c)) (aD m c) := by
  refine (W5_arr m ρ c 2).trans ((weight2_final (V4 m ρ) c).trans ?_)
  rw [v4_z, v4_d]
theorem v5_a : V5 m ρ c main_v10 = masked (aH m c) (aD m c) (aW2 m c) (aW1 m c) := (W5_of m ρ c main_v10 (by decide)).trans (v4_a m ρ c)
theorem v5_w1 : V5 m ρ c main_v3 = chips (aW1 m c) :=
  (W5_of m ρ c main_v3 (by decide)).trans <| (W4_of m ρ c main_v3 (by decide)).trans <| (W3_of m ρ c main_v3 (by decide)).trans <|
    (W2_of m ρ c main_v3 (by decide)).trans (v1_w1 m ρ c)

theorem v6_h : V6 m ρ c main_v12 = hidden (masked (aH m c) (aD m c) (aW2 m c) (aW1 m c)) (aW1 m c) := by
  refine (W6_arr m ρ c 2).trans ((hidden_final (V5 m ρ) _ c (v5_w1 m ρ c)).trans ?_)
  rw [v5_a]
theorem v6_a : V6 m ρ c main_v10 = masked (aH m c) (aD m c) (aW2 m c) (aW1 m c) := (W6_of m ρ c main_v10 (by decide)).trans (v5_a m ρ c)
theorem v6_h2 : V6 m ρ c main_v0 = aH m c :=
  (W6_of m ρ c main_v0 (by decide)).trans <| (W5_of m ρ c main_v0 (by decide)).trans <| (W4_of m ρ c main_v0 (by decide)).trans <|
    (W3_of m ρ c main_v0 (by decide)).trans <| (W2_of m ρ c main_v0 (by decide)).trans (v1_h m ρ c)

/-- The program's result: the gradient of the first weight. -/
theorem w7_weight1 : W7 m ρ c main_v13 = weight1 (aH m c) (masked (aH m c) (aD m c) (aW2 m c) (aW1 m c)) := by
  refine (W7_arr m ρ c 2).trans ((weight1_final (V6 m ρ) c).trans ?_)
  rw [v6_h2, v6_a]
/-- The program's result: the gradient of the hidden rows. -/
theorem w7_hidden : W7 m ρ c main_v12 = hidden (masked (aH m c) (aD m c) (aW2 m c) (aW1 m c)) (aW1 m c) :=
  (W7_of m ρ c main_v12 (by decide)).trans (v6_h m ρ c)
/-- The program's result: the gradient of the second weight. -/
theorem w7_weight2 : W7 m ρ c main_v11 = weight2 (square (aH m c) (aW1 m c)) (aD m c) :=
  (W7_of m ρ c main_v11 (by decide)).trans <| (W6_of m ρ c main_v11 (by decide)).trans (v5_w m ρ c)
/-- The program's result: the residual stream after the MLP. -/
theorem w7_residual : W7 m ρ c main_v9_0 = residual (square (aH m c) (aW1 m c)) (aW2 m c) (aX m c) (aG m c) :=
  (W7_of m ρ c main_v9_0 (by decide)).trans <| (W6_of m ρ c main_v9_0 (by decide)).trans <| (W5_of m ρ c main_v9_0 (by decide)).trans <|
    (W4_of m ρ c main_v9_0 (by decide)).trans (v3_x m ρ c)

end Cert.MlpIdeal.Value

end
-- ==== Proof.NormValue.lean ====
/- The second product of the MLP with the next layer's norm: its three result arrays in closed form. -/
module

public import proofs.«01_k».proof.Proof.Gen.NormIdeal.Value
public import proofs.«01_k».proof.Proof.Gen.NormRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ) (c : Dev nD)

/-- The product of the hidden activation with the second weight. -/
abbrev product (z : FVec Ideal Cert.NormRefIdeal.S4096x4096 .f32) (w2 : FVec Ideal Cert.NormRefIdeal.S4096x1024 .f32) : FVec Ideal Cert.NormRefIdeal.S4096x1024 .f32 :=
  Host.dotGeneral Cert.NormRefIdeal.dot_S4096x4096_S4096x1024_S4096x1024_1_0_0_1_n_n none z w2

/-- A row of 1024 numbers, repeated in every row. -/
abbrev rows (g : FVec Ideal Cert.NormRefIdeal.S1x1024 .f32) : FVec Ideal Cert.NormRefIdeal.S4096x1024 .f32 :=
  broadcastInDim Cert.NormRefIdeal.S4096x1024 ![0, 1] Cert.NormRefIdeal.Gen.bcast_S1x1024_S4096x1024_0_1 g

/-- The residual stream plus the gated product. -/
abbrev stream (x2 : FVec Ideal Cert.NormRefIdeal.S4096x1024 .f32) (g2 : FVec Ideal Cert.NormRefIdeal.S1x1024 .f32) (z : FVec Ideal Cert.NormRefIdeal.S4096x4096 .f32)
    (w2 : FVec Ideal Cert.NormRefIdeal.S4096x1024 .f32) : FVec Ideal Cert.NormRefIdeal.S4096x1024 .f32 :=
  addf x2 (mulf (rows g2) (product z w2))

/-- The rows of `x` by their root mean square, gained and modulated. -/
abbrev normed (x : FVec Ideal Cert.NormRefIdeal.S4096x1024 .f32) (gain sc sh : FVec Ideal Cert.NormRefIdeal.S1x1024 .f32) : FVec Ideal Cert.NormRefIdeal.S4096x1024 .f32 :=
  addf (mulf (mulf (mulf x (broadcastInDim Cert.NormRefIdeal.S4096x1024 ![0, 1] Cert.NormRefIdeal.Gen.bcast_S4096x1_S4096x1024_0_1
    (Host.rsqrt (addf (Host.divf (broadcastInDim Cert.NormRefIdeal.S4096x1 ![0] Cert.NormRefIdeal.Gen.bcast_S4096_S4096x1_0
      (Host.reduceAdd (mulf x x) (constant Cert.NormRefIdeal.S_ .f32 0x00000000#32) Cert.NormRefIdeal.Gen.reducesTo_S4096x1024_S4096_d1 Cert.NormRefIdeal.Gen.h_S_))
      (broadcastInDim Cert.NormRefIdeal.S4096x1 ![] Cert.NormRefIdeal.Gen.bcast_S_S4096x1 (constant Cert.NormRefIdeal.S_ .f32 0x44800000#32)))
      (broadcastInDim Cert.NormRefIdeal.S4096x1 ![] Cert.NormRefIdeal.Gen.bcast_S_S4096x1 (constant Cert.NormRefIdeal.S_ .f32 0x358637BD#32))))))
    (rows gain)) (rows (addf (broadcastInDim Cert.NormRefIdeal.S1x1024 ![] Cert.NormRefIdeal.Gen.bcast_S_S1x1024 (constant Cert.NormRefIdeal.S_ .f32 0x3F800000#32)) sc))) (rows sh)

/-- Where each window's block sits. -/
theorem norm_idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem v_z : V m c main_v0 = (m ((c : Thread nD τ).loc main_arg2) : FVec Ideal Cert.NormRefIdeal.S4096x4096 .f32) := by
  unfold V hostOps0; after_results; rfl
theorem v_w2 : V m c main_v1 = (m ((c : Thread nD τ).loc main_arg3) : FVec Ideal Cert.NormRefIdeal.S4096x1024 .f32) := by
  unfold V hostOps0; after_results; rfl

set_option maxHeartbeats 1000000 in
theorem stream_point (t : Fin cfg0.N) (y) :
    k0_pay3 (iblk m c 0 t) (iblk m c 1 t) (iblk m c 2 t) (iblk m c 3 t) y
      = stream (V m c main_arg0) (V m c main_arg1) (V m c main_v0) (V m c main_v1) (((cfg0.win 7).blk t).view.emb y) := by
  pointwise [k0_pay3, k0_pay2, stream, rows, product]
  blk_point [iblk, norm_idx t]

set_option maxHeartbeats 1000000 in
theorem product_point (t : Fin cfg0.N) (y) :
    k0_pay5 (iblk m c 0 t) (iblk m c 1 t) y = product (V m c main_v0) (V m c main_v1) (((cfg0.win 8).blk t).view.emb y) := by
  pointwise [k0_pay5, k0_pay2, product]
  blk_point [iblk, norm_idx t]

set_option maxHeartbeats 2000000 in
theorem normed_point (t : Fin cfg0.N) (y) :
    k0_pay1 (k0_pay4 (iblk m c 0 t) (iblk m c 1 t) (iblk m c 2 t) (iblk m c 3 t) (iblk m c 4 t) (iblk m c 5 t) (iblk m c 6 t)) y
      = normed (stream (V m c main_arg0) (V m c main_arg1) (V m c main_v0) (V m c main_v1)) (V m c main_arg4) (V m c main_arg5) (V m c main_arg6)
        (((cfg0.win 9).blk t).view.emb y) := by
  pointwise [k0_pay1, k0_pay4, k0_pay3, k0_pay2, normed, stream, rows, product]
  blk_point [iblk, norm_idx t]

/-- The first result array: the residual stream. -/
theorem stream_final : (dats m 0 c).arrAt 7 cfg0.N = stream (V m c main_arg0) (V m c main_arg1) (V m c main_v0) (V m c main_v1) := by
  refine (dats m 0 c).arrAt_eq_of_covers 7 _ (by decide +kernel) fun t _ y => ?_
  blk_simp
  rw [after0_7]; frame_out
  exact stream_point m c t y

/-- The second result array: the product. -/
theorem product_final : (dats m 0 c).arrAt 8 cfg0.N = product (V m c main_v0) (V m c main_v1) := by
  refine (dats m 0 c).arrAt_eq_of_covers 8 _ (by decide +kernel) fun t _ y => ?_
  blk_simp
  rw [after0_8]; frame_out
  exact product_point m c t y

/-- The third result array: the modulated norm of the stream. -/
theorem normed_final : (dats m 0 c).arrAt 9 cfg0.N
    = normed (stream (V m c main_arg0) (V m c main_arg1) (V m c main_v0) (V m c main_v1)) (V m c main_arg4) (V m c main_arg5) (V m c main_arg6) := by
  refine (dats m 0 c).arrAt_eq_of_covers 9 _ (by decide +kernel) fun t _ y => ?_
  blk_simp
  rw [after0_9]; frame_out
  exact normed_point m c t y

end Cert.NormIdeal.Value

end
-- ==== Proof.NormWideValue.lean ====
/- The second product of the MLP with the next layer's norm in layer 2: its three result arrays in closed form. -/
module

public import proofs.«01_k».proof.Proof.Gen.NormWideIdeal.Value
public import proofs.«01_k».proof.Proof.Gen.NormWideRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormWideIdeal.Value

open Cert.NormWideIdeal Cert.NormWideIdeal.Gen

variable (m : (ℓ : Loc nD τ sig) → Buf (Elt Ideal) ℓ) (c : Dev nD)

/-- The product of the hidden activation with the second weight. -/
abbrev product (z : FVec Ideal Cert.NormWideRefIdeal.S4096x4096 .f32) (w2 : FVec Ideal Cert.NormWideRefIdeal.S4096x1024 .f32) : FVec Ideal Cert.NormWideRefIdeal.S4096x1024 .f32 :=
  Host.dotGeneral Cert.NormWideRefIdeal.dot_S4096x4096_S4096x1024_S4096x1024_1_0_0_1_n_n none z w2

/-- A row of 1024 numbers, repeated in every row. -/
abbrev rows (g : FVec Ideal Cert.NormWideRefIdeal.S1x1024 .f32) : FVec Ideal Cert.NormWideRefIdeal.S4096x1024 .f32 :=
  broadcastInDim Cert.NormWideRefIdeal.S4096x1024 ![0, 1] Cert.NormWideRefIdeal.Gen.bcast_S1x1024_S4096x1024_0_1 g

/-- The residual stream plus the gated product. -/
abbrev stream (x2 : FVec Ideal Cert.NormWideRefIdeal.S4096x1024 .f32) (g2 : FVec Ideal Cert.NormWideRefIdeal.S1x1024 .f32) (z : FVec Ideal Cert.NormWideRefIdeal.S4096x4096 .f32)
    (w2 : FVec Ideal Cert.NormWideRefIdeal.S4096x1024 .f32) : FVec Ideal Cert.NormWideRefIdeal.S4096x1024 .f32 :=
  addf x2 (mulf (rows g2) (product z w2))

/-- The rows of `x` by their root mean square, gained and modulated. -/
abbrev normed (x : FVec Ideal Cert.NormWideRefIdeal.S4096x1024 .f32) (gain sc sh : FVec Ideal Cert.NormWideRefIdeal.S1x1024 .f32) : FVec Ideal Cert.NormWideRefIdeal.S4096x1024 .f32 :=
  addf (mulf (mulf (mulf x (broadcastInDim Cert.NormWideRefIdeal.S4096x1024 ![0, 1] Cert.NormWideRefIdeal.Gen.bcast_S4096x1_S4096x1024_0_1
    (Host.rsqrt (addf (Host.divf (broadcastInDim Cert.NormWideRefIdeal.S4096x1 ![0] Cert.NormWideRefIdeal.Gen.bcast_S4096_S4096x1_0
      (Host.reduceAdd (mulf x x) (constant Cert.NormWideRefIdeal.S_ .f32 0x00000000#32) Cert.NormWideRefIdeal.Gen.reducesTo_S4096x1024_S4096_d1 Cert.NormWideRefIdeal.Gen.h_S_))
      (broadcastInDim Cert.NormWideRefIdeal.S4096x1 ![] Cert.NormWideRefIdeal.Gen.bcast_S_S4096x1 (constant Cert.NormWideRefIdeal.S_ .f32 0x44800000#32)))
      (broadcastInDim Cert.NormWideRefIdeal.S4096x1 ![] Cert.NormWideRefIdeal.Gen.bcast_S_S4096x1 (constant Cert.NormWideRefIdeal.S_ .f32 0x358637BD#32))))))
    (rows gain)) (rows (addf (broadcastInDim Cert.NormWideRefIdeal.S1x1024 ![] Cert.NormWideRefIdeal.Gen.bcast_S_S1x1024 (constant Cert.NormWideRefIdeal.S_ .f32 0x3F800000#32)) sc))) (rows sh)

/-- Where each window's block sits. -/
theorem norm_idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem v_z : V m c main_v0 = (m ((c : Thread nD τ).loc main_arg2) : FVec Ideal Cert.NormWideRefIdeal.S4096x4096 .f32) := by
  unfold V hostOps0; after_results; rfl
theorem v_w2 : V m c main_v1 = (m ((c : Thread nD τ).loc main_arg3) : FVec Ideal Cert.NormWideRefIdeal.S4096x1024 .f32) := by
  unfold V hostOps0; after_results; rfl

set_option maxHeartbeats 1000000 in
theorem stream_point (t : Fin cfg0.N) (y) :
    k0_pay2 (iblk m c 0 t) (iblk m c 1 t) (iblk m c 2 t) (iblk m c 3 t) y
      = stream (V m c main_arg0) (V m c main_arg1) (V m c main_v0) (V m c main_v1) (((cfg0.win 7).blk t).view.emb y) := by
  pointwise [k0_pay2, k0_pay1, stream, rows, product]
  blk_point [iblk, norm_idx t]

set_option maxHeartbeats 1000000 in
theorem product_point (t : Fin cfg0.N) (y) :
    k0_pay4 (iblk m c 0 t) (iblk m c 1 t) y = product (V m c main_v0) (V m c main_v1) (((cfg0.win 8).blk t).view.emb y) := by
  pointwise [k0_pay4, k0_pay1, product]
  blk_point [iblk, norm_idx t]

set_option maxHeartbeats 2000000 in
theorem normed_point (t : Fin cfg0.N) (y) :
    k0_pay3 (iblk m c 0 t) (iblk m c 1 t) (iblk m c 2 t) (iblk m c 3 t) (iblk m c 4 t) (iblk m c 5 t) (iblk m c 6 t) y
      = normed (stream (V m c main_arg0) (V m c main_arg1) (V m c main_v0) (V m c main_v1)) (V m c main_arg4) (V m c main_arg5) (V m c main_arg6)
        (((cfg0.win 9).blk t).view.emb y) := by
  pointwise [k0_pay3, k0_pay2, k0_pay1, normed, stream, rows, product]
  blk_point [iblk, norm_idx t]

/-- The first result array: the residual stream. -/
theorem stream_final : (dats m 0 c).arrAt 7 cfg0.N = stream (V m c main_arg0) (V m c main_arg1) (V m c main_v0) (V m c main_v1) := by
  refine (dats m 0 c).arrAt_eq_of_covers 7 _ (by decide +kernel) fun t _ y => ?_
  blk_simp
  rw [after0_7]; frame_out
  exact stream_point m c t y

/-- The second result array: the product. -/
theorem product_final : (dats m 0 c).arrAt 8 cfg0.N = product (V m c main_v0) (V m c main_v1) := by
  refine (dats m 0 c).arrAt_eq_of_covers 8 _ (by decide +kernel) fun t _ y => ?_
  blk_simp
  rw [after0_8]; frame_out
  exact product_point m c t y

/-- The third result array: the modulated norm of the stream. -/
theorem normed_final : (dats m 0 c).arrAt 9 cfg0.N
    = normed (stream (V m c main_arg0) (V m c main_arg1) (V m c main_v0) (V m c main_v1)) (V m c main_arg4) (V m c main_arg5) (V m c main_arg6) := by
  refine (dats m 0 c).arrAt_eq_of_covers 9 _ (by decide +kernel) fun t _ y => ?_
  blk_simp
  rw [after0_9]; frame_out
  exact normed_point m c t y

end Cert.NormWideIdeal.Value

end
-- ==== Proof.AttnBlock.lean ====
/- What one block of queries adds to the kernel's sums, as functions of the blocks read. -/
module

public import proofs.«01_k».proof.Proof.Gen.AttnIdeal.Skeleton
public import Idealize.ShloMosaic.Lib.Pipeline.ValueKit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The base-2 exponential of the ideal instance. -/
abbrev ex2 (x : EReal) : EReal := FloatOps.exp2 (F := Ideal) (φ := .f32) x

section Block

variable (j : ℕ) (q k kt v u : ℕ → ℕ → EReal) (ls dl : ℕ → ℕ → EReal)

/-- The score of a key row of the block and a query row, in the pair's head `hh`. -/
def score (hh kk qq : ℕ) : EReal := ∑ d : Fin 256, k kk (256 * hh + d.val) * q qq (256 * hh + d.val)

/-- The unmasked weight. -/
def weight₀ (hh kk qq : ℕ) : EReal := ex2 (score q k hh kk qq - ls hh qq)

/-- The weight: zero where the key comes after the query. -/
def weight (hh kk qq : ℕ) : EReal := if 512 * j + kk ≤ qq then weight₀ q k ls hh kk qq else 0

/-- The product of a value row with a cotangent row. -/
def dprod (hh kk qq : ℕ) : EReal := ∑ d : Fin 128, v kk (128 * hh + d.val) * u qq (128 * hh + d.val)

/-- The gradient of a score. -/
def dscore (hh kk qq : ℕ) : EReal := weight j q k ls hh kk qq * (dprod v u hh kk qq - dl hh qq)

/-- What the queries' block `b` adds to the values' gradient. -/
def addV (b hh kk d : ℕ) : EReal := ∑ l : Fin 512, weight j q k ls hh kk (512 * b + l.val) * u (512 * b + l.val) (128 * hh + d)

/-- What the queries' block `b` adds to the keys' gradient. -/
def addK (b hh kk d : ℕ) : EReal := ∑ l : Fin 512, dscore j q k v u ls dl hh kk (512 * b + l.val) * q (512 * b + l.val) (256 * hh + d)

/-- What the keys' block adds to the gradient of a query row. -/
def addQ (hh d qq : ℕ) : EReal := ∑ kk : Fin 512, kt (256 * hh + d) kk.val * dscore j q k v u ls dl hh kk.val qq

end Block

section Loads

variable {sig' : RefSig} {κ : Kind} {sp : Space} {e : EltTy}

/-- A rectangle of a rank-2 view whose elements are `q`. -/
theorem rd2 {d : Fin 2 → ℕ} {w : View sig' κ sp (⟨2, d⟩ : Shape) e} {X : w.ty.Contents (Elt Ideal)} {q : ℕ → ℕ → Elt Ideal e}
    (h : ∀ y : (⟨2, d⟩ : Shape).Idx, w.read (Elt Ideal) X y = q (y 0).val (y 1).val) {off : Fin 2 → ℕ} {a b : ℕ} (hoff : off = ![a, b])
    (size : Fin 2 → ℕ) (inb : ∀ i, off i + size i ≤ (⟨2, d⟩ : Shape).size i) (x : (⟨2, size⟩ : Shape).Idx) :
    w.readAt (Elt Ideal) (Rect.unit (s := ⟨2, d⟩) off size inb).toLoadRect X x = q (a + (x 0).val) (b + (x 1).val) := by
  subst hoff
  rw [View.readAt_apply, h]
  congr 1 <;> exact congrArg (_ + ·) (Nat.one_mul _)

/-- A rectangle of a rank-4 view whose elements are `q`. -/
theorem rd4 {d : Fin 4 → ℕ} {w : View sig' κ sp (⟨4, d⟩ : Shape) e} {X : w.ty.Contents (Elt Ideal)} {q : ℕ → ℕ → ℕ → ℕ → Elt Ideal e}
    (h : ∀ y : (⟨4, d⟩ : Shape).Idx, w.read (Elt Ideal) X y = q (y 0).val (y 1).val (y 2).val (y 3).val) {off : Fin 4 → ℕ} {a b a' b' : ℕ} (hoff : off = ![a, b, a', b'])
    (size : Fin 4 → ℕ) (inb : ∀ i, off i + size i ≤ (⟨4, d⟩ : Shape).size i) (x : (⟨4, size⟩ : Shape).Idx) :
    w.readAt (Elt Ideal) (Rect.unit (s := ⟨4, d⟩) off size inb).toLoadRect X x = q (a + (x 0).val) (b + (x 1).val) (a' + (x 2).val) (b' + (x 3).val) := by
  subst hoff
  rw [View.readAt_apply, h]
  congr 1 <;> exact congrArg (_ + ·) (Nat.one_mul _)

end Loads

/-- The trips of the loop over the queries' blocks after the diagonal one. -/
theorem trips : ∀ i : grid0.Coords, (k0_t1_loop i).trips = 7 - (i 1).val := by decide +kernel

theorem off11 : ∀ (i : grid0.Coords) (k : Fin (k0_t1_loop i).trips), k0_off11 i k = ![512 * ((i 1).val + 1 + k.val), 0] := by decide +kernel

theorem off12 : ∀ (i : grid0.Coords) (k : Fin (k0_t1_loop i).trips), k0_off12 i k = ![512 * ((i 1).val + 1 + k.val), 0] := by decide +kernel

theorem off13 : ∀ (i : grid0.Coords) (k : Fin (k0_t1_loop i).trips), k0_off13 i k = ![512 * ((i 1).val + 1 + k.val), 256] := by decide +kernel

theorem off14 : ∀ (i : grid0.Coords) (k : Fin (k0_t1_loop i).trips), k0_off14 i k = ![512 * ((i 1).val + 1 + k.val), 128] := by decide +kernel

theorem off15 : ∀ (i : grid0.Coords) (k : Fin (k0_t1_loop i).trips), k0_off15 i k = ![0, (i 1).val + 1 + k.val, 0, 0] := by decide +kernel

theorem off16 : ∀ (i : grid0.Coords) (k : Fin (k0_t1_loop i).trips), k0_off16 i k = ![0, (i 1).val + 1 + k.val, 0, 0] := by decide +kernel

theorem off17 : ∀ (i : grid0.Coords) (k : Fin (k0_t1_loop i).trips), k0_off17 i k = ![1, (i 1).val + 1 + k.val, 0, 0] := by decide +kernel

theorem off18 : ∀ (i : grid0.Coords) (k : Fin (k0_t1_loop i).trips), k0_off18 i k = ![1, (i 1).val + 1 + k.val, 0, 0] := by decide +kernel

theorem off1a : ∀ i : grid0.Coords, k0_off1 i 0#32 = ![512 * (i 1).val, 0] := by decide +kernel
theorem off1b : ∀ i : grid0.Coords, k0_off1 i 256#32 = ![512 * (i 1).val + 256, 0] := by decide +kernel

theorem off2a : ∀ i : grid0.Coords, k0_off2 i 0#32 = ![512 * (i 1).val, 0] := by decide +kernel
theorem off2b : ∀ i : grid0.Coords, k0_off2 i 256#32 = ![512 * (i 1).val + 256, 0] := by decide +kernel

theorem off3a : ∀ i : grid0.Coords, k0_off3 i 0#32 = ![512 * (i 1).val, 256] := by decide +kernel
theorem off3b : ∀ i : grid0.Coords, k0_off3 i 256#32 = ![512 * (i 1).val + 256, 256] := by decide +kernel

theorem off4a : ∀ i : grid0.Coords, k0_off4 i 0#32 = ![512 * (i 1).val, 128] := by decide +kernel
theorem off4b : ∀ i : grid0.Coords, k0_off4 i 256#32 = ![512 * (i 1).val + 256, 128] := by decide +kernel

theorem off5 : ∀ i : grid0.Coords, k0_off5 i = ![0, (i 1).val, 0, 0] := by decide +kernel

theorem off6 : ∀ i : grid0.Coords, k0_off6 i = ![0, (i 1).val, 0, 0] := by decide +kernel

theorem off7 : ∀ i : grid0.Coords, k0_off7 i = ![1, (i 1).val, 0, 0] := by decide +kernel

theorem off8 : ∀ i : grid0.Coords, k0_off8 i = ![1, (i 1).val, 0, 0] := by decide +kernel

theorem off9 : ∀ i : grid0.Coords, k0_off9 i = ![0, (i 1).val, 0, 256] := by decide +kernel

theorem off10 : ∀ i : grid0.Coords, k0_off10 i = ![1, (i 1).val, 0, 256] := by decide +kernel

/-- What the memrefs of the inputs hold: the queries' and cotangents' rows, the block's rows of the keys and values, and the pair's
    saved rows. -/
structure Blk {arg2 : Memref sig .tc .vmem S4096x512 .bf16} {arg3 : Memref sig .tc .vmem S512x512 .bf16} {arg4 : Memref sig .tc .vmem S512x512 .bf16} {arg5 : Memref sig .tc .vmem S512x256 .bf16} {arg6 : Memref sig .tc .vmem S4096x256 .bf16} {arg7 : Memref sig .tc .vmem S2x8x1x512 .f32} {arg8 : Memref sig .tc .vmem S2x8x1x512 .f32} (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (q k kt v u : ℕ → ℕ → EReal) (ls dl : ℕ → ℕ → EReal) : Prop where
  hq : ∀ y : S4096x512.Idx, arg2.view.read (Elt Ideal) X2 y = q (y 0).val (y 1).val
  hk : ∀ y : S512x512.Idx, arg3.view.read (Elt Ideal) X3 y = k (y 0).val (y 1).val
  hkt : ∀ y : S512x512.Idx, arg4.view.read (Elt Ideal) X4 y = kt (y 0).val (y 1).val
  hv : ∀ y : S512x256.Idx, arg5.view.read (Elt Ideal) X5 y = v (y 0).val (y 1).val
  hu : ∀ y : S4096x256.Idx, arg6.view.read (Elt Ideal) X6 y = u (y 0).val (y 1).val
  hl : ∀ y : S2x8x1x512.Idx, arg7.view.read (Elt Ideal) X7 y = ls (y 0).val (512 * (y 1).val + (y 3).val)
  hd : ∀ y : S2x8x1x512.Idx, arg8.view.read (Elt Ideal) X8 y = dl (y 0).val (512 * (y 1).val + (y 3).val)

/-- What the block `b` of the queries adds to the three running sums. -/
structure Step {arg12 : Memref sig .tc .vmem S2x8x256x512 .f32} {arg13 : Memref sig .tc .vmem S512x512 .f32} {arg14 : Memref sig .tc .vmem S512x256 .f32}
    (j b : ℕ) (q k kt v u : ℕ → ℕ → EReal) (ls dl : ℕ → ℕ → EReal)
    (f12 g12 : BufTy.Contents (Elt Ideal) arg12.view.ty) (f13 g13 : BufTy.Contents (Elt Ideal) arg13.view.ty) (f14 g14 : BufTy.Contents (Elt Ideal) arg14.view.ty) : Prop where
  h12 : ∀ y : S2x8x256x512.Idx, arg12.view.read (Elt Ideal) g12 y
    = if (y 1).val = b then arg12.view.read (Elt Ideal) f12 y + addQ j q k kt v u ls dl (y 0).val (y 2).val (512 * b + (y 3).val) else arg12.view.read (Elt Ideal) f12 y
  h13 : ∀ y : S512x512.Idx, arg13.view.read (Elt Ideal) g13 y
    = arg13.view.read (Elt Ideal) f13 y + addK j q k v u ls dl b ((y 1).val / 256) (y 0).val ((y 1).val % 256)
  h14 : ∀ y : S512x256.Idx, arg14.view.read (Elt Ideal) g14 y
    = arg14.view.read (Elt Ideal) f14 y + addV j q k u ls b ((y 1).val / 128) (y 0).val ((y 1).val % 128)

end Cert.AttnIdeal.Body
-- ==== Proof.AttnSums.lean ====
/- Sums over blocks of the kernel, one block at a time. -/
module

public import proofs.«01_k».proof.Proof.AttnBlock
public import Idealize.ShloMosaic.Lib.WritesUnit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces

variable {sig' : RefSig} {κ : Kind} {sp : Space}

/-- The element of a rank-2 view under a rectangle's index. -/
theorem at2 {e : EltTy} {d : Fin 2 → ℕ} (w : View sig' κ sp (⟨2, d⟩ : Shape) e) (X : w.ty.Contents (Elt Ideal)) {off : Fin 2 → ℕ} {a b : ℕ} (hoff : off = ![a, b])
    (size : Fin 2 → ℕ) (inb : ∀ i, off i + size i ≤ (⟨2, d⟩ : Shape).size i) (x : (⟨2, size⟩ : Shape).Idx) (y : (⟨2, d⟩ : Shape).Idx)
    (h0 : (y 0).val = a + (x 0).val) (h1 : (y 1).val = b + (x 1).val) :
    w.readAt (Elt Ideal) (Rect.unit (s := ⟨2, d⟩) off size inb).toLoadRect X x = w.read (Elt Ideal) X y := by
  subst hoff
  rw [View.readAt_apply]
  refine congrArg _ (funext fun i => Fin.ext ?_)
  fin_cases i
  · exact (congrArg (a + ·) (Nat.one_mul _)).trans h0.symm
  · exact (congrArg (b + ·) (Nat.one_mul _)).trans h1.symm

/-- The element of a rank-4 view under a rectangle's index. -/
theorem at4 {e : EltTy} {d : Fin 4 → ℕ} (w : View sig' κ sp (⟨4, d⟩ : Shape) e) (X : w.ty.Contents (Elt Ideal)) {off : Fin 4 → ℕ} {a b a' b' : ℕ} (hoff : off = ![a, b, a', b'])
    (size : Fin 4 → ℕ) (inb : ∀ i, off i + size i ≤ (⟨4, d⟩ : Shape).size i) (x : (⟨4, size⟩ : Shape).Idx) (y : (⟨4, d⟩ : Shape).Idx)
    (h0 : (y 0).val = a + (x 0).val) (h1 : (y 1).val = b + (x 1).val) (h2 : (y 2).val = a' + (x 2).val) (h3 : (y 3).val = b' + (x 3).val) :
    w.readAt (Elt Ideal) (Rect.unit (s := ⟨4, d⟩) off size inb).toLoadRect X x = w.read (Elt Ideal) X y := by
  subst hoff
  rw [View.readAt_apply]
  refine congrArg _ (funext fun i => Fin.ext ?_)
  fin_cases i
  · exact (congrArg (a + ·) (Nat.one_mul _)).trans h0.symm
  · exact (congrArg (b + ·) (Nat.one_mul _)).trans h1.symm
  · exact (congrArg (a' + ·) (Nat.one_mul _)).trans h2.symm
  · exact (congrArg (b' + ·) (Nat.one_mul _)).trans h3.symm

/-- An index of the newest rank-4 piece reads its payload. -/
theorem mem4 {e : EltTy} {d : Fin 4 → ℕ} (w : View sig' κ sp (⟨4, d⟩ : Shape) e) (X : w.ty.Contents (Elt Ideal)) {off : Fin 4 → ℕ} {a b a' b' : ℕ} (hoff : off = ![a, b, a', b'])
    {size : Fin 4 → ℕ} (inb : ∀ i, off i + size i ≤ (⟨4, d⟩ : Shape).size i) (p : (⟨4, size⟩ : Shape).Idx → Elt Ideal e) (L : List (View.Piece (Elt Ideal) (⟨4, d⟩ : Shape) e))
    (y : (⟨4, d⟩ : Shape).Idx) (x : (⟨4, size⟩ : Shape).Idx)
    (h0 : (y 0).val = a + (x 0).val) (h1 : (y 1).val = b + (x 1).val) (h2 : (y 2).val = a' + (x 2).val) (h3 : (y 3).val = b' + (x 3).val) :
    w.read (Elt Ideal) (w.writes (Elt Ideal) X (⟨Rect.unit (s := ⟨4, d⟩) off size inb, p⟩ :: L)) y = p x :=
  View.read_writes_cons_unit_of_mem w X inb p L y x hoff (fun i => by
    fin_cases i
    · exact h0
    · exact h1
    · exact h2
    · exact h3)

/-- An index of the newest rank-2 piece reads its payload. -/
theorem mem2 {e : EltTy} {d : Fin 2 → ℕ} (w : View sig' κ sp (⟨2, d⟩ : Shape) e) (X : w.ty.Contents (Elt Ideal)) {off : Fin 2 → ℕ} {a b : ℕ} (hoff : off = ![a, b])
    {size : Fin 2 → ℕ} (inb : ∀ i, off i + size i ≤ (⟨2, d⟩ : Shape).size i) (p : (⟨2, size⟩ : Shape).Idx → Elt Ideal e) (L : List (View.Piece (Elt Ideal) (⟨2, d⟩ : Shape) e))
    (y : (⟨2, d⟩ : Shape).Idx) (x : (⟨2, size⟩ : Shape).Idx) (h0 : (y 0).val = a + (x 0).val) (h1 : (y 1).val = b + (x 1).val) :
    w.read (Elt Ideal) (w.writes (Elt Ideal) X (⟨Rect.unit (s := ⟨2, d⟩) off size inb, p⟩ :: L)) y = p x :=
  View.read_writes_cons_unit_of_mem w X inb p L y x hoff (fun i => by
    fin_cases i
    · exact h0
    · exact h1)

end Pieces

section Vectors

variable (q k v u : ℕ → ℕ → EReal) (ls dl : ℕ → ℕ → EReal) (hh b : ℕ)

theorem pay10_at (a c : Vec Ideal S512x256 .bf16) (l : Vec Ideal S1x1x1x512 .f32) (ha : ∀ x : S512x256.Idx, a x = q (512 * b + (x 0).val) (256 * hh + (x 1).val))
    (hc : ∀ x : S512x256.Idx, c x = k (x 0).val (256 * hh + (x 1).val)) (hl : ∀ x : S1x1x1x512.Idx, l x = ls hh (512 * b + (x 3).val)) (x : S512x512.Idx) :
    k0_pay10 (F := Ideal) a c l x = weight₀ q k ls hh (x 0).val (512 * b + (x 1).val) := by
  unfold k0_pay10 k0_pay3
  pointwise
  simp only [ha, hc, hl]
  rfl

theorem pay16_at (a c : Vec Ideal S512x256 .bf16) (l : Vec Ideal S1x1x1x512 .f32) (ha : ∀ x : S512x256.Idx, a x = q (512 * b + (x 0).val) (256 * hh + (x 1).val))
    (hc : ∀ x : S512x256.Idx, c x = k (x 0).val (256 * hh + (x 1).val)) (hl : ∀ x : S1x1x1x512.Idx, l x = ls hh (512 * b + (x 3).val)) (x : S512x512.Idx) :
    k0_pay16 (F := Ideal) (k0_pay8 a c) l x = weight₀ q k ls hh (x 0).val (512 * b + (x 1).val) := by
  unfold k0_pay16 k0_pay8 k0_pay6
  pointwise
  simp only [ha, hc, hl]
  rfl

theorem pay5_at (a c : Vec Ideal S512x128 .bf16) (ha : ∀ x : S512x128.Idx, a x = u (512 * b + (x 0).val) (128 * hh + (x 1).val))
    (hc : ∀ x : S512x128.Idx, c x = v (x 0).val (128 * hh + (x 1).val)) (x : S512x512.Idx) :
    k0_pay5 (F := Ideal) a c x = dprod v u hh (x 0).val (512 * b + (x 1).val) := by
  unfold k0_pay5 k0_pay4
  pointwise
  simp only [ha, hc]
  rfl

theorem pay9_at (a c : Vec Ideal S512x128 .bf16) (ha : ∀ x : S512x128.Idx, a x = u (512 * b + (x 0).val) (128 * hh + (x 1).val))
    (hc : ∀ x : S512x128.Idx, c x = v (x 0).val (128 * hh + (x 1).val)) (x : S512x512.Idx) :
    k0_pay9 (F := Ideal) a c x = dprod v u hh (x 0).val (512 * b + (x 1).val) := by
  unfold k0_pay9 k0_pay7
  pointwise
  simp only [ha, hc]
  rfl

end Vectors

section Sums

variable (j b : ℕ) (q k kt v u : ℕ → ℕ → EReal) (ls dl : ℕ → ℕ → EReal)
  (p0 p1 d0 d1 : FVec Ideal S512x512 .f32) (q0 q1 : FVec Ideal S512x256 .bf16) (u0 u1 : FVec Ideal S512x128 .bf16) (l0 l1 : Vec Ideal S1x1x1x512 .f32)
  (t0 t1 : Vec Ideal S256x512 .bf16)
  (hp0 : ∀ x : S512x512.Idx, p0 x = weight j q k ls 0 (x 0).val (512 * b + (x 1).val))
  (hp1 : ∀ x : S512x512.Idx, p1 x = weight j q k ls 1 (x 0).val (512 * b + (x 1).val))
  (hd0 : ∀ x : S512x512.Idx, d0 x = dprod v u 0 (x 0).val (512 * b + (x 1).val))
  (hd1 : ∀ x : S512x512.Idx, d1 x = dprod v u 1 (x 0).val (512 * b + (x 1).val))
  (hq0 : ∀ x : S512x256.Idx, q0 x = q (512 * b + (x 0).val) (x 1).val)
  (hq1 : ∀ x : S512x256.Idx, q1 x = q (512 * b + (x 0).val) (256 + (x 1).val))
  (hu0 : ∀ x : S512x128.Idx, u0 x = u (512 * b + (x 0).val) (x 1).val)
  (hu1 : ∀ x : S512x128.Idx, u1 x = u (512 * b + (x 0).val) (128 + (x 1).val))
  (hl0 : ∀ x : S1x1x1x512.Idx, l0 x = dl 0 (512 * b + (x 3).val))
  (hl1 : ∀ x : S1x1x1x512.Idx, l1 x = dl 1 (512 * b + (x 3).val))
  (ht0 : ∀ x : S256x512.Idx, t0 x = kt (x 0).val (x 1).val)
  (ht1 : ∀ x : S256x512.Idx, t1 x = kt (256 + (x 0).val) (x 1).val)

include hp0 hp1 hu0 hu1 in
theorem sum14 (arg14 : Memref sig .tc .vmem S512x256 .f32) (f14 : BufTy.Contents (Elt Ideal) arg14.view.ty) (i0 i1 i2 i3) (y : S512x256.Idx) :
    arg14.view.read (Elt Ideal) (arg14.view.writes (Elt Ideal) f14
      [⟨Rect.unit ![0, 128] S512x128.size i1, k0_pay71 u1 p1 (arg14.view.readAt (Elt Ideal) (Rect.unit (s := S512x256) ![0, 128] S512x128.size i3).toLoadRect f14)⟩,
       ⟨Rect.unit ![0, 0] S512x128.size i0, k0_pay12 u0 (arg14.view.readAt (Elt Ideal) (Rect.unit (s := S512x256) ![0, 0] S512x128.size i2).toLoadRect f14)
          (truncf .bf16 p0 bitsLt_bf16_f32) (constant S512x128 .f32 0x00000000#32)⟩]) y
      = arg14.view.read (Elt Ideal) f14 y + addV j q k u ls b ((y 1).val / 128) (y 0).val ((y 1).val % 128) := by
  have hy : (y 1).val < 256 := (y 1).isLt
  by_cases h : (y 1).val < 128
  · rw [View.read_writes_cons_unit_of_not_mem _ _ _ _ _ _ rfl 1 (.inl h), mem2 arg14.view f14 rfl _ _ _ y (ix2 (y 0) ⟨(y 1).val, h⟩ : S512x128.Idx) (by simp [ix2]) (by simp [ix2])]
    unfold k0_pay12
    pointwise
    rw [at2 arg14.view f14 rfl S512x128.size _ _ y (by simp [ix2]) (by simp [ix2])]
    simp only [hp0, hu0]
    rw [Nat.div_eq_of_lt h, Nat.mod_eq_of_lt h]
    simp [addV]
  · rw [mem2 arg14.view f14 rfl _ _ _ y (ix2 (y 0) ⟨(y 1).val - 128, by omega⟩ : S512x128.Idx) (by simp [ix2]) (by simp [ix2]; omega)]
    unfold k0_pay71
    pointwise
    rw [at2 arg14.view f14 rfl S512x128.size _ _ y (by simp [ix2]) (by simp [ix2]; omega)]
    simp only [hp1, hu1]
    rw [show (y 1).val / 128 = 1 by omega, show (y 1).val % 128 = (y 1).val - 128 by omega]
    simp [addV]

include hp0 hp1 hd0 hd1 hq0 hq1 hl0 hl1 in
theorem sum13 (arg13 : Memref sig .tc .vmem S512x512 .f32) (f13 : BufTy.Contents (Elt Ideal) arg13.view.ty) (i0 i1 i2 i3) (y : S512x512.Idx) :
    arg13.view.read (Elt Ideal) (arg13.view.writes (Elt Ideal) f13
      [⟨Rect.unit ![0, 256] S512x256.size i1, k0_pay73 q1 d1 p1 l1 (arg13.view.readAt (Elt Ideal) (Rect.unit (s := S512x512) ![0, 256] S512x256.size i3).toLoadRect f13)⟩,
       ⟨Rect.unit ![0, 0] S512x256.size i0, k0_pay14 q0 d0 p0 l0 (arg13.view.readAt (Elt Ideal) (Rect.unit (s := S512x512) ![0, 0] S512x256.size i2).toLoadRect f13)⟩]) y
      = arg13.view.read (Elt Ideal) f13 y + addK j q k v u ls dl b ((y 1).val / 256) (y 0).val ((y 1).val % 256) := by
  have hy : (y 1).val < 512 := (y 1).isLt
  by_cases h : (y 1).val < 256
  · rw [View.read_writes_cons_unit_of_not_mem _ _ _ _ _ _ rfl 1 (.inl h), mem2 arg13.view f13 rfl _ _ _ y (ix2 (y 0) ⟨(y 1).val, h⟩ : S512x256.Idx) (by simp [ix2]) (by simp [ix2])]
    unfold k0_pay14 k0_pay13
    pointwise
    rw [at2 arg13.view f13 rfl S512x256.size _ _ y (by simp [ix2]) (by simp [ix2])]
    simp only [hp0, hd0, hq0, hl0]
    rw [Nat.div_eq_of_lt h, Nat.mod_eq_of_lt h]
    simp [addK, dscore]
  · rw [mem2 arg13.view f13 rfl _ _ _ y (ix2 (y 0) ⟨(y 1).val - 256, by omega⟩ : S512x256.Idx) (by simp [ix2]) (by simp [ix2]; omega)]
    unfold k0_pay73 k0_pay72
    pointwise
    rw [at2 arg13.view f13 rfl S512x256.size _ _ y (by simp [ix2]) (by simp [ix2]; omega)]
    simp only [hp1, hd1, hq1, hl1]
    rw [show (y 1).val / 256 = 1 by omega, show (y 1).val % 256 = (y 1).val - 256 by omega]
    simp [addK, dscore]

include hp0 hp1 hd0 hd1 hl0 hl1 ht0 ht1 in
theorem sum12 (arg12 : Memref sig .tc .vmem S2x8x256x512 .f32) (f12 : BufTy.Contents (Elt Ideal) arg12.view.ty) {o0 o1 : Fin 4 → ℕ} (e0 : o0 = ![0, b, 0, 0]) (e1 : o1 = ![1, b, 0, 0])
    (i0 i1 i2 i3) (y : S2x8x256x512.Idx) :
    arg12.view.read (Elt Ideal) (arg12.view.writes (Elt Ideal) f12
      [⟨Rect.unit o1 S1x1x256x512.size i1, k0_pay74 d1 p1 l1 (arg12.view.readAt (Elt Ideal) (Rect.unit (s := S2x8x256x512) o1 S1x1x256x512.size i3).toLoadRect f12) t1⟩,
       ⟨Rect.unit o0 S1x1x256x512.size i0, k0_pay15 d0 p0 l0 (arg12.view.readAt (Elt Ideal) (Rect.unit (s := S2x8x256x512) o0 S1x1x256x512.size i2).toLoadRect f12) t0⟩]) y
      = if (y 1).val = b then arg12.view.read (Elt Ideal) f12 y + addQ j q k kt v u ls dl (y 0).val (y 2).val (512 * b + (y 3).val) else arg12.view.read (Elt Ideal) f12 y := by
  have hy : (y 0).val < 2 := (y 0).isLt
  by_cases hb : (y 1).val = b
  · rw [if_pos hb]
    rcases (by omega : (y 0).val = 0 ∨ (y 0).val = 1) with h | h
    · rw [View.read_writes_cons_unit_of_not_mem _ _ _ _ _ _ e1 0 (.inl (by simp [h])), mem4 arg12.view f12 e0 _ _ _ y (ix4 (0 : Fin 1) (0 : Fin 1) (y 2) (y 3) : S1x1x256x512.Idx) (by simp [ix4, h]) (by simp [ix4, hb]) (by simp [ix4]) (by simp [ix4])]
      unfold k0_pay15 k0_pay13
      pointwise
      rw [at4 arg12.view f12 e0 S1x1x256x512.size _ _ y (by simp [ix4, h]) (by simp [ix4, hb]) (by simp [ix4]) (by simp [ix4])]
      simp only [hp0, hd0, hl0, ht0]
      simp [addQ, dscore, h]
    · rw [mem4 arg12.view f12 e1 _ _ _ y (ix4 (0 : Fin 1) (0 : Fin 1) (y 2) (y 3) : S1x1x256x512.Idx) (by simp [ix4, h]) (by simp [ix4, hb]) (by simp [ix4]) (by simp [ix4])]
      unfold k0_pay74 k0_pay72
      pointwise
      rw [at4 arg12.view f12 e1 S1x1x256x512.size _ _ y (by simp [ix4, h]) (by simp [ix4, hb]) (by simp [ix4]) (by simp [ix4])]
      simp only [hp1, hd1, hl1, ht1]
      simp [addQ, dscore, h]
  · rw [if_neg hb, View.read_writes_cons_unit_of_not_mem _ _ _ _ _ _ e1 1 (by simp; omega), View.read_writes_cons_unit_of_not_mem _ _ _ _ _ _ e0 1 (by simp; omega)]
    rfl

end Sums

end Cert.AttnIdeal.Body
-- ==== Proof.AttnDiag.lean ====
/- The diagonal block in two halves. -/
module

public import proofs.«01_k».proof.Proof.AttnSums
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Halves

variable (j : ℕ) (q k kt v u : ℕ → ℕ → EReal) (ls dl : ℕ → ℕ → EReal)

/-- What 256 rows of the diagonal block, from row `s`, add to the values' gradient. -/
def halfV (s hh kk d : ℕ) : EReal := ∑ l : Fin 256, weight j q k ls hh kk (512 * j + s + l.val) * u (512 * j + s + l.val) (128 * hh + d)

/-- What 256 rows of the diagonal block, from row `s`, add to the keys' gradient. -/
def halfK (s hh kk d : ℕ) : EReal := ∑ l : Fin 256, dscore j q k v u ls dl hh kk (512 * j + s + l.val) * q (512 * j + s + l.val) (256 * hh + d)

theorem split512 (f : ℕ → EReal) : ∑ l : Fin 512, f l.val = ∑ l : Fin 256, f l.val + ∑ l : Fin 256, f (256 + l.val) := by
  rw [Fin.sum_univ_eq_sum_range f 512, Fin.sum_univ_eq_sum_range f 256, Fin.sum_univ_eq_sum_range (fun l => f (256 + l)) 256]
  exact Finset.sum_range_add f 256 256

theorem weight_zero (hh kk qq : ℕ) (h : qq < 512 * j + kk) : weight j q k ls hh kk qq = 0 := if_neg (by omega)

theorem dscore_zero (hh kk qq : ℕ) (h : qq < 512 * j + kk) : dscore j q k v u ls dl hh kk qq = 0 := by
  rw [dscore, weight_zero _ _ _ _ _ _ _ h, zero_mul]

theorem addV_halves (hh kk d : ℕ) : (if kk < 256 then halfV j q k u ls 0 hh kk d else 0) + halfV j q k u ls 256 hh kk d = addV j q k u ls j hh kk d := by
  rw [addV, split512 (fun l => weight j q k ls hh kk (512 * j + l) * u (512 * j + l) (128 * hh + d))]
  congr 1
  · split
    · rfl
    · exact (Finset.sum_eq_zero fun l _ => by rw [weight_zero _ _ _ _ _ _ _ (by omega), zero_mul]).symm

theorem addK_halves (hh kk d : ℕ) : (if kk < 256 then halfK j q k v u ls dl 0 hh kk d else 0) + halfK j q k v u ls dl 256 hh kk d = addK j q k v u ls dl j hh kk d := by
  rw [addK, split512 (fun l => dscore j q k v u ls dl hh kk (512 * j + l) * q (512 * j + l) (256 * hh + d))]
  congr 1
  · split
    · rfl
    · exact (Finset.sum_eq_zero fun l _ => by rw [dscore_zero _ _ _ _ _ _ _ _ _ _ (by omega), zero_mul]).symm

theorem addQ_half (hh d qq : ℕ) (h : qq < 512 * j + 256) : ∑ kk : Fin 256, kt (256 * hh + d) kk.val * dscore j q k v u ls dl hh kk.val qq = addQ j q k kt v u ls dl hh d qq := by
  rw [addQ, split512 (fun kk => kt (256 * hh + d) kk * dscore j q k v u ls dl hh kk qq)]
  rw [Finset.sum_eq_zero (s := Finset.univ) (f := fun l : Fin 256 => kt (256 * hh + d) (256 + l.val) * dscore j q k v u ls dl hh (256 + l.val) qq) fun l _ => by
    rw [dscore_zero _ _ _ _ _ _ _ _ _ _ (by omega), mul_zero], add_zero]

end Halves

section Accumulate

variable {sig' : RefSig} {κ' : Kind} {sp : Space}

/-- A piece that adds to what the earlier pieces left adds under its rectangle and leaves the rest. -/
theorem accum2 {d : Fin 2 → ℕ} (w : View sig' κ' sp (⟨2, d⟩ : Shape) .f32) (X : w.ty.Contents (Elt Ideal)) (L : List (View.Piece (Elt Ideal) (⟨2, d⟩ : Shape) .f32))
    {off : Fin 2 → ℕ} {a b : ℕ} (hoff : off = ![a, b]) {size : Fin 2 → ℕ} (inb inb' : ∀ i, off i + size i ≤ (⟨2, d⟩ : Shape).size i)
    (p : (⟨2, size⟩ : Shape).Idx → Elt Ideal .f32) (A : ℕ → ℕ → EReal)
    (hp : ∀ x : (⟨2, size⟩ : Shape).Idx, p x = (w.readAt (Elt Ideal) (Rect.unit (s := ⟨2, d⟩) off size inb').toLoadRect (w.writes (Elt Ideal) X L) x : EReal) + A (x 0).val (x 1).val)
    (y : (⟨2, d⟩ : Shape).Idx) :
    w.read (Elt Ideal) (w.writes (Elt Ideal) X (⟨Rect.unit (s := ⟨2, d⟩) off size inb, p⟩ :: L)) y
      = (w.read (Elt Ideal) (w.writes (Elt Ideal) X L) y : EReal)
        + if a ≤ (y 0).val ∧ (y 0).val < a + size 0 ∧ b ≤ (y 1).val ∧ (y 1).val < b + size 1 then A ((y 0).val - a) ((y 1).val - b) else 0 := by
  by_cases h : a ≤ (y 0).val ∧ (y 0).val < a + size 0 ∧ b ≤ (y 1).val ∧ (y 1).val < b + size 1
  · rw [if_pos h]
    have e0 : (y 0).val = a + ((y 0).val - a) := by omega
    have e1 : (y 1).val = b + ((y 1).val - b) := by omega
    have hx : ∀ i : Fin 2, (y i).val - ![a, b] i < size i := fun i => by
      fin_cases i
      · show (y 0).val - a < size 0
        omega
      · show (y 1).val - b < size 1
        omega
    rw [mem2 w X hoff inb p L y (fun i => ⟨(y i).val - ![a, b] i, hx i⟩) e0 e1, hp,
      at2 w (w.writes (Elt Ideal) X L) hoff size inb' _ y e0 e1]
    rfl
  · rw [if_neg h, add_zero]
    by_cases h0 : a ≤ (y 0).val ∧ (y 0).val < a + size 0
    · exact View.read_writes_cons_unit_of_not_mem w X inb p L y hoff 1 (by simp; omega)
    · exact View.read_writes_cons_unit_of_not_mem w X inb p L y hoff 0 (by simp; omega)

end Accumulate

section Masked

variable (j : ℕ) (q k kt v u : ℕ → ℕ → EReal) (ls dl : ℕ → ℕ → EReal) (hh : ℕ)

theorem masked (a b : ℕ) (ha : a < 2 ^ 31) (hb : b < 2 ^ 31) (s l : EReal) :
    ex2 ((Scalar.select (IntOp.cmpi .sle (BitVec.ofNat 32 a) (BitVec.ofNat 32 b)) s (Named.named (F := Ideal) κ "mask" (φ := .f32) 0xF149F2CA#32) : EReal) - l)
      = if a ≤ b then ex2 (s - l) else 0 := by
  rw [WordCmp.cmpi_sle_ofNat (w := 32) ha hb]
  have hm : Named.named (F := Ideal) κ "mask" (φ := .f32) 0xF149F2CA#32 = (⊥ : EReal) := rfl
  rw [hm]
  by_cases h : a ≤ b
  · simp [h, Scalar.select]
  · simp [h, Scalar.select, ex2]
    rfl

/-- The weights of 256 rows of the diagonal block against the first 256 keys. -/
theorem pay42_at (sv : FVec Ideal S256x256 .f32) (l : Vec Ideal S1x1x1x512 .f32) (hs : ∀ x : S256x256.Idx, sv x = score q k hh (x 0).val (512 * j + 0 + (x 1).val))
    (hl : ∀ x : S1x1x1x512.Idx, l x = ls hh (512 * j + (x 3).val)) (x : S256x256.Idx) :
    k0_pay42 (F := Ideal) sv l x = weight j q k ls hh (x 0).val (512 * j + 0 + (x 1).val) := by
  have h0 : (x 0).val < 256 := (x 0).isLt
  have h1 : (x 1).val < 256 := (x 1).isLt
  unfold k0_pay42
  pointwise
  rw [show IntOp.addi 0#32 (BitVec.ofNat 32 (x 1).val) = BitVec.ofNat 32 (x 1).val from BitVec.zero_add _]
  refine (masked _ _ (by omega) (by omega) _ _).trans ?_
  rw [hs, hl, weight, weight₀]
  exact if_congr (by omega) rfl rfl

theorem pay48_at (sv : FVec Ideal S256x256 .f32) (l : Vec Ideal S1x1x1x512 .f32) (hs : ∀ x : S256x256.Idx, sv x = score q k hh (x 0).val (512 * j + 0 + (x 1).val))
    (hl : ∀ x : S1x1x1x512.Idx, l x = ls hh (512 * j + (x 3).val)) (x : S256x256.Idx) :
    k0_pay48 (F := Ideal) sv l x = weight j q k ls hh (x 0).val (512 * j + 0 + (x 1).val) :=
  pay42_at j q k ls hh sv l hs hl x

/-- The weights of the last 256 rows of the diagonal block against all of its keys. -/
theorem pay61_at (sv : FVec Ideal S512x256 .f32) (l : Vec Ideal S1x1x1x512 .f32) (hs : ∀ x : S512x256.Idx, sv x = score q k hh (x 0).val (512 * j + 256 + (x 1).val))
    (hl : ∀ x : S1x1x1x512.Idx, l x = ls hh (512 * j + (x 3).val)) (x : S512x256.Idx) :
    k0_pay61 (F := Ideal) sv l x = weight j q k ls hh (x 0).val (512 * j + 256 + (x 1).val) := by
  have h0 : (x 0).val < 512 := (x 0).isLt
  have h1 : (x 1).val < 256 := (x 1).isLt
  unfold k0_pay61
  pointwise
  rw [show IntOp.addi 256#32 (BitVec.ofNat 32 (x 1).val) = BitVec.ofNat 32 (256 + (x 1).val) from (BitVec.ofNat_add _ _).symm]
  refine (masked _ _ (by omega) (by omega) _ _).trans ?_
  rw [hs, hl, weight, weight₀]
  exact if_congr (by omega) (congrArg (fun n => ex2 (_ - ls hh n)) (Nat.add_assoc _ _ _).symm) rfl

theorem pay66_at (sv : FVec Ideal S512x256 .f32) (l : Vec Ideal S1x1x1x512 .f32) (hs : ∀ x : S512x256.Idx, sv x = score q k hh (x 0).val (512 * j + 256 + (x 1).val))
    (hl : ∀ x : S1x1x1x512.Idx, l x = ls hh (512 * j + (x 3).val)) (x : S512x256.Idx) :
    k0_pay66 (F := Ideal) sv l x = weight j q k ls hh (x 0).val (512 * j + 256 + (x 1).val) :=
  pay61_at j q k ls hh sv l hs hl x

theorem pay43_add (uu : FVec Ideal S256x128 .bf16) (sv : FVec Ideal S256x256 .f32) (l : Vec Ideal S1x1x1x512 .f32) (o : Vec Ideal S256x128 .f32)
    (hu : ∀ x : S256x128.Idx, uu x = u (512 * j + 0 + (x 0).val) (128 * hh + (x 1).val)) (hs : ∀ x : S256x256.Idx, sv x = score q k hh (x 0).val (512 * j + 0 + (x 1).val)) (hl : ∀ x : S1x1x1x512.Idx, l x = ls hh (512 * j + (x 3).val)) (x : S256x128.Idx) :
    k0_pay43 (F := Ideal) uu sv l o x = o x + halfV j q k u ls 0 hh (x 0).val (x 1).val := by
  unfold k0_pay43
  pointwise
  simp only [pay42_at j q k ls hh sv l hs hl, hu]
  rfl

theorem pay49_add (uu : FVec Ideal S256x128 .bf16) (sv : FVec Ideal S256x256 .f32) (l : Vec Ideal S1x1x1x512 .f32) (o : Vec Ideal S256x128 .f32)
    (hu : ∀ x : S256x128.Idx, uu x = u (512 * j + 0 + (x 0).val) (128 * hh + (x 1).val)) (hs : ∀ x : S256x256.Idx, sv x = score q k hh (x 0).val (512 * j + 0 + (x 1).val)) (hl : ∀ x : S1x1x1x512.Idx, l x = ls hh (512 * j + (x 3).val)) (x : S256x128.Idx) :
    k0_pay49 (F := Ideal) uu sv l o x = o x + halfV j q k u ls 0 hh (x 0).val (x 1).val := by
  exact pay43_add j q k u ls hh uu sv l o hu hs hl x

theorem pay67_add (uu : FVec Ideal S256x128 .bf16) (p : FVec Ideal S512x256 .f32) (o : Vec Ideal S512x128 .f32)
    (hu : ∀ x : S256x128.Idx, uu x = u (512 * j + 256 + (x 0).val) (128 * hh + (x 1).val)) (hp : ∀ x : S512x256.Idx, p x = weight j q k ls hh (x 0).val (512 * j + 256 + (x 1).val)) (x : S512x128.Idx) :
    k0_pay67 (F := Ideal) uu p o x = o x + halfV j q k u ls 256 hh (x 0).val (x 1).val := by
  unfold k0_pay67
  pointwise
  simp only [hp, hu]
  rfl

theorem pay62_add (uu : FVec Ideal S256x128 .bf16) (sv : FVec Ideal S512x256 .f32) (l : Vec Ideal S1x1x1x512 .f32) (o : Vec Ideal S512x128 .f32)
    (hu : ∀ x : S256x128.Idx, uu x = u (512 * j + 256 + (x 0).val) (128 * hh + (x 1).val)) (hs : ∀ x : S512x256.Idx, sv x = score q k hh (x 0).val (512 * j + 256 + (x 1).val)) (hl : ∀ x : S1x1x1x512.Idx, l x = ls hh (512 * j + (x 3).val)) (x : S512x128.Idx) :
    k0_pay62 (F := Ideal) uu sv l o x = o x + halfV j q k u ls 256 hh (x 0).val (x 1).val := by
  exact pay67_add j q k u ls hh uu (k0_pay61 sv l) o hu (pay61_at j q k ls hh sv l hs hl) x

theorem pay51_add (qv : FVec Ideal S256x256 .bf16) (dv : FVec Ideal S256x256 .f32) (p : FVec Ideal S256x256 .f32) (l8 : Vec Ideal S1x1x1x512 .f32) (o : Vec Ideal S256x256 .f32)
    (hq : ∀ x : S256x256.Idx, qv x = q (512 * j + 0 + (x 0).val) (256 * hh + (x 1).val))
    (hd : ∀ x : S256x256.Idx, dv x = dprod v u hh (x 0).val (512 * j + 0 + (x 1).val))
    (hp : ∀ x : S256x256.Idx, p x = weight j q k ls hh (x 0).val (512 * j + 0 + (x 1).val))
    (hl8 : ∀ x : S1x1x1x512.Idx, l8 x = dl hh (512 * j + (x 3).val)) (x : S256x256.Idx) :
    k0_pay51 (F := Ideal) qv dv p l8 o x = o x + halfK j q k v u ls dl 0 hh (x 0).val (x 1).val := by
  unfold k0_pay51 k0_pay50
  pointwise
  simp only [hp, hd, hl8, hq]
  refine congrArg (o _ + ·) (Finset.sum_congr rfl fun y _ => ?_)
  rw [dscore]
  rfl

theorem pay64_add (qv : FVec Ideal S256x256 .bf16) (dv : FVec Ideal S512x256 .f32) (p : FVec Ideal S512x256 .f32) (l8 : Vec Ideal S1x1x1x512 .f32) (o : Vec Ideal S512x256 .f32)
    (hq : ∀ x : S256x256.Idx, qv x = q (512 * j + 256 + (x 0).val) (256 * hh + (x 1).val))
    (hd : ∀ x : S512x256.Idx, dv x = dprod v u hh (x 0).val (512 * j + 256 + (x 1).val))
    (hp : ∀ x : S512x256.Idx, p x = weight j q k ls hh (x 0).val (512 * j + 256 + (x 1).val))
    (hl8 : ∀ x : S1x1x1x512.Idx, l8 x = dl hh (512 * j + (x 3).val)) (x : S512x256.Idx) :
    k0_pay64 (F := Ideal) qv dv p l8 o x = o x + halfK j q k v u ls dl 256 hh (x 0).val (x 1).val := by
  unfold k0_pay64 k0_pay63
  pointwise
  simp only [hp, hd, hl8, hq]
  refine congrArg (o _ + ·) (Finset.sum_congr rfl fun y _ => ?_)
  rw [dscore]
  show _ * (_ - dl hh (512 * j + (256 + y.val))) * _ = _
  rw [← Nat.add_assoc]
  rfl

theorem pay69_add (qv : FVec Ideal S256x256 .bf16) (dv : FVec Ideal S512x256 .f32) (p : FVec Ideal S512x256 .f32) (l8 : Vec Ideal S1x1x1x512 .f32) (o : Vec Ideal S512x256 .f32)
    (hq : ∀ x : S256x256.Idx, qv x = q (512 * j + 256 + (x 0).val) (256 * hh + (x 1).val))
    (hd : ∀ x : S512x256.Idx, dv x = dprod v u hh (x 0).val (512 * j + 256 + (x 1).val))
    (hp : ∀ x : S512x256.Idx, p x = weight j q k ls hh (x 0).val (512 * j + 256 + (x 1).val))
    (hl8 : ∀ x : S1x1x1x512.Idx, l8 x = dl hh (512 * j + (x 3).val)) (x : S512x256.Idx) :
    k0_pay69 (F := Ideal) qv dv p l8 o x = o x + halfK j q k v u ls dl 256 hh (x 0).val (x 1).val := by
  exact pay64_add j q k v u ls dl hh qv dv p l8 o hq hd hp hl8 x

theorem pay46_add (qv : FVec Ideal S256x256 .bf16) (sv dv : FVec Ideal S256x256 .f32) (l l8 : Vec Ideal S1x1x1x512 .f32) (o : Vec Ideal S256x256 .f32)
    (hq : ∀ x : S256x256.Idx, qv x = q (512 * j + 0 + (x 0).val) (256 * hh + (x 1).val))
    (hs : ∀ x : S256x256.Idx, sv x = score q k hh (x 0).val (512 * j + 0 + (x 1).val))
    (hd : ∀ x : S256x256.Idx, dv x = dprod v u hh (x 0).val (512 * j + 0 + (x 1).val))
    (hl : ∀ x : S1x1x1x512.Idx, l x = ls hh (512 * j + (x 3).val))
    (hl8 : ∀ x : S1x1x1x512.Idx, l8 x = dl hh (512 * j + (x 3).val)) (x : S256x256.Idx) :
    k0_pay46 (F := Ideal) (k0_pay45 qv sv dv l l8 o) x = o x + halfK j q k v u ls dl 0 hh (x 0).val (x 1).val :=
  pay51_add j q k v u ls dl hh qv dv (k0_pay42 sv l) l8 o hq hd (pay42_at j q k ls hh sv l hs hl) hl8 x

theorem pay52_add (dv : FVec Ideal S256x256 .f32) (p : FVec Ideal S256x256 .f32) (l8 : Vec Ideal S1x1x1x512 .f32) (o : Vec Ideal S1x1x256x256 .f32) (t : Vec Ideal S256x256 .bf16)
    (hd : ∀ x : S256x256.Idx, dv x = dprod v u hh (x 0).val (512 * j + 0 + (x 1).val))
    (hp : ∀ x : S256x256.Idx, p x = weight j q k ls hh (x 0).val (512 * j + 0 + (x 1).val))
    (hl8 : ∀ x : S1x1x1x512.Idx, l8 x = dl hh (512 * j + (x 3).val))
    (ht : ∀ x : S256x256.Idx, t x = kt (256 * hh + (x 0).val) (x 1).val) (x : S1x1x256x256.Idx) :
    k0_pay52 (F := Ideal) dv p l8 o t x = o x + addQ j q k kt v u ls dl hh (x 2).val (512 * j + 0 + (x 3).val) := by
  have h3 : (x 3).val < 256 := (x 3).isLt
  unfold k0_pay52 k0_pay50
  pointwise
  simp only [hp, hd, hl8, ht]
  rw [← addQ_half j q k kt v u ls dl hh _ _ (by omega)]
  refine congrArg₂ (· + ·) (congrArg o (funext fun i => Fin.ext (by have := (x 0).isLt; have := (x 1).isLt; fin_cases i <;> simp [ix4]))) (Finset.sum_congr rfl fun y _ => ?_)
  rw [dscore]
  rfl

theorem pay65_add (dv : FVec Ideal S512x256 .f32) (p : FVec Ideal S512x256 .f32) (l8 : Vec Ideal S1x1x1x512 .f32) (o : Vec Ideal S1x1x256x256 .f32) (t : Vec Ideal S256x512 .bf16)
    (hd : ∀ x : S512x256.Idx, dv x = dprod v u hh (x 0).val (512 * j + 256 + (x 1).val))
    (hp : ∀ x : S512x256.Idx, p x = weight j q k ls hh (x 0).val (512 * j + 256 + (x 1).val))
    (hl8 : ∀ x : S1x1x1x512.Idx, l8 x = dl hh (512 * j + (x 3).val))
    (ht : ∀ x : S256x512.Idx, t x = kt (256 * hh + (x 0).val) (x 1).val) (x : S1x1x256x256.Idx) :
    k0_pay65 (F := Ideal) dv p l8 o t x = o x + addQ j q k kt v u ls dl hh (x 2).val (512 * j + 256 + (x 3).val) := by
  have h3 : (x 3).val < 256 := (x 3).isLt
  unfold k0_pay65 k0_pay63
  pointwise
  simp only [hp, hd, hl8, ht]
  refine congrArg₂ (· + ·) (congrArg o (funext fun i => Fin.ext (by have := (x 0).isLt; have := (x 1).isLt; fin_cases i <;> simp [ix4]))) (Finset.sum_congr rfl fun y _ => ?_)
  rw [dscore]
  show _ * (_ * (_ - dl hh (512 * j + (256 + (x 3).val)))) = _
  rw [← Nat.add_assoc]
  rfl

theorem pay70_add (dv : FVec Ideal S512x256 .f32) (p : FVec Ideal S512x256 .f32) (l8 : Vec Ideal S1x1x1x512 .f32) (o : Vec Ideal S1x1x256x256 .f32) (t : Vec Ideal S256x512 .bf16)
    (hd : ∀ x : S512x256.Idx, dv x = dprod v u hh (x 0).val (512 * j + 256 + (x 1).val))
    (hp : ∀ x : S512x256.Idx, p x = weight j q k ls hh (x 0).val (512 * j + 256 + (x 1).val))
    (hl8 : ∀ x : S1x1x1x512.Idx, l8 x = dl hh (512 * j + (x 3).val))
    (ht : ∀ x : S256x512.Idx, t x = kt (256 * hh + (x 0).val) (x 1).val) (x : S1x1x256x256.Idx) :
    k0_pay70 (F := Ideal) dv p l8 o t x = o x + addQ j q k kt v u ls dl hh (x 2).val (512 * j + 256 + (x 3).val) := by
  exact pay65_add j q k kt v u ls dl hh dv p l8 o t hd hp hl8 ht x

theorem pay47_add (sv dv : FVec Ideal S256x256 .f32) (l l8 : Vec Ideal S1x1x1x512 .f32) (o : Vec Ideal S1x1x256x256 .f32) (t : Vec Ideal S256x256 .bf16)
    (hs : ∀ x : S256x256.Idx, sv x = score q k hh (x 0).val (512 * j + 0 + (x 1).val))
    (hd : ∀ x : S256x256.Idx, dv x = dprod v u hh (x 0).val (512 * j + 0 + (x 1).val))
    (hl : ∀ x : S1x1x1x512.Idx, l x = ls hh (512 * j + (x 3).val))
    (hl8 : ∀ x : S1x1x1x512.Idx, l8 x = dl hh (512 * j + (x 3).val))
    (ht : ∀ x : S256x256.Idx, t x = kt (256 * hh + (x 0).val) (x 1).val) (x : S1x1x256x256.Idx) :
    k0_pay47 (F := Ideal) (k0_pay44 sv dv l l8) o t x = o x + addQ j q k kt v u ls dl hh (x 2).val (512 * j + 0 + (x 3).val) :=
  pay52_add j q k kt v u ls dl hh dv (k0_pay42 sv l) l8 o t hd (pay42_at j q k ls hh sv l hs hl) hl8 ht x

theorem pay36_at (a : Vec Ideal S256x256 .bf16) (c : Vec Ideal S256x256 .bf16) (ha : ∀ x : S256x256.Idx, a x = q (512 * j + 0 + (x 0).val) (256 * hh + (x 1).val))
    (hc : ∀ x : S256x256.Idx, c x = k (x 0).val (256 * hh + (x 1).val)) (x : S256x256.Idx) :
    k0_pay36 (F := Ideal) a c x = score q k hh (x 0).val (512 * j + 0 + (x 1).val) := by
  unfold k0_pay36 k0_pay34
  pointwise
  simp only [ha, hc]
  rfl

theorem pay37_at (a : Vec Ideal S256x128 .bf16) (c : Vec Ideal S256x128 .bf16) (ha : ∀ x : S256x128.Idx, a x = u (512 * j + 0 + (x 0).val) (128 * hh + (x 1).val))
    (hc : ∀ x : S256x128.Idx, c x = v (x 0).val (128 * hh + (x 1).val)) (x : S256x256.Idx) :
    k0_pay37 (F := Ideal) a c x = dprod v u hh (x 0).val (512 * j + 0 + (x 1).val) := by
  unfold k0_pay37 k0_pay35
  pointwise
  simp only [ha, hc]
  rfl

theorem pay40_at (a : Vec Ideal S256x256 .bf16) (c : Vec Ideal S256x256 .bf16) (ha : ∀ x : S256x256.Idx, a x = q (512 * j + 0 + (x 0).val) (256 * hh + (x 1).val))
    (hc : ∀ x : S256x256.Idx, c x = k (x 0).val (256 * hh + (x 1).val)) (x : S256x256.Idx) :
    k0_pay40 (F := Ideal) a c x = score q k hh (x 0).val (512 * j + 0 + (x 1).val) := by
  unfold k0_pay40
  pointwise
  simp only [ha, hc]
  rfl

theorem pay41_at (a : Vec Ideal S256x128 .bf16) (c : Vec Ideal S256x128 .bf16) (ha : ∀ x : S256x128.Idx, a x = u (512 * j + 0 + (x 0).val) (128 * hh + (x 1).val))
    (hc : ∀ x : S256x128.Idx, c x = v (x 0).val (128 * hh + (x 1).val)) (x : S256x256.Idx) :
    k0_pay41 (F := Ideal) a c x = dprod v u hh (x 0).val (512 * j + 0 + (x 1).val) := by
  unfold k0_pay41
  pointwise
  simp only [ha, hc]
  rfl

theorem pay55_at (a : Vec Ideal S256x256 .bf16) (c : Vec Ideal S512x256 .bf16) (ha : ∀ x : S256x256.Idx, a x = q (512 * j + 256 + (x 0).val) (256 * hh + (x 1).val))
    (hc : ∀ x : S512x256.Idx, c x = k (x 0).val (256 * hh + (x 1).val)) (x : S512x256.Idx) :
    k0_pay55 (F := Ideal) a c x = score q k hh (x 0).val (512 * j + 256 + (x 1).val) := by
  unfold k0_pay55 k0_pay53
  pointwise
  simp only [ha, hc]
  rfl

theorem pay56_at (a : Vec Ideal S256x128 .bf16) (c : Vec Ideal S512x128 .bf16) (ha : ∀ x : S256x128.Idx, a x = u (512 * j + 256 + (x 0).val) (128 * hh + (x 1).val))
    (hc : ∀ x : S512x128.Idx, c x = v (x 0).val (128 * hh + (x 1).val)) (x : S512x256.Idx) :
    k0_pay56 (F := Ideal) a c x = dprod v u hh (x 0).val (512 * j + 256 + (x 1).val) := by
  unfold k0_pay56
  pointwise
  simp only [ha, hc]
  rfl

theorem pay59_at (a : Vec Ideal S256x256 .bf16) (c : Vec Ideal S512x256 .bf16) (ha : ∀ x : S256x256.Idx, a x = q (512 * j + 256 + (x 0).val) (256 * hh + (x 1).val))
    (hc : ∀ x : S512x256.Idx, c x = k (x 0).val (256 * hh + (x 1).val)) (x : S512x256.Idx) :
    k0_pay59 (F := Ideal) a c x = score q k hh (x 0).val (512 * j + 256 + (x 1).val) := by
  unfold k0_pay59 k0_pay57
  pointwise
  simp only [ha, hc]
  rfl

theorem pay60_at (a : Vec Ideal S256x128 .bf16) (c : Vec Ideal S512x128 .bf16) (ha : ∀ x : S256x128.Idx, a x = u (512 * j + 256 + (x 0).val) (128 * hh + (x 1).val))
    (hc : ∀ x : S512x128.Idx, c x = v (x 0).val (128 * hh + (x 1).val)) (x : S512x256.Idx) :
    k0_pay60 (F := Ideal) a c x = dprod v u hh (x 0).val (512 * j + 256 + (x 1).val) := by
  unfold k0_pay60 k0_pay58
  pointwise
  simp only [ha, hc]
  rfl

end Masked

end Cert.AttnIdeal.Body
-- ==== Proof.AttnHead.lean ====
/- The diagonal block's stores, one head and one half at a time. -/
module

public import proofs.«01_k».proof.Proof.AttnDiag

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The four quarters of two columns of sums, the upper rows taking both. -/
theorem four (A1 A2 A3 A4 : ℕ → ℕ → EReal) (C y0 y1 : ℕ) (h0 : y0 < 512) (h1 : y1 < C + C) :
    (0 : EReal) + (if 0 ≤ y0 ∧ y0 < 0 + 256 ∧ 0 ≤ y1 ∧ y1 < 0 + C then A1 (y0 - 0) (y1 - 0) else 0)
      + (if 0 ≤ y0 ∧ y0 < 0 + 256 ∧ C ≤ y1 ∧ y1 < C + C then A2 (y0 - 0) (y1 - C) else 0)
      + (if 0 ≤ y0 ∧ y0 < 0 + 512 ∧ 0 ≤ y1 ∧ y1 < 0 + C then A3 (y0 - 0) (y1 - 0) else 0)
      + (if 0 ≤ y0 ∧ y0 < 0 + 512 ∧ C ≤ y1 ∧ y1 < C + C then A4 (y0 - 0) (y1 - C) else 0)
      = if y1 < C then (if y0 < 256 then A1 y0 y1 else 0) + A3 y0 y1 else (if y0 < 256 then A2 y0 (y1 - C) else 0) + A4 y0 (y1 - C) := by
  simp only [Nat.sub_zero, zero_add]
  by_cases h : y1 < C
  · rw [if_pos h, if_neg (c := 0 ≤ y0 ∧ y0 < 256 ∧ C ≤ y1 ∧ y1 < C + C) (by omega), if_neg (c := 0 ≤ y0 ∧ y0 < 512 ∧ C ≤ y1 ∧ y1 < C + C) (by omega), if_pos (c := 0 ≤ y0 ∧ y0 < 512 ∧ 0 ≤ y1 ∧ y1 < C) (by omega), add_zero, add_zero]
    exact congrArg (· + _) (if_congr (by omega) rfl rfl)
  · rw [if_neg h, if_neg (c := 0 ≤ y0 ∧ y0 < 256 ∧ 0 ≤ y1 ∧ y1 < C) (by omega), if_neg (c := 0 ≤ y0 ∧ y0 < 512 ∧ 0 ≤ y1 ∧ y1 < C) (by omega), if_pos (c := 0 ≤ y0 ∧ y0 < 512 ∧ C ≤ y1 ∧ y1 < C + C) (by omega), add_zero, zero_add]
    exact congrArg (· + _) (if_congr (by omega) rfl rfl)

section Diagonal

variable (j : ℕ) (q k kt v u : ℕ → ℕ → EReal) (ls dl : ℕ → ℕ → EReal)
  (q00 q10 q01 q11 : FVec Ideal S256x256 .bf16) (u00 u10 u01 u11 : FVec Ideal S256x128 .bf16)
  (s00 s10 d00 d10 p10 : FVec Ideal S256x256 .f32) (s01 d01 d11 p01 p11 : FVec Ideal S512x256 .f32)
  (l0 l1 e0 e1 e2 e3 : Vec Ideal S1x1x1x512 .f32) (t00 t10 : Vec Ideal S256x256 .bf16) (t01 t11 : Vec Ideal S256x512 .bf16)
  (hq00 : ∀ x : S256x256.Idx, q00 x = q (512 * j + 0 + (x 0).val) (256 * 0 + (x 1).val))
  (hu00 : ∀ x : S256x128.Idx, u00 x = u (512 * j + 0 + (x 0).val) (128 * 0 + (x 1).val))
  (hq01 : ∀ x : S256x256.Idx, q01 x = q (512 * j + 256 + (x 0).val) (256 * 0 + (x 1).val))
  (hu01 : ∀ x : S256x128.Idx, u01 x = u (512 * j + 256 + (x 0).val) (128 * 0 + (x 1).val))
  (hq10 : ∀ x : S256x256.Idx, q10 x = q (512 * j + 0 + (x 0).val) (256 * 1 + (x 1).val))
  (hu10 : ∀ x : S256x128.Idx, u10 x = u (512 * j + 0 + (x 0).val) (128 * 1 + (x 1).val))
  (hq11 : ∀ x : S256x256.Idx, q11 x = q (512 * j + 256 + (x 0).val) (256 * 1 + (x 1).val))
  (hu11 : ∀ x : S256x128.Idx, u11 x = u (512 * j + 256 + (x 0).val) (128 * 1 + (x 1).val))
  (hs00 : ∀ x : S256x256.Idx, s00 x = score q k 0 (x 0).val (512 * j + 0 + (x 1).val))
  (hs10 : ∀ x : S256x256.Idx, s10 x = score q k 1 (x 0).val (512 * j + 0 + (x 1).val))
  (hd00 : ∀ x : S256x256.Idx, d00 x = dprod v u 0 (x 0).val (512 * j + 0 + (x 1).val))
  (hd10 : ∀ x : S256x256.Idx, d10 x = dprod v u 1 (x 0).val (512 * j + 0 + (x 1).val))
  (hp10 : ∀ x : S256x256.Idx, p10 x = weight j q k ls 1 (x 0).val (512 * j + 0 + (x 1).val))
  (hs01 : ∀ x : S512x256.Idx, s01 x = score q k 0 (x 0).val (512 * j + 256 + (x 1).val))
  (hd01 : ∀ x : S512x256.Idx, d01 x = dprod v u 0 (x 0).val (512 * j + 256 + (x 1).val))
  (hd11 : ∀ x : S512x256.Idx, d11 x = dprod v u 1 (x 0).val (512 * j + 256 + (x 1).val))
  (hp01 : ∀ x : S512x256.Idx, p01 x = weight j q k ls 0 (x 0).val (512 * j + 256 + (x 1).val))
  (hp11 : ∀ x : S512x256.Idx, p11 x = weight j q k ls 1 (x 0).val (512 * j + 256 + (x 1).val))
  (hl0 : ∀ x : S1x1x1x512.Idx, l0 x = ls 0 (512 * j + (x 3).val))
  (hl1 : ∀ x : S1x1x1x512.Idx, l1 x = ls 1 (512 * j + (x 3).val))
  (he0 : ∀ x : S1x1x1x512.Idx, e0 x = dl 0 (512 * j + (x 3).val))
  (he1 : ∀ x : S1x1x1x512.Idx, e1 x = dl 1 (512 * j + (x 3).val))
  (he2 : ∀ x : S1x1x1x512.Idx, e2 x = dl 0 (512 * j + (x 3).val))
  (he3 : ∀ x : S1x1x1x512.Idx, e3 x = dl 1 (512 * j + (x 3).val))
  (ht00 : ∀ x : S256x256.Idx, t00 x = kt (256 * 0 + (x 0).val) (x 1).val)
  (ht01 : ∀ x : S256x512.Idx, t01 x = kt (256 * 0 + (x 0).val) (x 1).val)
  (ht10 : ∀ x : S256x256.Idx, t10 x = kt (256 * 1 + (x 0).val) (x 1).val)
  (ht11 : ∀ x : S256x512.Idx, t11 x = kt (256 * 1 + (x 0).val) (x 1).val)

include hu00 hu10 hu01 hu11 hs00 hs10 hs01 hp11 hl0 hl1 in
theorem diag14 (arg14 : Memref sig .tc .vmem S512x256 .f32) (L0 L1 L2 L3 : List (View.Piece (Elt Ideal) S512x256 .f32)) (z : S512x256.Idx → Elt Ideal .f32) (hz : ∀ x, z x = (0 : EReal))
    (iz i0 i1 i2 i3 r0 r1 r2 r3)
    (h0 : L0 = [(⟨Rect.unit (s := S512x256) ![0, 0] S512x256.size iz, z⟩ : View.Piece (Elt Ideal) S512x256 .f32)])
    (h1 : L1 = (⟨Rect.unit (s := S512x256) ![0, 0] S256x128.size i0, k0_pay43 u00 s00 l0 (arg14.view.readCov (Val := Elt Ideal) L0 (Rect.unit (s := S512x256) ![0, 0] S256x128.size r0).toLoadRect)⟩ : View.Piece (Elt Ideal) S512x256 .f32) :: L0)
    (h2 : L2 = (⟨Rect.unit (s := S512x256) ![0, 128] S256x128.size i1, k0_pay49 u10 s10 l1 (arg14.view.readCov (Val := Elt Ideal) L1 (Rect.unit (s := S512x256) ![0, 128] S256x128.size r1).toLoadRect)⟩ : View.Piece (Elt Ideal) S512x256 .f32) :: L1)
    (h3 : L3 = (⟨Rect.unit (s := S512x256) ![0, 0] S512x128.size i2, k0_pay62 u01 s01 l0 (arg14.view.readCov (Val := Elt Ideal) L2 (Rect.unit (s := S512x256) ![0, 0] S512x128.size r2).toLoadRect)⟩ : View.Piece (Elt Ideal) S512x256 .f32) :: L2)
    (y : S512x256.Idx) :
    arg14.view.read (Elt Ideal) (arg14.view.writes (Elt Ideal) arg14.view.junk ((⟨Rect.unit (s := S512x256) ![0, 128] S512x128.size i3, k0_pay67 u11 p11 (arg14.view.readCov (Val := Elt Ideal) L3 (Rect.unit (s := S512x256) ![0, 128] S512x128.size r3).toLoadRect)⟩ : View.Piece (Elt Ideal) S512x256 .f32) :: L3)) y
      = addV j q k u ls j ((y 1).val / 128) (y 0).val ((y 1).val % 128) := by
  have a0 : (y 0).val < 512 := (y 0).isLt
  have a1 : (y 1).val < 256 := (y 1).isLt
  rw [accum2 arg14.view arg14.view.junk L3 rfl i3 r3 (k0_pay67 u11 p11 (arg14.view.readCov (Val := Elt Ideal) L3 (Rect.unit (s := S512x256) ![0, 128] S512x128.size r3).toLoadRect)) (halfV j q k u ls 256 1) (fun x => pay67_add j q k u ls 1 u11 p11 _ hu11 hp11 x)]
  subst h3
  rw [accum2 arg14.view arg14.view.junk L2 rfl i2 r2 (k0_pay62 u01 s01 l0 (arg14.view.readCov (Val := Elt Ideal) L2 (Rect.unit (s := S512x256) ![0, 0] S512x128.size r2).toLoadRect)) (halfV j q k u ls 256 0) (fun x => pay62_add j q k u ls 0 u01 s01 l0 _ hu01 hs01 hl0 x)]
  subst h2
  rw [accum2 arg14.view arg14.view.junk L1 rfl i1 r1 (k0_pay49 u10 s10 l1 (arg14.view.readCov (Val := Elt Ideal) L1 (Rect.unit (s := S512x256) ![0, 128] S256x128.size r1).toLoadRect)) (halfV j q k u ls 0 1) (fun x => pay49_add j q k u ls 1 u10 s10 l1 _ hu10 hs10 hl1 x)]
  subst h1
  rw [accum2 arg14.view arg14.view.junk L0 rfl i0 r0 (k0_pay43 u00 s00 l0 (arg14.view.readCov (Val := Elt Ideal) L0 (Rect.unit (s := S512x256) ![0, 0] S256x128.size r0).toLoadRect)) (halfV j q k u ls 0 0) (fun x => pay43_add j q k u ls 0 u00 s00 l0 _ hu00 hs00 hl0 x)]
  subst h0
  rw [mem2 arg14.view arg14.view.junk rfl iz z [] y y (by simp) (by simp), hz]
  refine (four _ _ _ _ 128 _ _ a0 a1).trans ?_
  by_cases h : (y 1).val < 128
  · rw [if_pos h, addV_halves, Nat.div_eq_of_lt h, Nat.mod_eq_of_lt h]
  · rw [if_neg h, addV_halves, show (y 1).val / 128 = 1 by omega, show (y 1).val % 128 = (y 1).val - 128 by omega]

include hq00 hq10 hq01 hq11 hs00 hd00 hd10 hd01 hd11 hp10 hp01 hp11 hl0 he0 he1 he2 he3 in
theorem diag13 (arg13 : Memref sig .tc .vmem S512x512 .f32) (L0 L1 L2 L3 : List (View.Piece (Elt Ideal) S512x512 .f32)) (z : S512x512.Idx → Elt Ideal .f32) (hz : ∀ x, z x = (0 : EReal))
    (iz i0 i1 i2 i3 r0 r1 r2 r3)
    (h0 : L0 = [(⟨Rect.unit (s := S512x512) ![0, 0] S512x512.size iz, z⟩ : View.Piece (Elt Ideal) S512x512 .f32)])
    (h1 : L1 = (⟨Rect.unit (s := S512x512) ![0, 0] S256x256.size i0, k0_pay46 (k0_pay45 q00 s00 d00 l0 e0 (arg13.view.readCov (Val := Elt Ideal) L0 (Rect.unit (s := S512x512) ![0, 0] S256x256.size r0).toLoadRect))⟩ : View.Piece (Elt Ideal) S512x512 .f32) :: L0)
    (h2 : L2 = (⟨Rect.unit (s := S512x512) ![0, 256] S256x256.size i1, k0_pay51 q10 d10 p10 e1 (arg13.view.readCov (Val := Elt Ideal) L1 (Rect.unit (s := S512x512) ![0, 256] S256x256.size r1).toLoadRect)⟩ : View.Piece (Elt Ideal) S512x512 .f32) :: L1)
    (h3 : L3 = (⟨Rect.unit (s := S512x512) ![0, 0] S512x256.size i2, k0_pay64 q01 d01 p01 e2 (arg13.view.readCov (Val := Elt Ideal) L2 (Rect.unit (s := S512x512) ![0, 0] S512x256.size r2).toLoadRect)⟩ : View.Piece (Elt Ideal) S512x512 .f32) :: L2)
    (y : S512x512.Idx) :
    arg13.view.read (Elt Ideal) (arg13.view.writes (Elt Ideal) arg13.view.junk ((⟨Rect.unit (s := S512x512) ![0, 256] S512x256.size i3, k0_pay69 q11 d11 p11 e3 (arg13.view.readCov (Val := Elt Ideal) L3 (Rect.unit (s := S512x512) ![0, 256] S512x256.size r3).toLoadRect)⟩ : View.Piece (Elt Ideal) S512x512 .f32) :: L3)) y
      = addK j q k v u ls dl j ((y 1).val / 256) (y 0).val ((y 1).val % 256) := by
  have a0 : (y 0).val < 512 := (y 0).isLt
  have a1 : (y 1).val < 512 := (y 1).isLt
  rw [accum2 arg13.view arg13.view.junk L3 rfl i3 r3 (k0_pay69 q11 d11 p11 e3 (arg13.view.readCov (Val := Elt Ideal) L3 (Rect.unit (s := S512x512) ![0, 256] S512x256.size r3).toLoadRect)) (halfK j q k v u ls dl 256 1) (fun x => pay69_add j q k v u ls dl 1 q11 d11 p11 e3 _ hq11 hd11 hp11 he3 x)]
  subst h3
  rw [accum2 arg13.view arg13.view.junk L2 rfl i2 r2 (k0_pay64 q01 d01 p01 e2 (arg13.view.readCov (Val := Elt Ideal) L2 (Rect.unit (s := S512x512) ![0, 0] S512x256.size r2).toLoadRect)) (halfK j q k v u ls dl 256 0) (fun x => pay64_add j q k v u ls dl 0 q01 d01 p01 e2 _ hq01 hd01 hp01 he2 x)]
  subst h2
  rw [accum2 arg13.view arg13.view.junk L1 rfl i1 r1 (k0_pay51 q10 d10 p10 e1 (arg13.view.readCov (Val := Elt Ideal) L1 (Rect.unit (s := S512x512) ![0, 256] S256x256.size r1).toLoadRect)) (halfK j q k v u ls dl 0 1) (fun x => pay51_add j q k v u ls dl 1 q10 d10 p10 e1 _ hq10 hd10 hp10 he1 x)]
  subst h1
  rw [accum2 arg13.view arg13.view.junk L0 rfl i0 r0 (k0_pay46 (k0_pay45 q00 s00 d00 l0 e0 (arg13.view.readCov (Val := Elt Ideal) L0 (Rect.unit (s := S512x512) ![0, 0] S256x256.size r0).toLoadRect))) (halfK j q k v u ls dl 0 0) (fun x => pay46_add j q k v u ls dl 0 q00 s00 d00 l0 e0 _ hq00 hs00 hd00 hl0 he0 x)]
  subst h0
  rw [mem2 arg13.view arg13.view.junk rfl iz z [] y y (by simp) (by simp), hz]
  refine (four _ _ _ _ 256 _ _ a0 a1).trans ?_
  by_cases h : (y 1).val < 256
  · rw [if_pos h, addK_halves, Nat.div_eq_of_lt h, Nat.mod_eq_of_lt h]
  · rw [if_neg h, addK_halves, show (y 1).val / 256 = 1 by omega, show (y 1).val % 256 = (y 1).val - 256 by omega]

include hs00 hl0 hd00 hd10 hd01 hd11 hp10 hp01 hp11 he0 he1 he2 he3 ht00 ht10 ht01 ht11 in
theorem diag12 (arg12 : Memref sig .tc .vmem S2x8x256x512 .f32) (f12 : BufTy.Contents (Elt Ideal) arg12.view.ty) {o0 o1 o2 o3 : Fin 4 → ℕ}
    (g0 : o0 = ![0, j, 0, 0]) (g1 : o1 = ![1, j, 0, 0]) (g2 : o2 = ![0, j, 0, 256]) (g3 : o3 = ![1, j, 0, 256])
    (i0 i1 i2 i3 r0 r1 r2 r3) (y : S2x8x256x512.Idx) :
    arg12.view.read (Elt Ideal) (arg12.view.writes (Elt Ideal) f12
      [(⟨Rect.unit (s := S2x8x256x512) o3 S1x1x256x256.size i3, k0_pay70 d11 p11 e3 (arg12.view.readAt (Elt Ideal) (Rect.unit (s := S2x8x256x512) o3 S1x1x256x256.size r3).toLoadRect f12) t11⟩ : View.Piece (Elt Ideal) S2x8x256x512 .f32),
       (⟨Rect.unit (s := S2x8x256x512) o2 S1x1x256x256.size i2, k0_pay65 d01 p01 e2 (arg12.view.readAt (Elt Ideal) (Rect.unit (s := S2x8x256x512) o2 S1x1x256x256.size r2).toLoadRect f12) t01⟩ : View.Piece (Elt Ideal) S2x8x256x512 .f32),
       (⟨Rect.unit (s := S2x8x256x512) o1 S1x1x256x256.size i1, k0_pay52 d10 p10 e1 (arg12.view.readAt (Elt Ideal) (Rect.unit (s := S2x8x256x512) o1 S1x1x256x256.size r1).toLoadRect f12) t10⟩ : View.Piece (Elt Ideal) S2x8x256x512 .f32),
       (⟨Rect.unit (s := S2x8x256x512) o0 S1x1x256x256.size i0, k0_pay47 (k0_pay44 s00 d00 l0 e0) (arg12.view.readAt (Elt Ideal) (Rect.unit (s := S2x8x256x512) o0 S1x1x256x256.size r0).toLoadRect f12) t00⟩ : View.Piece (Elt Ideal) S2x8x256x512 .f32)]) y
      = if (y 1).val = j then (arg12.view.read (Elt Ideal) f12 y : EReal) + addQ j q k kt v u ls dl (y 0).val (y 2).val (512 * j + (y 3).val) else arg12.view.read (Elt Ideal) f12 y := by
  have hy : (y 0).val < 2 := (y 0).isLt
  have hy3 : (y 3).val < 512 := (y 3).isLt
  by_cases hb : (y 1).val = j
  · rw [if_pos hb]
    rcases (by omega : (y 0).val = 0 ∨ (y 0).val = 1) with h | h
    · by_cases h3 : (y 3).val < 256
      · rw [View.read_writes_cons_unit_of_not_mem arg12.view _ _ _ _ y g3 0 (by simp; omega), View.read_writes_cons_unit_of_not_mem arg12.view _ _ _ _ y g2 3 (by simp; omega), View.read_writes_cons_unit_of_not_mem arg12.view _ _ _ _ y g1 0 (by simp; omega), mem4 arg12.view f12 g0 _ _ _ y (ix4 (0 : Fin 1) (0 : Fin 1) (y 2) ⟨(y 3).val, by omega⟩ : S1x1x256x256.Idx) (by simp [ix4, h]) (by simp [ix4, hb]) (by simp [ix4]) (by simp [ix4]), pay47_add j q k kt v u ls dl 0 s00 d00 l0 e0 _ t00 hs00 hd00 hl0 he0 ht00, at4 arg12.view f12 g0 S1x1x256x256.size _ _ y (by simp [ix4, h]) (by simp [ix4, hb]) (by simp [ix4]) (by simp [ix4])]
        refine congrArg _ ?_
        rw [h]
        exact congrArg (addQ j q k kt v u ls dl 0 (y 2).val) (by show 512 * j + 0 + ((y 3).val) = _; omega)
      · rw [View.read_writes_cons_unit_of_not_mem arg12.view _ _ _ _ y g3 0 (by simp; omega), mem4 arg12.view f12 g2 _ _ _ y (ix4 (0 : Fin 1) (0 : Fin 1) (y 2) ⟨(y 3).val - 256, by omega⟩ : S1x1x256x256.Idx) (by simp [ix4, h]) (by simp [ix4, hb]) (by simp [ix4]) (by simp [ix4]; omega), pay65_add j q k kt v u ls dl 0 d01 p01 e2 _ t01 hd01 hp01 he2 ht01, at4 arg12.view f12 g2 S1x1x256x256.size _ _ y (by simp [ix4, h]) (by simp [ix4, hb]) (by simp [ix4]) (by simp [ix4]; omega)]
        refine congrArg _ ?_
        rw [h]
        exact congrArg (addQ j q k kt v u ls dl 0 (y 2).val) (by show 512 * j + 256 + ((y 3).val - 256) = _; omega)
    · by_cases h3 : (y 3).val < 256
      · rw [View.read_writes_cons_unit_of_not_mem arg12.view _ _ _ _ y g3 3 (by simp; omega), View.read_writes_cons_unit_of_not_mem arg12.view _ _ _ _ y g2 0 (by simp; omega), mem4 arg12.view f12 g1 _ _ _ y (ix4 (0 : Fin 1) (0 : Fin 1) (y 2) ⟨(y 3).val, by omega⟩ : S1x1x256x256.Idx) (by simp [ix4, h]) (by simp [ix4, hb]) (by simp [ix4]) (by simp [ix4]), pay52_add j q k kt v u ls dl 1 d10 p10 e1 _ t10 hd10 hp10 he1 ht10, at4 arg12.view f12 g1 S1x1x256x256.size _ _ y (by simp [ix4, h]) (by simp [ix4, hb]) (by simp [ix4]) (by simp [ix4])]
        refine congrArg _ ?_
        rw [h]
        exact congrArg (addQ j q k kt v u ls dl 1 (y 2).val) (by show 512 * j + 0 + ((y 3).val) = _; omega)
      · rw [mem4 arg12.view f12 g3 _ _ _ y (ix4 (0 : Fin 1) (0 : Fin 1) (y 2) ⟨(y 3).val - 256, by omega⟩ : S1x1x256x256.Idx) (by simp [ix4, h]) (by simp [ix4, hb]) (by simp [ix4]) (by simp [ix4]; omega), pay70_add j q k kt v u ls dl 1 d11 p11 e3 _ t11 hd11 hp11 he3 ht11, at4 arg12.view f12 g3 S1x1x256x256.size _ _ y (by simp [ix4, h]) (by simp [ix4, hb]) (by simp [ix4]) (by simp [ix4]; omega)]
        refine congrArg _ ?_
        rw [h]
        exact congrArg (addQ j q k kt v u ls dl 1 (y 2).val) (by show 512 * j + 256 + ((y 3).val - 256) = _; omega)
  · rw [if_neg hb, View.read_writes_cons_unit_of_not_mem arg12.view _ _ _ _ y g3 1 (by simp; omega), View.read_writes_cons_unit_of_not_mem arg12.view _ _ _ _ y g2 1 (by simp; omega), View.read_writes_cons_unit_of_not_mem arg12.view _ _ _ _ y g1 1 (by simp; omega), View.read_writes_cons_unit_of_not_mem arg12.view _ _ _ _ y g0 1 (by simp; omega)]
    rfl

end Diagonal

end Cert.AttnIdeal.Body
-- ==== Proof.AttnTrip.lean ====
/- One trip of the kernel's loop over the blocks of queries after the diagonal. -/
module

public import proofs.«01_k».proof.Proof.AttnSums
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- One trip of the loop adds one block of the queries. -/
theorem trip (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole) (v247 v248 : BitVec 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f12 : BufTy.Contents (Elt Ideal) arg12.view.ty) (f13 : BufTy.Contents (Elt Ideal) arg13.view.ty) (f14 : BufTy.Contents (Elt Ideal) arg14.view.ty) (n : Fin (k0_t1_loop i).trips)
    (q k kt v u : ℕ → ℕ → EReal) (ls dl : ℕ → ℕ → EReal) (hX : Blk X2 X3 X4 X5 X6 X7 X8 q k kt v u ls dl) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg13 harg13 arg14 harg14 v247 v248 n PUnit.unit) (fun _ => (
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ ∃ (g12 : BufTy.Contents (Elt Ideal) arg12.view.ty) (g13 : BufTy.Contents (Elt Ideal) arg13.view.ty) (g14 : BufTy.Contents (Elt Ideal) arg14.view.ty),
        ⌜Step (i 1).val ((i 1).val + 1 + n.val) q k kt v u ls dl f12 g12 f13 g13 f14 g14⌝ ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) : sProp 𝕄)) := by
  unfold k0_t1_body
  iintro ⟨H2, H3, H4, H5, H6, H7, H8, H12, H13, H14⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _
  isplitr
  rotate_left
  · isplitl [H12]; · iexact H12
    isplitl [H13]; · iexact H13
    iexact H14
  ipureintro
  have hA2a : ∀ x : S512x256.Idx, (arg2.view.readAt (Elt Ideal) (Rect.unit (s := S4096x512) (k0_off11 i n) S512x256.size (k0_off11_inb i n)).toLoadRect X2) x = q (512 * ((i 1).val + 1 + n.val) + (x 0).val) (256 * 0 + (x 1).val) := fun x => (rd2 hX.hq (off11 i n) S512x256.size _ x).trans (by simp)
  have hA2b : ∀ x : S512x256.Idx, (arg2.view.readAt (Elt Ideal) (Rect.unit (s := S4096x512) (k0_off13 i n) S512x256.size (k0_off13_inb i n)).toLoadRect X2) x = q (512 * ((i 1).val + 1 + n.val) + (x 0).val) (256 * 1 + (x 1).val) := fun x => (rd2 hX.hq (off13 i n) S512x256.size _ x).trans (by simp)
  have hA6a : ∀ x : S512x128.Idx, (arg6.view.readAt (Elt Ideal) (Rect.unit (s := S4096x256) (k0_off12 i n) S512x128.size (k0_off12_inb i n)).toLoadRect X6) x = u (512 * ((i 1).val + 1 + n.val) + (x 0).val) (128 * 0 + (x 1).val) := fun x => (rd2 hX.hu (off12 i n) S512x128.size _ x).trans (by simp)
  have hA6b : ∀ x : S512x128.Idx, (arg6.view.readAt (Elt Ideal) (Rect.unit (s := S4096x256) (k0_off14 i n) S512x128.size (k0_off14_inb i n)).toLoadRect X6) x = u (512 * ((i 1).val + 1 + n.val) + (x 0).val) (128 * 1 + (x 1).val) := fun x => (rd2 hX.hu (off14 i n) S512x128.size _ x).trans (by simp)
  have hA3a : ∀ x : S512x256.Idx, (arg3.view.readAt (Elt Ideal) (Rect.unit (s := S512x512) ![0, 0] S512x256.size inb_S512x512_S512x256_0_0).toLoadRect X3) x = k (x 0).val (256 * 0 + (x 1).val) := fun x => (rd2 hX.hk rfl S512x256.size _ x).trans (by simp)
  have hA3b : ∀ x : S512x256.Idx, (arg3.view.readAt (Elt Ideal) (Rect.unit (s := S512x512) ![0, 256] S512x256.size inb_S512x512_S512x256_0_256).toLoadRect X3) x = k (x 0).val (256 * 1 + (x 1).val) := fun x => (rd2 hX.hk rfl S512x256.size _ x).trans (by simp)
  have hA4a : ∀ x : S256x512.Idx, (arg4.view.readAt (Elt Ideal) (Rect.unit (s := S512x512) ![0, 0] S256x512.size inb_S512x512_S256x512_0_0).toLoadRect X4) x = kt (256 * 0 + (x 0).val) (x 1).val := fun x => (rd2 hX.hkt rfl S256x512.size _ x).trans (by simp)
  have hA4b : ∀ x : S256x512.Idx, (arg4.view.readAt (Elt Ideal) (Rect.unit (s := S512x512) ![256, 0] S256x512.size inb_S512x512_S256x512_256_0).toLoadRect X4) x = kt (256 * 1 + (x 0).val) (x 1).val := fun x => (rd2 hX.hkt rfl S256x512.size _ x).trans (by simp)
  have hA5a : ∀ x : S512x128.Idx, (arg5.view.readAt (Elt Ideal) (Rect.unit (s := S512x256) ![0, 0] S512x128.size inb_S512x256_S512x128_0_0).toLoadRect X5) x = v (x 0).val (128 * 0 + (x 1).val) := fun x => (rd2 hX.hv rfl S512x128.size _ x).trans (by simp)
  have hA5b : ∀ x : S512x128.Idx, (arg5.view.readAt (Elt Ideal) (Rect.unit (s := S512x256) ![0, 128] S512x128.size inb_S512x256_S512x128_0_128).toLoadRect X5) x = v (x 0).val (128 * 1 + (x 1).val) := fun x => (rd2 hX.hv rfl S512x128.size _ x).trans (by simp)
  have hA7a : ∀ x : S1x1x1x512.Idx, (arg7.view.readAt (Elt Ideal) (Rect.unit (s := S2x8x1x512) (k0_off15 i n) S1x1x1x512.size (k0_off15_inb i n)).toLoadRect X7) x = ls 0 (512 * ((i 1).val + 1 + n.val) + (x 3).val) := fun x => by
    have h := rd4 (e := .f32) (q := fun a b _ c => ls a (512 * b + c)) hX.hl (off15 i n) S1x1x1x512.size (k0_off15_inb i n) x
    refine h.trans ?_
    have h0 : (x 0).val < 1 := (x 0).isLt
    have h1 : (x 1).val < 1 := (x 1).isLt
    rw [show (x 0).val = 0 by omega, show (x 1).val = 0 by omega]
    simp
  have hA7b : ∀ x : S1x1x1x512.Idx, (arg7.view.readAt (Elt Ideal) (Rect.unit (s := S2x8x1x512) (k0_off17 i n) S1x1x1x512.size (k0_off17_inb i n)).toLoadRect X7) x = ls 1 (512 * ((i 1).val + 1 + n.val) + (x 3).val) := fun x => by
    have h := rd4 (e := .f32) (q := fun a b _ c => ls a (512 * b + c)) hX.hl (off17 i n) S1x1x1x512.size (k0_off17_inb i n) x
    refine h.trans ?_
    have h0 : (x 0).val < 1 := (x 0).isLt
    have h1 : (x 1).val < 1 := (x 1).isLt
    rw [show (x 0).val = 0 by omega, show (x 1).val = 0 by omega]
    simp
  have hA8a : ∀ x : S1x1x1x512.Idx, (arg8.view.readAt (Elt Ideal) (Rect.unit (s := S2x8x1x512) (k0_off15 i n) S1x1x1x512.size (k0_off15_inb i n)).toLoadRect X8) x = dl 0 (512 * ((i 1).val + 1 + n.val) + (x 3).val) := fun x => by
    have h := rd4 (e := .f32) (q := fun a b _ c => dl a (512 * b + c)) hX.hd (off15 i n) S1x1x1x512.size (k0_off15_inb i n) x
    refine h.trans ?_
    have h0 : (x 0).val < 1 := (x 0).isLt
    have h1 : (x 1).val < 1 := (x 1).isLt
    rw [show (x 0).val = 0 by omega, show (x 1).val = 0 by omega]
    simp
  have hA8b : ∀ x : S1x1x1x512.Idx, (arg8.view.readAt (Elt Ideal) (Rect.unit (s := S2x8x1x512) (k0_off17 i n) S1x1x1x512.size (k0_off17_inb i n)).toLoadRect X8) x = dl 1 (512 * ((i 1).val + 1 + n.val) + (x 3).val) := fun x => by
    have h := rd4 (e := .f32) (q := fun a b _ c => dl a (512 * b + c)) hX.hd (off17 i n) S1x1x1x512.size (k0_off17_inb i n) x
    refine h.trans ?_
    have h0 : (x 0).val < 1 := (x 0).isLt
    have h1 : (x 1).val < 1 := (x 1).isLt
    rw [show (x 0).val = 0 by omega, show (x 1).val = 0 by omega]
    simp
  have hw : ∀ hh kk l : ℕ, kk < 512 → weight₀ q k ls hh kk (512 * ((i 1).val + 1 + n.val) + l) = weight (i 1).val q k ls hh kk (512 * ((i 1).val + 1 + n.val) + l) := fun hh kk l h => (if_pos (by omega)).symm
  have hp0 : ∀ x : S512x512.Idx, k0_pay10 (F := Ideal) (arg2.view.readAt (Elt Ideal) (Rect.unit (s := S4096x512) (k0_off11 i n) S512x256.size (k0_off11_inb i n)).toLoadRect X2) (arg3.view.readAt (Elt Ideal) (Rect.unit (s := S512x512) ![0, 0] S512x256.size inb_S512x512_S512x256_0_0).toLoadRect X3) (arg7.view.readAt (Elt Ideal) (Rect.unit (s := S2x8x1x512) (k0_off15 i n) S1x1x1x512.size (k0_off15_inb i n)).toLoadRect X7) x = weight (i 1).val q k ls 0 (x 0).val (512 * ((i 1).val + 1 + n.val) + (x 1).val) :=
    fun x => (pay10_at q k ls 0 _ _ _ _ hA2a hA3a hA7a x).trans (hw _ _ _ (x 0).isLt)
  have hp1 : ∀ x : S512x512.Idx, k0_pay16 (F := Ideal) (k0_pay8 (arg2.view.readAt (Elt Ideal) (Rect.unit (s := S4096x512) (k0_off13 i n) S512x256.size (k0_off13_inb i n)).toLoadRect X2) (arg3.view.readAt (Elt Ideal) (Rect.unit (s := S512x512) ![0, 256] S512x256.size inb_S512x512_S512x256_0_256).toLoadRect X3)) (arg7.view.readAt (Elt Ideal) (Rect.unit (s := S2x8x1x512) (k0_off17 i n) S1x1x1x512.size (k0_off17_inb i n)).toLoadRect X7) x = weight (i 1).val q k ls 1 (x 0).val (512 * ((i 1).val + 1 + n.val) + (x 1).val) :=
    fun x => (pay16_at q k ls 1 _ _ _ _ hA2b hA3b hA7b x).trans (hw _ _ _ (x 0).isLt)
  have hd0 : ∀ x : S512x512.Idx, k0_pay5 (F := Ideal) (arg6.view.readAt (Elt Ideal) (Rect.unit (s := S4096x256) (k0_off12 i n) S512x128.size (k0_off12_inb i n)).toLoadRect X6) (arg5.view.readAt (Elt Ideal) (Rect.unit (s := S512x256) ![0, 0] S512x128.size inb_S512x256_S512x128_0_0).toLoadRect X5) x = dprod v u 0 (x 0).val (512 * ((i 1).val + 1 + n.val) + (x 1).val) := pay5_at v u 0 _ _ _ hA6a hA5a
  have hd1 : ∀ x : S512x512.Idx, k0_pay9 (F := Ideal) (arg6.view.readAt (Elt Ideal) (Rect.unit (s := S4096x256) (k0_off14 i n) S512x128.size (k0_off14_inb i n)).toLoadRect X6) (arg5.view.readAt (Elt Ideal) (Rect.unit (s := S512x256) ![0, 128] S512x128.size inb_S512x256_S512x128_0_128).toLoadRect X5) x = dprod v u 1 (x 0).val (512 * ((i 1).val + 1 + n.val) + (x 1).val) := pay9_at v u 1 _ _ _ hA6b hA5b
  have hq0 : ∀ x : S512x256.Idx, k0_pay3 (F := Ideal) (arg2.view.readAt (Elt Ideal) (Rect.unit (s := S4096x512) (k0_off11 i n) S512x256.size (k0_off11_inb i n)).toLoadRect X2) x = q (512 * ((i 1).val + 1 + n.val) + (x 0).val) (x 1).val := fun x => by
    unfold k0_pay3; pointwise; rw [hA2a]; simp
  have hq1 : ∀ x : S512x256.Idx, k0_pay6 (F := Ideal) (arg2.view.readAt (Elt Ideal) (Rect.unit (s := S4096x512) (k0_off13 i n) S512x256.size (k0_off13_inb i n)).toLoadRect X2) x = q (512 * ((i 1).val + 1 + n.val) + (x 0).val) (256 + (x 1).val) := fun x => by
    unfold k0_pay6; pointwise; rw [hA2b]
  have hu0 : ∀ x : S512x128.Idx, k0_pay4 (F := Ideal) (arg6.view.readAt (Elt Ideal) (Rect.unit (s := S4096x256) (k0_off12 i n) S512x128.size (k0_off12_inb i n)).toLoadRect X6) x = u (512 * ((i 1).val + 1 + n.val) + (x 0).val) (x 1).val := fun x => by
    unfold k0_pay4; pointwise; rw [hA6a]; simp
  have hu1 : ∀ x : S512x128.Idx, k0_pay7 (F := Ideal) (arg6.view.readAt (Elt Ideal) (Rect.unit (s := S4096x256) (k0_off14 i n) S512x128.size (k0_off14_inb i n)).toLoadRect X6) x = u (512 * ((i 1).val + 1 + n.val) + (x 0).val) (128 + (x 1).val) := fun x => by
    unfold k0_pay7; pointwise; rw [hA6b]
  have ht0 : ∀ x : S256x512.Idx, (arg4.view.readAt (Elt Ideal) (Rect.unit (s := S512x512) ![0, 0] S256x512.size inb_S512x512_S256x512_0_0).toLoadRect X4) x = kt (x 0).val (x 1).val := fun x => by rw [hA4a]; simp
  have ht1 : ∀ x : S256x512.Idx, (arg4.view.readAt (Elt Ideal) (Rect.unit (s := S512x512) ![256, 0] S256x512.size inb_S512x512_S256x512_256_0).toLoadRect X4) x = kt (256 + (x 0).val) (x 1).val := fun x => by rw [hA4b]
  exact ⟨sum12 (i 1).val ((i 1).val + 1 + n.val) q k kt v u ls dl _ _ _ _ _ _ _ _ hp0 hp1 hd0 hd1 hA8a hA8b ht0 ht1 arg12 f12 (off16 i n) (off18 i n) _ _ _ _,
    sum13 (i 1).val ((i 1).val + 1 + n.val) q k v u ls dl _ _ _ _ _ _ _ _ hp0 hp1 hd0 hd1 hq0 hq1 hA8a hA8b arg13 f13 _ _ _ _,
    sum14 (i 1).val ((i 1).val + 1 + n.val) q k u ls _ _ _ _ hp0 hp1 hu0 hu1 arg14 f14 _ _ _ _⟩

end Cert.AttnIdeal.Body
-- ==== Proof.AttnLoop.lean ====
/- The loop over the later blocks of queries. -/
module

public import proofs.«01_k».proof.Proof.AttnHead
public import proofs.«01_k».proof.Proof.AttnTrip

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The three running sums after the diagonal block and `n` further blocks of the queries. -/
structure Sums {arg12 : Memref sig .tc .vmem S2x8x256x512 .f32} {arg13 : Memref sig .tc .vmem S512x512 .f32} {arg14 : Memref sig .tc .vmem S512x256 .f32}
    (j n : ℕ) (q k kt v u : ℕ → ℕ → EReal) (ls dl : ℕ → ℕ → EReal) (base : S2x8x256x512.Idx → EReal) (g12 : BufTy.Contents (Elt Ideal) arg12.view.ty) (g13 : BufTy.Contents (Elt Ideal) arg13.view.ty) (g14 : BufTy.Contents (Elt Ideal) arg14.view.ty) : Prop where
  h12 : ∀ y : S2x8x256x512.Idx, arg12.view.read (Elt Ideal) g12 y
    = base y + if j ≤ (y 1).val ∧ (y 1).val < j + 1 + n then addQ j q k kt v u ls dl (y 0).val (y 2).val (512 * (y 1).val + (y 3).val) else 0
  h13 : ∀ y : S512x512.Idx, arg13.view.read (Elt Ideal) g13 y
    = ∑ b ∈ Finset.Ico j (j + 1 + n), addK j q k v u ls dl b ((y 1).val / 256) (y 0).val ((y 1).val % 256)
  h14 : ∀ y : S512x256.Idx, arg14.view.read (Elt Ideal) g14 y
    = ∑ b ∈ Finset.Ico j (j + 1 + n), addV j q k u ls b ((y 1).val / 128) (y 0).val ((y 1).val % 128)

theorem Sums.step {arg12 : Memref sig .tc .vmem S2x8x256x512 .f32} {arg13 : Memref sig .tc .vmem S512x512 .f32} {arg14 : Memref sig .tc .vmem S512x256 .f32} {j n : ℕ} {q k kt v u : ℕ → ℕ → EReal} {ls dl : ℕ → ℕ → EReal} {base : S2x8x256x512.Idx → EReal}
    {f12 g12 : BufTy.Contents (Elt Ideal) arg12.view.ty} {f13 g13 : BufTy.Contents (Elt Ideal) arg13.view.ty} {f14 g14 : BufTy.Contents (Elt Ideal) arg14.view.ty}
    (h : Sums j n q k kt v u ls dl base f12 f13 f14) (h' : Step j (j + 1 + n) q k kt v u ls dl f12 g12 f13 g13 f14 g14) :
    Sums j (n + 1) q k kt v u ls dl base g12 g13 g14 where
  h12 y := by
    rw [h'.h12, h.h12]
    by_cases e : (y 1).val = j + 1 + n
    · rw [if_pos e, if_neg (by omega), if_pos (by omega), add_zero, e]
    · rw [if_neg e]
      exact congrArg (base y + ·) (if_congr (by omega) rfl rfl)
  h13 y := by
    rw [h'.h13, h.h13, show j + 1 + (n + 1) = j + 1 + n + 1 by omega, Finset.sum_Ico_succ_top (by omega)]
  h14 y := by
    rw [h'.h14, h.h14, show j + 1 + (n + 1) = j + 1 + n + 1 by omega, Finset.sum_Ico_succ_top (by omega)]

/-- What the loop keeps: the inputs, and the sums of the blocks passed. -/
def Inv (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (q k kt v u : ℕ → ℕ → EReal) (ls dl : ℕ → ℕ → EReal) (base : S2x8x256x512.Idx → EReal) (n : ℕ) (_ : PUnit.{1}) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ ∃ (g12 : BufTy.Contents (Elt Ideal) arg12.view.ty) (g13 : BufTy.Contents (Elt Ideal) arg13.view.ty) (g14 : BufTy.Contents (Elt Ideal) arg14.view.ty),
    ⌜Sums (i 1).val n q k kt v u ls dl base g12 g13 g14⌝ ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14))

theorem inv_trip (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole) (v247 v248 : BitVec 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (q k kt v u : ℕ → ℕ → EReal) (ls dl : ℕ → ℕ → EReal) (base : S2x8x256x512.Idx → EReal) (hX : Blk X2 X3 X4 X5 X6 X7 X8 q k kt v u ls dl)
    (n : Fin (k0_t1_loop i).trips) (acc : PUnit.{1}) :
    Inv c i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 q k kt v u ls dl base n.val acc ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg13 harg13 arg14 harg14 v247 v248 n acc)
      (Inv c i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 q k kt v u ls dl base (n.val + 1)) := by
  unfold Inv
  iintro ⟨H2, H3, H4, H5, H6, H7, H8, %f12, %f13, %f14, %hs, H12, H13, H14⟩
  iapply (wp_mono frame (wpE (defs₀ (F := Ideal)) 𝒱 (c : Thread nD τ) bd) E (Q := fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ ∃ (g12 : BufTy.Contents (Elt Ideal) arg12.view.ty) (g13 : BufTy.Contents (Elt Ideal) arg13.view.ty) (g14 : BufTy.Contents (Elt Ideal) arg14.view.ty),
        ⌜Step (i 1).val ((i 1).val + 1 + n.val) q k kt v u ls dl f12 g12 f13 g13 f14 g14⌝ ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) : sProp 𝕄)) (fun _ => ?_))
  rotate_left
  · iapply (trip 𝒱 c bd E i arg2 harg2 arg3 harg3 arg4 harg4 arg5 harg5 arg6 harg6 arg7 harg7 arg8 harg8 arg9 harg9 arg10 harg10 arg11 harg11 arg12 harg12 arg13 harg13 arg14 harg14 v247 v248 X2 X3 X4 X5 X6 X7 X8 f12 f13 f14 n q k kt v u ls dl hX)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  · iintro ⟨H2, H3, H4, H5, H6, H7, H8, %g12, %g13, %g14, %hs', H12, H13, H14⟩
    isplitl [H2]; · iexact H2
    isplitl [H3]; · iexact H3
    isplitl [H4]; · iexact H4
    isplitl [H5]; · iexact H5
    isplitl [H6]; · iexact H6
    isplitl [H7]; · iexact H7
    isplitl [H8]; · iexact H8
    iexists g12; iexists g13; iexists g14
    isplitr
    · ipureintro; exact hs.step hs'
    isplitl [H12]; · iexact H12
    isplitl [H13]; · iexact H13
    iexact H14

end Cert.AttnIdeal.Body
-- ==== Proof.AttnStart.lean ====
/- The body's beginning: the accumulators cleared and the diagonal block added. -/
module

public import proofs.«01_k».proof.Proof.AttnLoop

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem rowL {arg2 : Memref sig .tc .vmem S4096x512 .bf16} {arg3 : Memref sig .tc .vmem S512x512 .bf16} {arg4 : Memref sig .tc .vmem S512x512 .bf16} {arg5 : Memref sig .tc .vmem S512x256 .bf16} {arg6 : Memref sig .tc .vmem S4096x256 .bf16} {arg7 : Memref sig .tc .vmem S2x8x1x512 .f32} {arg8 : Memref sig .tc .vmem S2x8x1x512 .f32} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    {q k kt v u ls dl : ℕ → ℕ → EReal} (hX : Blk X2 X3 X4 X5 X6 X7 X8 q k kt v u ls dl) {off : Fin 4 → ℕ} {h j : ℕ} (hoff : off = ![h, j, 0, 0])
    (inb : ∀ a, off a + S1x1x1x512.size a ≤ S2x8x1x512.size a) (x : S1x1x1x512.Idx) :
    arg7.view.readAt (Elt Ideal) (Rect.unit (s := S2x8x1x512) off S1x1x1x512.size inb).toLoadRect X7 x = ls h (512 * j + (x 3).val) := by
  have e := rd4 (e := .f32) (q := fun a b _ c => ls a (512 * b + c)) hX.hl hoff S1x1x1x512.size inb x
  refine e.trans ?_
  have h0 : (x 0).val < 1 := (x 0).isLt
  have h1 : (x 1).val < 1 := (x 1).isLt
  rw [show (x 0).val = 0 by omega, show (x 1).val = 0 by omega]
  simp

theorem rowD {arg2 : Memref sig .tc .vmem S4096x512 .bf16} {arg3 : Memref sig .tc .vmem S512x512 .bf16} {arg4 : Memref sig .tc .vmem S512x512 .bf16} {arg5 : Memref sig .tc .vmem S512x256 .bf16} {arg6 : Memref sig .tc .vmem S4096x256 .bf16} {arg7 : Memref sig .tc .vmem S2x8x1x512 .f32} {arg8 : Memref sig .tc .vmem S2x8x1x512 .f32} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    {q k kt v u ls dl : ℕ → ℕ → EReal} (hX : Blk X2 X3 X4 X5 X6 X7 X8 q k kt v u ls dl) {off : Fin 4 → ℕ} {h j : ℕ} (hoff : off = ![h, j, 0, 0])
    (inb : ∀ a, off a + S1x1x1x512.size a ≤ S2x8x1x512.size a) (x : S1x1x1x512.Idx) :
    arg8.view.readAt (Elt Ideal) (Rect.unit (s := S2x8x1x512) off S1x1x1x512.size inb).toLoadRect X8 x = dl h (512 * j + (x 3).val) := by
  have e := rd4 (e := .f32) (q := fun a b _ c => dl a (512 * b + c)) hX.hd hoff S1x1x1x512.size inb x
  refine e.trans ?_
  have h0 : (x 0).val < 1 := (x 0).isLt
  have h1 : (x 1).val < 1 := (x 1).isLt
  rw [show (x 0).val = 0 by omega, show (x 1).val = 0 by omega]
  simp
section Values
variable {arg2 : Memref sig .tc .vmem S4096x512 .bf16} {arg3 : Memref sig .tc .vmem S512x512 .bf16} {arg4 : Memref sig .tc .vmem S512x512 .bf16} {arg5 : Memref sig .tc .vmem S512x256 .bf16} {arg6 : Memref sig .tc .vmem S4096x256 .bf16} {arg7 : Memref sig .tc .vmem S2x8x1x512 .f32} {arg8 : Memref sig .tc .vmem S2x8x1x512 .f32} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
  {q k kt v u ls dl : ℕ → ℕ → EReal} (hX : Blk X2 X3 X4 X5 X6 X7 X8 q k kt v u ls dl) (i : grid0.Coords)

/-- A value of the diagonal block. -/
def vq00 (i : grid0.Coords) (arg2 : Memref sig .tc .vmem S4096x512 .bf16) (X2 : BufTy.Contents (Elt Ideal) arg2.view.ty) : FVec Ideal S256x256 .bf16 :=
  k0_pay34 (arg2.view.readAt (Elt Ideal) (Rect.unit (s := S4096x512) (k0_off1 i 0#32) S256x256.size (k0_off1_inb i 0)).toLoadRect X2)

include hX in
theorem hq00 (x : S256x256.Idx) : vq00 i arg2 X2 x = q (512 * (i 1).val + 0 + (x 0).val) (256 * 0 + (x 1).val) := by
  unfold vq00 k0_pay34
  rw [shapeCast_self]
  exact (rd2 hX.hq (off1a i) S256x256.size _ x).trans (by simp)

/-- A value of the diagonal block. -/
def vu00 (i : grid0.Coords) (arg6 : Memref sig .tc .vmem S4096x256 .bf16) (X6 : BufTy.Contents (Elt Ideal) arg6.view.ty) : FVec Ideal S256x128 .bf16 :=
  k0_pay35 (arg6.view.readAt (Elt Ideal) (Rect.unit (s := S4096x256) (k0_off2 i 0#32) S256x128.size (k0_off2_inb i 0)).toLoadRect X6)

include hX in
theorem hu00 (x : S256x128.Idx) : vu00 i arg6 X6 x = u (512 * (i 1).val + 0 + (x 0).val) (128 * 0 + (x 1).val) := by
  unfold vu00 k0_pay35
  rw [shapeCast_self]
  exact (rd2 hX.hu (off2a i) S256x128.size _ x).trans (by simp)

/-- A value of the diagonal block. -/
def vq10 (i : grid0.Coords) (arg2 : Memref sig .tc .vmem S4096x512 .bf16) (X2 : BufTy.Contents (Elt Ideal) arg2.view.ty) : FVec Ideal S256x256 .bf16 :=
  k0_pay38 (arg2.view.readAt (Elt Ideal) (Rect.unit (s := S4096x512) (k0_off3 i 0#32) S256x256.size (k0_off3_inb i 0)).toLoadRect X2)

include hX in
theorem hq10 (x : S256x256.Idx) : vq10 i arg2 X2 x = q (512 * (i 1).val + 0 + (x 0).val) (256 * 1 + (x 1).val) := by
  unfold vq10 k0_pay38
  rw [shapeCast_self]
  exact (rd2 hX.hq (off3a i) S256x256.size _ x).trans (by simp)

/-- A value of the diagonal block. -/
def vu10 (i : grid0.Coords) (arg6 : Memref sig .tc .vmem S4096x256 .bf16) (X6 : BufTy.Contents (Elt Ideal) arg6.view.ty) : FVec Ideal S256x128 .bf16 :=
  k0_pay39 (arg6.view.readAt (Elt Ideal) (Rect.unit (s := S4096x256) (k0_off4 i 0#32) S256x128.size (k0_off4_inb i 0)).toLoadRect X6)

include hX in
theorem hu10 (x : S256x128.Idx) : vu10 i arg6 X6 x = u (512 * (i 1).val + 0 + (x 0).val) (128 * 1 + (x 1).val) := by
  unfold vu10 k0_pay39
  rw [shapeCast_self]
  exact (rd2 hX.hu (off4a i) S256x128.size _ x).trans (by simp)

/-- A value of the diagonal block. -/
def vq01 (i : grid0.Coords) (arg2 : Memref sig .tc .vmem S4096x512 .bf16) (X2 : BufTy.Contents (Elt Ideal) arg2.view.ty) : FVec Ideal S256x256 .bf16 :=
  k0_pay53 (arg2.view.readAt (Elt Ideal) (Rect.unit (s := S4096x512) (k0_off1 i 256#32) S256x256.size (k0_off1_inb i 1)).toLoadRect X2)

include hX in
theorem hq01 (x : S256x256.Idx) : vq01 i arg2 X2 x = q (512 * (i 1).val + 256 + (x 0).val) (256 * 0 + (x 1).val) := by
  unfold vq01 k0_pay53
  rw [shapeCast_self]
  exact (rd2 hX.hq (off1b i) S256x256.size _ x).trans (by simp)

/-- A value of the diagonal block. -/
def vu01 (i : grid0.Coords) (arg6 : Memref sig .tc .vmem S4096x256 .bf16) (X6 : BufTy.Contents (Elt Ideal) arg6.view.ty) : FVec Ideal S256x128 .bf16 :=
  k0_pay54 (arg6.view.readAt (Elt Ideal) (Rect.unit (s := S4096x256) (k0_off2 i 256#32) S256x128.size (k0_off2_inb i 1)).toLoadRect X6)

include hX in
theorem hu01 (x : S256x128.Idx) : vu01 i arg6 X6 x = u (512 * (i 1).val + 256 + (x 0).val) (128 * 0 + (x 1).val) := by
  unfold vu01 k0_pay54
  rw [shapeCast_self]
  exact (rd2 hX.hu (off2b i) S256x128.size _ x).trans (by simp)

/-- A value of the diagonal block. -/
def vq11 (i : grid0.Coords) (arg2 : Memref sig .tc .vmem S4096x512 .bf16) (X2 : BufTy.Contents (Elt Ideal) arg2.view.ty) : FVec Ideal S256x256 .bf16 :=
  k0_pay57 (arg2.view.readAt (Elt Ideal) (Rect.unit (s := S4096x512) (k0_off3 i 256#32) S256x256.size (k0_off3_inb i 1)).toLoadRect X2)

include hX in
theorem hq11 (x : S256x256.Idx) : vq11 i arg2 X2 x = q (512 * (i 1).val + 256 + (x 0).val) (256 * 1 + (x 1).val) := by
  unfold vq11 k0_pay57
  rw [shapeCast_self]
  exact (rd2 hX.hq (off3b i) S256x256.size _ x).trans (by simp)

/-- A value of the diagonal block. -/
def vu11 (i : grid0.Coords) (arg6 : Memref sig .tc .vmem S4096x256 .bf16) (X6 : BufTy.Contents (Elt Ideal) arg6.view.ty) : FVec Ideal S256x128 .bf16 :=
  k0_pay58 (arg6.view.readAt (Elt Ideal) (Rect.unit (s := S4096x256) (k0_off4 i 256#32) S256x128.size (k0_off4_inb i 1)).toLoadRect X6)

include hX in
theorem hu11 (x : S256x128.Idx) : vu11 i arg6 X6 x = u (512 * (i 1).val + 256 + (x 0).val) (128 * 1 + (x 1).val) := by
  unfold vu11 k0_pay58
  rw [shapeCast_self]
  exact (rd2 hX.hu (off4b i) S256x128.size _ x).trans (by simp)

/-- A value of the diagonal block. -/
def vl0 (i : grid0.Coords) (arg7 : Memref sig .tc .vmem S2x8x1x512 .f32) (X7 : BufTy.Contents (Elt Ideal) arg7.view.ty) : Vec Ideal S1x1x1x512 .f32 :=
  (arg7.view.readAt (Elt Ideal) (Rect.unit (s := S2x8x1x512) (k0_off5 i) S1x1x1x512.size (k0_off5_inb i)).toLoadRect X7)

include hX in
theorem hl0 (x : S1x1x1x512.Idx) : vl0 i arg7 X7 x = ls 0 (512 * (i 1).val + (x 3).val) := by
  exact rowL hX (off5 i) _ x

/-- A value of the diagonal block. -/
def ve0 (i : grid0.Coords) (arg8 : Memref sig .tc .vmem S2x8x1x512 .f32) (X8 : BufTy.Contents (Elt Ideal) arg8.view.ty) : Vec Ideal S1x1x1x512 .f32 :=
  (arg8.view.readAt (Elt Ideal) (Rect.unit (s := S2x8x1x512) (k0_off5 i) S1x1x1x512.size (k0_off5_inb i)).toLoadRect X8)

include hX in
theorem he0 (x : S1x1x1x512.Idx) : ve0 i arg8 X8 x = dl 0 (512 * (i 1).val + (x 3).val) := by
  exact rowD hX (off5 i) _ x

/-- A value of the diagonal block. -/
def vl1 (i : grid0.Coords) (arg7 : Memref sig .tc .vmem S2x8x1x512 .f32) (X7 : BufTy.Contents (Elt Ideal) arg7.view.ty) : Vec Ideal S1x1x1x512 .f32 :=
  (arg7.view.readAt (Elt Ideal) (Rect.unit (s := S2x8x1x512) (k0_off7 i) S1x1x1x512.size (k0_off7_inb i)).toLoadRect X7)

include hX in
theorem hl1 (x : S1x1x1x512.Idx) : vl1 i arg7 X7 x = ls 1 (512 * (i 1).val + (x 3).val) := by
  exact rowL hX (off7 i) _ x

/-- A value of the diagonal block. -/
def ve1 (i : grid0.Coords) (arg8 : Memref sig .tc .vmem S2x8x1x512 .f32) (X8 : BufTy.Contents (Elt Ideal) arg8.view.ty) : Vec Ideal S1x1x1x512 .f32 :=
  (arg8.view.readAt (Elt Ideal) (Rect.unit (s := S2x8x1x512) (k0_off7 i) S1x1x1x512.size (k0_off7_inb i)).toLoadRect X8)

include hX in
theorem he1 (x : S1x1x1x512.Idx) : ve1 i arg8 X8 x = dl 1 (512 * (i 1).val + (x 3).val) := by
  exact rowD hX (off7 i) _ x

/-- A value of the diagonal block. -/
def vs00 (i : grid0.Coords) (arg2 : Memref sig .tc .vmem S4096x512 .bf16) (arg3 : Memref sig .tc .vmem S512x512 .bf16) (X2 : BufTy.Contents (Elt Ideal) arg2.view.ty) (X3 : BufTy.Contents (Elt Ideal) arg3.view.ty) : FVec Ideal S256x256 .f32 :=
  k0_pay36 (arg2.view.readAt (Elt Ideal) (Rect.unit (s := S4096x512) (k0_off1 i 0#32) S256x256.size (k0_off1_inb i 0)).toLoadRect X2) (arg3.view.readAt (Elt Ideal) (Rect.unit (s := S512x512) (![0, 0]) S256x256.size inb_S512x512_S256x256_0_0).toLoadRect X3)

include hX in
theorem hs00 (x : S256x256.Idx) : vs00 i arg2 arg3 X2 X3 x = score q k 0 (x 0).val (512 * (i 1).val + 0 + (x 1).val) := by
  exact pay36_at (i 1).val q k 0 _ _ (fun x => (rd2 hX.hq (off1a i) S256x256.size _ x).trans (by simp)) (fun x => (rd2 hX.hk rfl S256x256.size _ x).trans (by simp)) x

/-- A value of the diagonal block. -/
def vd00 (i : grid0.Coords) (arg5 : Memref sig .tc .vmem S512x256 .bf16) (arg6 : Memref sig .tc .vmem S4096x256 .bf16) (X5 : BufTy.Contents (Elt Ideal) arg5.view.ty) (X6 : BufTy.Contents (Elt Ideal) arg6.view.ty) : FVec Ideal S256x256 .f32 :=
  k0_pay37 (arg6.view.readAt (Elt Ideal) (Rect.unit (s := S4096x256) (k0_off2 i 0#32) S256x128.size (k0_off2_inb i 0)).toLoadRect X6) (arg5.view.readAt (Elt Ideal) (Rect.unit (s := S512x256) (![0, 0]) S256x128.size inb_S512x256_S256x128_0_0).toLoadRect X5)

include hX in
theorem hd00 (x : S256x256.Idx) : vd00 i arg5 arg6 X5 X6 x = dprod v u 0 (x 0).val (512 * (i 1).val + 0 + (x 1).val) := by
  exact pay37_at (i 1).val v u 0 _ _ (fun x => (rd2 hX.hu (off2a i) S256x128.size _ x).trans (by simp)) (fun x => (rd2 hX.hv rfl S256x128.size _ x).trans (by simp)) x

/-- A value of the diagonal block. -/
def vs10 (i : grid0.Coords) (arg2 : Memref sig .tc .vmem S4096x512 .bf16) (arg3 : Memref sig .tc .vmem S512x512 .bf16) (X2 : BufTy.Contents (Elt Ideal) arg2.view.ty) (X3 : BufTy.Contents (Elt Ideal) arg3.view.ty) : FVec Ideal S256x256 .f32 :=
  k0_pay40 (vq10 i arg2 X2) (arg3.view.readAt (Elt Ideal) (Rect.unit (s := S512x512) (![0, 256]) S256x256.size inb_S512x512_S256x256_0_256).toLoadRect X3)

include hX in
theorem hs10 (x : S256x256.Idx) : vs10 i arg2 arg3 X2 X3 x = score q k 1 (x 0).val (512 * (i 1).val + 0 + (x 1).val) := by
  exact pay40_at (i 1).val q k 1 _ _ (hq10 hX i) (fun x => (rd2 hX.hk rfl S256x256.size _ x).trans (by simp)) x

/-- A value of the diagonal block. -/
def vd10 (i : grid0.Coords) (arg5 : Memref sig .tc .vmem S512x256 .bf16) (arg6 : Memref sig .tc .vmem S4096x256 .bf16) (X5 : BufTy.Contents (Elt Ideal) arg5.view.ty) (X6 : BufTy.Contents (Elt Ideal) arg6.view.ty) : FVec Ideal S256x256 .f32 :=
  k0_pay41 (vu10 i arg6 X6) (arg5.view.readAt (Elt Ideal) (Rect.unit (s := S512x256) (![0, 128]) S256x128.size inb_S512x256_S256x128_0_128).toLoadRect X5)

include hX in
theorem hd10 (x : S256x256.Idx) : vd10 i arg5 arg6 X5 X6 x = dprod v u 1 (x 0).val (512 * (i 1).val + 0 + (x 1).val) := by
  exact pay41_at (i 1).val v u 1 _ _ (hu10 hX i) (fun x => (rd2 hX.hv rfl S256x128.size _ x).trans (by simp)) x

/-- A value of the diagonal block. -/
def vs01 (i : grid0.Coords) (arg2 : Memref sig .tc .vmem S4096x512 .bf16) (arg3 : Memref sig .tc .vmem S512x512 .bf16) (X2 : BufTy.Contents (Elt Ideal) arg2.view.ty) (X3 : BufTy.Contents (Elt Ideal) arg3.view.ty) : FVec Ideal S512x256 .f32 :=
  k0_pay55 (arg2.view.readAt (Elt Ideal) (Rect.unit (s := S4096x512) (k0_off1 i 256#32) S256x256.size (k0_off1_inb i 1)).toLoadRect X2) (arg3.view.readAt (Elt Ideal) (Rect.unit (s := S512x512) (![0, 0]) S512x256.size inb_S512x512_S512x256_0_0).toLoadRect X3)

include hX in
theorem hs01 (x : S512x256.Idx) : vs01 i arg2 arg3 X2 X3 x = score q k 0 (x 0).val (512 * (i 1).val + 256 + (x 1).val) := by
  exact pay55_at (i 1).val q k 0 _ _ (fun x => (rd2 hX.hq (off1b i) S256x256.size _ x).trans (by simp)) (fun x => (rd2 hX.hk rfl S512x256.size _ x).trans (by simp)) x

/-- A value of the diagonal block. -/
def vd01 (i : grid0.Coords) (arg5 : Memref sig .tc .vmem S512x256 .bf16) (arg6 : Memref sig .tc .vmem S4096x256 .bf16) (X5 : BufTy.Contents (Elt Ideal) arg5.view.ty) (X6 : BufTy.Contents (Elt Ideal) arg6.view.ty) : FVec Ideal S512x256 .f32 :=
  k0_pay56 (vu01 i arg6 X6) (arg5.view.readAt (Elt Ideal) (Rect.unit (s := S512x256) (![0, 0]) S512x128.size inb_S512x256_S512x128_0_0).toLoadRect X5)

include hX in
theorem hd01 (x : S512x256.Idx) : vd01 i arg5 arg6 X5 X6 x = dprod v u 0 (x 0).val (512 * (i 1).val + 256 + (x 1).val) := by
  exact pay56_at (i 1).val v u 0 _ _ (hu01 hX i) (fun x => (rd2 hX.hv rfl S512x128.size _ x).trans (by simp)) x

/-- A value of the diagonal block. -/
def vs11 (i : grid0.Coords) (arg2 : Memref sig .tc .vmem S4096x512 .bf16) (arg3 : Memref sig .tc .vmem S512x512 .bf16) (X2 : BufTy.Contents (Elt Ideal) arg2.view.ty) (X3 : BufTy.Contents (Elt Ideal) arg3.view.ty) : FVec Ideal S512x256 .f32 :=
  k0_pay59 (arg2.view.readAt (Elt Ideal) (Rect.unit (s := S4096x512) (k0_off3 i 256#32) S256x256.size (k0_off3_inb i 1)).toLoadRect X2) (arg3.view.readAt (Elt Ideal) (Rect.unit (s := S512x512) (![0, 256]) S512x256.size inb_S512x512_S512x256_0_256).toLoadRect X3)

include hX in
theorem hs11 (x : S512x256.Idx) : vs11 i arg2 arg3 X2 X3 x = score q k 1 (x 0).val (512 * (i 1).val + 256 + (x 1).val) := by
  exact pay59_at (i 1).val q k 1 _ _ (fun x => (rd2 hX.hq (off3b i) S256x256.size _ x).trans (by simp)) (fun x => (rd2 hX.hk rfl S512x256.size _ x).trans (by simp)) x

/-- A value of the diagonal block. -/
def vd11 (i : grid0.Coords) (arg5 : Memref sig .tc .vmem S512x256 .bf16) (arg6 : Memref sig .tc .vmem S4096x256 .bf16) (X5 : BufTy.Contents (Elt Ideal) arg5.view.ty) (X6 : BufTy.Contents (Elt Ideal) arg6.view.ty) : FVec Ideal S512x256 .f32 :=
  k0_pay60 (arg6.view.readAt (Elt Ideal) (Rect.unit (s := S4096x256) (k0_off4 i 256#32) S256x128.size (k0_off4_inb i 1)).toLoadRect X6) (arg5.view.readAt (Elt Ideal) (Rect.unit (s := S512x256) (![0, 128]) S512x128.size inb_S512x256_S512x128_0_128).toLoadRect X5)

include hX in
theorem hd11 (x : S512x256.Idx) : vd11 i arg5 arg6 X5 X6 x = dprod v u 1 (x 0).val (512 * (i 1).val + 256 + (x 1).val) := by
  exact pay60_at (i 1).val v u 1 _ _ (fun x => (rd2 hX.hu (off4b i) S256x128.size _ x).trans (by simp)) (fun x => (rd2 hX.hv rfl S512x128.size _ x).trans (by simp)) x

/-- A value of the diagonal block. -/
def vp10 (i : grid0.Coords) (arg2 : Memref sig .tc .vmem S4096x512 .bf16) (arg3 : Memref sig .tc .vmem S512x512 .bf16) (arg7 : Memref sig .tc .vmem S2x8x1x512 .f32) (X2 : BufTy.Contents (Elt Ideal) arg2.view.ty) (X3 : BufTy.Contents (Elt Ideal) arg3.view.ty) (X7 : BufTy.Contents (Elt Ideal) arg7.view.ty) : FVec Ideal S256x256 .f32 :=
  k0_pay48 (vs10 i arg2 arg3 X2 X3) (vl1 i arg7 X7)

include hX in
theorem hp10 (x : S256x256.Idx) : vp10 i arg2 arg3 arg7 X2 X3 X7 x = weight (i 1).val q k ls 1 (x 0).val (512 * (i 1).val + 0 + (x 1).val) := by
  exact pay48_at (i 1).val q k ls 1 _ _ (hs10 hX i) (hl1 hX i) x

/-- A value of the diagonal block. -/
def vp01 (i : grid0.Coords) (arg2 : Memref sig .tc .vmem S4096x512 .bf16) (arg3 : Memref sig .tc .vmem S512x512 .bf16) (arg7 : Memref sig .tc .vmem S2x8x1x512 .f32) (X2 : BufTy.Contents (Elt Ideal) arg2.view.ty) (X3 : BufTy.Contents (Elt Ideal) arg3.view.ty) (X7 : BufTy.Contents (Elt Ideal) arg7.view.ty) : FVec Ideal S512x256 .f32 :=
  k0_pay61 (vs01 i arg2 arg3 X2 X3) (vl0 i arg7 X7)

include hX in
theorem hp01 (x : S512x256.Idx) : vp01 i arg2 arg3 arg7 X2 X3 X7 x = weight (i 1).val q k ls 0 (x 0).val (512 * (i 1).val + 256 + (x 1).val) := by
  exact pay61_at (i 1).val q k ls 0 _ _ (hs01 hX i) (hl0 hX i) x

/-- A value of the diagonal block. -/
def vp11 (i : grid0.Coords) (arg2 : Memref sig .tc .vmem S4096x512 .bf16) (arg3 : Memref sig .tc .vmem S512x512 .bf16) (arg7 : Memref sig .tc .vmem S2x8x1x512 .f32) (X2 : BufTy.Contents (Elt Ideal) arg2.view.ty) (X3 : BufTy.Contents (Elt Ideal) arg3.view.ty) (X7 : BufTy.Contents (Elt Ideal) arg7.view.ty) : FVec Ideal S512x256 .f32 :=
  k0_pay66 (vs11 i arg2 arg3 X2 X3) (vl1 i arg7 X7)

include hX in
theorem hp11 (x : S512x256.Idx) : vp11 i arg2 arg3 arg7 X2 X3 X7 x = weight (i 1).val q k ls 1 (x 0).val (512 * (i 1).val + 256 + (x 1).val) := by
  exact pay66_at (i 1).val q k ls 1 _ _ (hs11 hX i) (hl1 hX i) x

/-- A value of the diagonal block. -/
def vt00 (i : grid0.Coords) (arg4 : Memref sig .tc .vmem S512x512 .bf16) (X4 : BufTy.Contents (Elt Ideal) arg4.view.ty) : Vec Ideal S256x256 .bf16 :=
  (arg4.view.readAt (Elt Ideal) (Rect.unit (s := S512x512) (![0, 0]) S256x256.size inb_S512x512_S256x256_0_0).toLoadRect X4)

include hX in
theorem ht00 (x : S256x256.Idx) : vt00 i arg4 X4 x = kt (256 * 0 + (x 0).val) (x 1).val := by
  exact (rd2 hX.hkt rfl S256x256.size _ x).trans (by simp)

/-- A value of the diagonal block. -/
def vt10 (i : grid0.Coords) (arg4 : Memref sig .tc .vmem S512x512 .bf16) (X4 : BufTy.Contents (Elt Ideal) arg4.view.ty) : Vec Ideal S256x256 .bf16 :=
  (arg4.view.readAt (Elt Ideal) (Rect.unit (s := S512x512) (![256, 0]) S256x256.size inb_S512x512_S256x256_256_0).toLoadRect X4)

include hX in
theorem ht10 (x : S256x256.Idx) : vt10 i arg4 X4 x = kt (256 * 1 + (x 0).val) (x 1).val := by
  exact (rd2 hX.hkt rfl S256x256.size _ x).trans (by simp)

/-- A value of the diagonal block. -/
def vt01 (i : grid0.Coords) (arg4 : Memref sig .tc .vmem S512x512 .bf16) (X4 : BufTy.Contents (Elt Ideal) arg4.view.ty) : Vec Ideal S256x512 .bf16 :=
  (arg4.view.readAt (Elt Ideal) (Rect.unit (s := S512x512) (![0, 0]) S256x512.size inb_S512x512_S256x512_0_0).toLoadRect X4)

include hX in
theorem ht01 (x : S256x512.Idx) : vt01 i arg4 X4 x = kt (256 * 0 + (x 0).val) (x 1).val := by
  exact (rd2 hX.hkt rfl S256x512.size _ x).trans (by simp)

/-- A value of the diagonal block. -/
def vt11 (i : grid0.Coords) (arg4 : Memref sig .tc .vmem S512x512 .bf16) (X4 : BufTy.Contents (Elt Ideal) arg4.view.ty) : Vec Ideal S256x512 .bf16 :=
  (arg4.view.readAt (Elt Ideal) (Rect.unit (s := S512x512) (![256, 0]) S256x512.size inb_S512x512_S256x512_256_0).toLoadRect X4)

include hX in
theorem ht11 (x : S256x512.Idx) : vt11 i arg4 X4 x = kt (256 * 1 + (x 0).val) (x 1).val := by
  exact (rd2 hX.hkt rfl S256x512.size _ x).trans (by simp)

theorem zero14 (x : S512x256.Idx) : k0_pay33 (F := Ideal) x = (0 : EReal) := by
  unfold k0_pay33
  pointwise

/-- The sum before the first piece. -/
def L14_0 (i : grid0.Coords) (arg2 : Memref sig .tc .vmem S4096x512 .bf16) (arg3 : Memref sig .tc .vmem S512x512 .bf16) (arg6 : Memref sig .tc .vmem S4096x256 .bf16) (arg7 : Memref sig .tc .vmem S2x8x1x512 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (arg14 : Memref sig .tc .vmem S512x256 .f32) : List (View.Piece (Elt Ideal) S512x256 .f32) :=
  [⟨Rect.unit (s := S512x256) ![0, 0] S512x256.size inb_S512x256_S512x256_0_0, k0_pay33 (F := Ideal)⟩]

/-- The sum after piece 1. -/
def L14_1 (i : grid0.Coords) (arg2 : Memref sig .tc .vmem S4096x512 .bf16) (arg3 : Memref sig .tc .vmem S512x512 .bf16) (arg6 : Memref sig .tc .vmem S4096x256 .bf16) (arg7 : Memref sig .tc .vmem S2x8x1x512 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (arg14 : Memref sig .tc .vmem S512x256 .f32) : List (View.Piece (Elt Ideal) S512x256 .f32) :=
  ⟨Rect.unit (s := S512x256) ![0, 0] S256x128.size inb_S512x256_S256x128_0_0, k0_pay43 (vu00 i arg6 X6) (vs00 i arg2 arg3 X2 X3) (vl0 i arg7 X7) (arg14.view.readCov (Val := Elt Ideal) (L14_0 i arg2 arg3 arg6 arg7 X2 X3 X6 X7 arg14) (Rect.unit (s := S512x256) ![0, 0] S256x128.size inb_S512x256_S256x128_0_0).toLoadRect)⟩ :: (L14_0 i arg2 arg3 arg6 arg7 X2 X3 X6 X7 arg14)

/-- The sum after piece 2. -/
def L14_2 (i : grid0.Coords) (arg2 : Memref sig .tc .vmem S4096x512 .bf16) (arg3 : Memref sig .tc .vmem S512x512 .bf16) (arg6 : Memref sig .tc .vmem S4096x256 .bf16) (arg7 : Memref sig .tc .vmem S2x8x1x512 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (arg14 : Memref sig .tc .vmem S512x256 .f32) : List (View.Piece (Elt Ideal) S512x256 .f32) :=
  ⟨Rect.unit (s := S512x256) ![0, 128] S256x128.size inb_S512x256_S256x128_0_128, k0_pay49 (vu10 i arg6 X6) (vs10 i arg2 arg3 X2 X3) (vl1 i arg7 X7) (arg14.view.readCov (Val := Elt Ideal) (L14_1 i arg2 arg3 arg6 arg7 X2 X3 X6 X7 arg14) (Rect.unit (s := S512x256) ![0, 128] S256x128.size inb_S512x256_S256x128_0_128).toLoadRect)⟩ :: (L14_1 i arg2 arg3 arg6 arg7 X2 X3 X6 X7 arg14)

/-- The sum after piece 3. -/
def L14_3 (i : grid0.Coords) (arg2 : Memref sig .tc .vmem S4096x512 .bf16) (arg3 : Memref sig .tc .vmem S512x512 .bf16) (arg6 : Memref sig .tc .vmem S4096x256 .bf16) (arg7 : Memref sig .tc .vmem S2x8x1x512 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (arg14 : Memref sig .tc .vmem S512x256 .f32) : List (View.Piece (Elt Ideal) S512x256 .f32) :=
  ⟨Rect.unit (s := S512x256) ![0, 0] S512x128.size inb_S512x256_S512x128_0_0, k0_pay62 (vu01 i arg6 X6) (vs01 i arg2 arg3 X2 X3) (vl0 i arg7 X7) (arg14.view.readCov (Val := Elt Ideal) (L14_2 i arg2 arg3 arg6 arg7 X2 X3 X6 X7 arg14) (Rect.unit (s := S512x256) ![0, 0] S512x128.size inb_S512x256_S512x128_0_0).toLoadRect)⟩ :: (L14_2 i arg2 arg3 arg6 arg7 X2 X3 X6 X7 arg14)

/-- The sum after piece 4. -/
def L14_4 (i : grid0.Coords) (arg2 : Memref sig .tc .vmem S4096x512 .bf16) (arg3 : Memref sig .tc .vmem S512x512 .bf16) (arg6 : Memref sig .tc .vmem S4096x256 .bf16) (arg7 : Memref sig .tc .vmem S2x8x1x512 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (arg14 : Memref sig .tc .vmem S512x256 .f32) : List (View.Piece (Elt Ideal) S512x256 .f32) :=
  ⟨Rect.unit (s := S512x256) ![0, 128] S512x128.size inb_S512x256_S512x128_0_128, k0_pay67 (vu11 i arg6 X6) (vp11 i arg2 arg3 arg7 X2 X3 X7) (arg14.view.readCov (Val := Elt Ideal) (L14_3 i arg2 arg3 arg6 arg7 X2 X3 X6 X7 arg14) (Rect.unit (s := S512x256) ![0, 128] S512x128.size inb_S512x256_S512x128_0_128).toLoadRect)⟩ :: (L14_3 i arg2 arg3 arg6 arg7 X2 X3 X6 X7 arg14)

include hX in
theorem start14 (arg14 : Memref sig .tc .vmem S512x256 .f32) (y : S512x256.Idx) :
    arg14.view.read (Elt Ideal) (arg14.view.writes (Elt Ideal) arg14.view.junk (L14_4 i arg2 arg3 arg6 arg7 X2 X3 X6 X7 arg14)) y = addV (i 1).val q k u ls (i 1).val ((y 1).val / 128) (y 0).val ((y 1).val % 128) :=
  diag14 (L0 := (L14_0 i arg2 arg3 arg6 arg7 X2 X3 X6 X7 arg14)) (L1 := (L14_1 i arg2 arg3 arg6 arg7 X2 X3 X6 X7 arg14)) (L2 := (L14_2 i arg2 arg3 arg6 arg7 X2 X3 X6 X7 arg14)) (L3 := (L14_3 i arg2 arg3 arg6 arg7 X2 X3 X6 X7 arg14)) (z := k0_pay33 (F := Ideal)) (hz := zero14) (h0 := rfl) (h1 := rfl) (h2 := rfl) (h3 := rfl) (hu00 := hu00 hX i) (hu10 := hu10 hX i) (hu01 := hu01 hX i) (hu11 := hu11 hX i) (hs00 := hs00 hX i) (hs10 := hs10 hX i) (hs01 := hs01 hX i) (hp11 := hp11 hX i) (hl0 := hl0 hX i) (hl1 := hl1 hX i) (i3 := inb_S512x256_S512x128_0_128) (r3 := inb_S512x256_S512x128_0_128) ..

theorem zero13 (x : S512x512.Idx) : k0_pay32 (F := Ideal) x = (0 : EReal) := by
  unfold k0_pay32
  pointwise

/-- The sum before the first piece. -/
def L13_0 (i : grid0.Coords) (arg2 : Memref sig .tc .vmem S4096x512 .bf16) (arg3 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg13 : Memref sig .tc .vmem S512x512 .f32) : List (View.Piece (Elt Ideal) S512x512 .f32) :=
  [⟨Rect.unit (s := S512x512) ![0, 0] S512x512.size inb_S512x512_S512x512_0_0, k0_pay32 (F := Ideal)⟩]

/-- The sum after piece 1. -/
def L13_1 (i : grid0.Coords) (arg2 : Memref sig .tc .vmem S4096x512 .bf16) (arg3 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg13 : Memref sig .tc .vmem S512x512 .f32) : List (View.Piece (Elt Ideal) S512x512 .f32) :=
  ⟨Rect.unit (s := S512x512) ![0, 0] S256x256.size inb_S512x512_S256x256_0_0, k0_pay46 (k0_pay45 (vq00 i arg2 X2) (vs00 i arg2 arg3 X2 X3) (vd00 i arg5 arg6 X5 X6) (vl0 i arg7 X7) (ve0 i arg8 X8) (arg13.view.readCov (Val := Elt Ideal) (L13_0 i arg2 arg3 arg5 arg6 arg7 arg8 X2 X3 X5 X6 X7 X8 arg13) (Rect.unit (s := S512x512) ![0, 0] S256x256.size inb_S512x512_S256x256_0_0).toLoadRect))⟩ :: (L13_0 i arg2 arg3 arg5 arg6 arg7 arg8 X2 X3 X5 X6 X7 X8 arg13)

/-- The sum after piece 2. -/
def L13_2 (i : grid0.Coords) (arg2 : Memref sig .tc .vmem S4096x512 .bf16) (arg3 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg13 : Memref sig .tc .vmem S512x512 .f32) : List (View.Piece (Elt Ideal) S512x512 .f32) :=
  ⟨Rect.unit (s := S512x512) ![0, 256] S256x256.size inb_S512x512_S256x256_0_256, k0_pay51 (vq10 i arg2 X2) (vd10 i arg5 arg6 X5 X6) (vp10 i arg2 arg3 arg7 X2 X3 X7) (ve1 i arg8 X8) (arg13.view.readCov (Val := Elt Ideal) (L13_1 i arg2 arg3 arg5 arg6 arg7 arg8 X2 X3 X5 X6 X7 X8 arg13) (Rect.unit (s := S512x512) ![0, 256] S256x256.size inb_S512x512_S256x256_0_256).toLoadRect)⟩ :: (L13_1 i arg2 arg3 arg5 arg6 arg7 arg8 X2 X3 X5 X6 X7 X8 arg13)

/-- The sum after piece 3. -/
def L13_3 (i : grid0.Coords) (arg2 : Memref sig .tc .vmem S4096x512 .bf16) (arg3 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg13 : Memref sig .tc .vmem S512x512 .f32) : List (View.Piece (Elt Ideal) S512x512 .f32) :=
  ⟨Rect.unit (s := S512x512) ![0, 0] S512x256.size inb_S512x512_S512x256_0_0, k0_pay64 (vq01 i arg2 X2) (vd01 i arg5 arg6 X5 X6) (vp01 i arg2 arg3 arg7 X2 X3 X7) (ve0 i arg8 X8) (arg13.view.readCov (Val := Elt Ideal) (L13_2 i arg2 arg3 arg5 arg6 arg7 arg8 X2 X3 X5 X6 X7 X8 arg13) (Rect.unit (s := S512x512) ![0, 0] S512x256.size inb_S512x512_S512x256_0_0).toLoadRect)⟩ :: (L13_2 i arg2 arg3 arg5 arg6 arg7 arg8 X2 X3 X5 X6 X7 X8 arg13)

/-- The sum after piece 4. -/
def L13_4 (i : grid0.Coords) (arg2 : Memref sig .tc .vmem S4096x512 .bf16) (arg3 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg13 : Memref sig .tc .vmem S512x512 .f32) : List (View.Piece (Elt Ideal) S512x512 .f32) :=
  ⟨Rect.unit (s := S512x512) ![0, 256] S512x256.size inb_S512x512_S512x256_0_256, k0_pay69 (vq11 i arg2 X2) (vd11 i arg5 arg6 X5 X6) (vp11 i arg2 arg3 arg7 X2 X3 X7) (ve1 i arg8 X8) (arg13.view.readCov (Val := Elt Ideal) (L13_3 i arg2 arg3 arg5 arg6 arg7 arg8 X2 X3 X5 X6 X7 X8 arg13) (Rect.unit (s := S512x512) ![0, 256] S512x256.size inb_S512x512_S512x256_0_256).toLoadRect)⟩ :: (L13_3 i arg2 arg3 arg5 arg6 arg7 arg8 X2 X3 X5 X6 X7 X8 arg13)

include hX in
theorem start13 (arg13 : Memref sig .tc .vmem S512x512 .f32) (y : S512x512.Idx) :
    arg13.view.read (Elt Ideal) (arg13.view.writes (Elt Ideal) arg13.view.junk (L13_4 i arg2 arg3 arg5 arg6 arg7 arg8 X2 X3 X5 X6 X7 X8 arg13)) y = addK (i 1).val q k v u ls dl (i 1).val ((y 1).val / 256) (y 0).val ((y 1).val % 256) :=
  diag13 (L0 := (L13_0 i arg2 arg3 arg5 arg6 arg7 arg8 X2 X3 X5 X6 X7 X8 arg13)) (L1 := (L13_1 i arg2 arg3 arg5 arg6 arg7 arg8 X2 X3 X5 X6 X7 X8 arg13)) (L2 := (L13_2 i arg2 arg3 arg5 arg6 arg7 arg8 X2 X3 X5 X6 X7 X8 arg13)) (L3 := (L13_3 i arg2 arg3 arg5 arg6 arg7 arg8 X2 X3 X5 X6 X7 X8 arg13)) (z := k0_pay32 (F := Ideal)) (hz := zero13) (h0 := rfl) (h1 := rfl) (h2 := rfl) (h3 := rfl) (hq00 := hq00 hX i) (hq10 := hq10 hX i) (hq01 := hq01 hX i) (hq11 := hq11 hX i) (hs00 := hs00 hX i) (hd00 := hd00 hX i) (hd10 := hd10 hX i) (hd01 := hd01 hX i) (hd11 := hd11 hX i) (hp10 := hp10 hX i) (hp01 := hp01 hX i) (hp11 := hp11 hX i) (hl0 := hl0 hX i) (he0 := he0 hX i) (he1 := he1 hX i) (he2 := he0 hX i) (he3 := he1 hX i) (i3 := inb_S512x512_S512x256_0_256) (r3 := inb_S512x512_S512x256_0_256) ..

/-- The four pieces added to the queries' sum. -/
def L12 (i : grid0.Coords) (arg2 : Memref sig .tc .vmem S4096x512 .bf16) (arg3 : Memref sig .tc .vmem S512x512 .bf16) (arg4 : Memref sig .tc .vmem S512x512 .bf16) (arg5 : Memref sig .tc .vmem S512x256 .bf16) (arg6 : Memref sig .tc .vmem S4096x256 .bf16) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (arg12 : Memref sig .tc .vmem S2x8x256x512 .f32) (f12 : BufTy.Contents (Elt Ideal) arg12.view.ty) : List (View.Piece (Elt Ideal) S2x8x256x512 .f32) :=
  [⟨Rect.unit (s := S2x8x256x512) (k0_off10 i) S1x1x256x256.size (k0_off10_inb i), k0_pay70 (vd11 i arg5 arg6 X5 X6) (vp11 i arg2 arg3 arg7 X2 X3 X7) (ve1 i arg8 X8) (arg12.view.readAt (Elt Ideal) (Rect.unit (s := S2x8x256x512) (k0_off10 i) S1x1x256x256.size (k0_off10_inb i)).toLoadRect f12) (vt11 i arg4 X4)⟩,
   ⟨Rect.unit (s := S2x8x256x512) (k0_off9 i) S1x1x256x256.size (k0_off9_inb i), k0_pay65 (vd01 i arg5 arg6 X5 X6) (vp01 i arg2 arg3 arg7 X2 X3 X7) (ve0 i arg8 X8) (arg12.view.readAt (Elt Ideal) (Rect.unit (s := S2x8x256x512) (k0_off9 i) S1x1x256x256.size (k0_off9_inb i)).toLoadRect f12) (vt01 i arg4 X4)⟩,
   ⟨Rect.unit (s := S2x8x256x512) (k0_off8 i) S1x1x256x256.size (k0_off8_inb i), k0_pay52 (vd10 i arg5 arg6 X5 X6) (vp10 i arg2 arg3 arg7 X2 X3 X7) (ve1 i arg8 X8) (arg12.view.readAt (Elt Ideal) (Rect.unit (s := S2x8x256x512) (k0_off8 i) S1x1x256x256.size (k0_off8_inb i)).toLoadRect f12) (vt10 i arg4 X4)⟩,
   ⟨Rect.unit (s := S2x8x256x512) (k0_off6 i) S1x1x256x256.size (k0_off6_inb i), k0_pay47 (k0_pay44 (vs00 i arg2 arg3 X2 X3) (vd00 i arg5 arg6 X5 X6) (vl0 i arg7 X7) (ve0 i arg8 X8)) (arg12.view.readAt (Elt Ideal) (Rect.unit (s := S2x8x256x512) (k0_off6 i) S1x1x256x256.size (k0_off6_inb i)).toLoadRect f12) (vt00 i arg4 X4)⟩]

include hX in
theorem start12 (arg12 : Memref sig .tc .vmem S2x8x256x512 .f32) (f12 : BufTy.Contents (Elt Ideal) arg12.view.ty) (y : S2x8x256x512.Idx) :
    arg12.view.read (Elt Ideal) (arg12.view.writes (Elt Ideal) f12 (L12 i arg2 arg3 arg4 arg5 arg6 arg7 arg8 X2 X3 X4 X5 X6 X7 X8 arg12 f12)) y
      = if (y 1).val = (i 1).val then (arg12.view.read (Elt Ideal) f12 y : EReal) + addQ (i 1).val q k kt v u ls dl (y 0).val (y 2).val (512 * (i 1).val + (y 3).val) else arg12.view.read (Elt Ideal) f12 y :=
  diag12 (g0 := off6 i) (g1 := off8 i) (g2 := off9 i) (g3 := off10 i) (hs00 := hs00 hX i) (hl0 := hl0 hX i) (hd00 := hd00 hX i) (hd10 := hd10 hX i) (hd01 := hd01 hX i) (hd11 := hd11 hX i) (hp10 := hp10 hX i) (hp01 := hp01 hX i) (hp11 := hp11 hX i) (he0 := he0 hX i) (he1 := he1 hX i) (he2 := he0 hX i) (he3 := he1 hX i) (ht00 := ht00 hX i) (ht10 := ht10 hX i) (ht01 := ht01 hX i) (ht11 := ht11 hX i) ..

end Values

end Cert.AttnIdeal.Body
-- ==== Proof.AttnBody.lean ====
/- The whole body at a grid point. -/
module

public import proofs.«01_k».proof.Proof.AttnStart
public import Idealize.ShloMosaic.Lib.LoopRemainder

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem first : ∀ i : grid0.Coords, (Scalar.cmpi .ne (Scalar.extui (Scalar.cmpi .eq (BitVec.ofNat 32 (i 1).val) 0#32) : BitVec 32) 0#32 = 1#1) ↔ (i 1).val = 0 := by decide +kernel

theorem last : ∀ i : grid0.Coords, k0_cond2 i = 1#1 ↔ (i 1).val = 7 := by decide +kernel

theorem begun {arg12 : Memref sig .tc .vmem S2x8x256x512 .f32} (i : grid0.Coords) (f12 : BufTy.Contents (Elt Ideal) arg12.view.ty) (y : S2x8x256x512.Idx) (A : ℕ → EReal) (inb) :
    (if (y 1).val = (i 1).val then (arg12.view.read (Elt Ideal) (if hc : (Scalar.cmpi .ne (Scalar.extui (Scalar.cmpi .eq (BitVec.ofNat 32 (i 1).val) 0#32) : BitVec 32) 0#32 = 1#1) then arg12.view.writes (Elt Ideal) f12 [⟨Rect.unit (s := S2x8x256x512) ![0, 0, 0, 0] S2x8x256x512.size inb, k0_pay31 (F := Ideal)⟩] else f12) y : EReal) + A (512 * (i 1).val + (y 3).val) else arg12.view.read (Elt Ideal) (if hc : (Scalar.cmpi .ne (Scalar.extui (Scalar.cmpi .eq (BitVec.ofNat 32 (i 1).val) 0#32) : BitVec 32) 0#32 = 1#1) then arg12.view.writes (Elt Ideal) f12 [⟨Rect.unit (s := S2x8x256x512) ![0, 0, 0, 0] S2x8x256x512.size inb, k0_pay31 (F := Ideal)⟩] else f12) y)
      = (if (i 1).val = 0 then 0 else arg12.view.read (Elt Ideal) f12 y) + if (i 1).val ≤ (y 1).val ∧ (y 1).val < (i 1).val + 1 + 0 then A (512 * (y 1).val + (y 3).val) else 0 := by
  have e : (arg12.view.read (Elt Ideal) (if hc : (Scalar.cmpi .ne (Scalar.extui (Scalar.cmpi .eq (BitVec.ofNat 32 (i 1).val) 0#32) : BitVec 32) 0#32 = 1#1) then arg12.view.writes (Elt Ideal) f12 [⟨Rect.unit (s := S2x8x256x512) ![0, 0, 0, 0] S2x8x256x512.size inb, k0_pay31 (F := Ideal)⟩] else f12) y : EReal)
      = if (i 1).val = 0 then 0 else arg12.view.read (Elt Ideal) f12 y := by
    by_cases h : (i 1).val = 0
    · rw [if_pos h, dif_pos ((first i).mpr h), mem4 arg12.view f12 rfl _ _ _ y y (by simp) (by simp) (by simp) (by simp)]
      unfold k0_pay31
      pointwise
    · rw [if_neg h, dif_neg fun k => h ((first i).mp k)]
  rw [e]
  by_cases h : (y 1).val = (i 1).val
  · rw [if_pos h, if_pos (c := (i 1).val ≤ (y 1).val ∧ (y 1).val < (i 1).val + 1 + 0) (by omega), h]
  · rw [if_neg h, if_neg (c := (i 1).val ≤ (y 1).val ∧ (y 1).val < (i 1).val + 1 + 0) (by omega), add_zero]

/-- What one grid point leaves: the blocks of the keys' and values' gradients, and the running sum of the queries'. -/
structure Out {arg9 : Memref sig .tc .vmem S2x8x256x512 .bf16} {arg10 : Memref sig .tc .vmem S512x512 .bf16} {arg11 : Memref sig .tc .vmem S512x256 .bf16} {arg12 : Memref sig .tc .vmem S2x8x256x512 .f32}
    (j : ℕ) (q k kt v u : ℕ → ℕ → EReal) (ls dl : ℕ → ℕ → EReal)
    (f9 g9 : BufTy.Contents (Elt Ideal) arg9.view.ty) (g10 : BufTy.Contents (Elt Ideal) arg10.view.ty) (g11 : BufTy.Contents (Elt Ideal) arg11.view.ty) (f12 g12 : BufTy.Contents (Elt Ideal) arg12.view.ty) : Prop where
  h12 : ∀ y : S2x8x256x512.Idx, arg12.view.read (Elt Ideal) g12 y
    = (if j = 0 then 0 else arg12.view.read (Elt Ideal) f12 y : EReal) + if j ≤ (y 1).val then addQ j q k kt v u ls dl (y 0).val (y 2).val (512 * (y 1).val + (y 3).val) else 0
  h9 : j = 7 → ∀ y : S2x8x256x512.Idx, (arg9.view.read (Elt Ideal) g9 y : EReal) = arg12.view.read (Elt Ideal) g12 y
  h9' : j ≠ 7 → g9 = f9
  h10 : ∀ y : S512x512.Idx, arg10.view.read (Elt Ideal) g10 y
    = if (y 1).val % 256 < 128 then (∑ b ∈ Finset.Ico j 8, addK j q k v u ls dl b ((y 1).val / 256) (y 0).val ((y 1).val % 256)) * ((Real.log 2 : ℝ) : EReal)
      else ∑ b ∈ Finset.Ico j 8, addV j q k u ls b ((y 1).val / 256) (y 0).val ((y 1).val % 256 - 128)
  h11 : ∀ y : S512x256.Idx, arg11.view.read (Elt Ideal) g11 y
    = (∑ b ∈ Finset.Ico j 8, addK j q k v u ls dl b ((y 1).val / 128) (y 0).val (128 + (y 1).val % 128)) * ((Real.log 2 : ℝ) : EReal)

section Epilogue

variable {arg13 : Memref sig .tc .vmem S512x512 .f32} {arg14 : Memref sig .tc .vmem S512x256 .f32} (g13 : BufTy.Contents (Elt Ideal) arg13.view.ty) (g14 : BufTy.Contents (Elt Ideal) arg14.view.ty)
  (G13 G14 : ℕ → ℕ → EReal) (h13 : ∀ y : S512x512.Idx, arg13.view.read (Elt Ideal) g13 y = G13 (y 0).val (y 1).val) (h14 : ∀ y : S512x256.Idx, arg14.view.read (Elt Ideal) g14 y = G14 (y 0).val (y 1).val)

include h13 h14 in
theorem out10 (arg10 : Memref sig .tc .vmem S512x512 .bf16) (f10 : BufTy.Contents (Elt Ideal) arg10.view.ty) (i0 i1 i2 i3 r0 r1 r2 r3) (y : S512x512.Idx) :
    arg10.view.read (Elt Ideal) (arg10.view.writes (Elt Ideal) f10
      [(⟨Rect.unit (s := S512x512) ![0, 384] S512x128.size i3, k0_pay83 (arg14.view.readAt (Elt Ideal) (Rect.unit (s := S512x256) ![0, 128] S512x128.size r3).toLoadRect g14)⟩ : View.Piece (Elt Ideal) S512x512 .bf16),
       ⟨Rect.unit (s := S512x512) ![0, 256] S512x128.size i2, k0_pay82 (arg13.view.readAt (Elt Ideal) (Rect.unit (s := S512x512) ![0, 256] S512x128.size r2).toLoadRect g13)⟩,
       ⟨Rect.unit (s := S512x512) ![0, 128] S512x128.size i1, k0_pay80 (arg14.view.readAt (Elt Ideal) (Rect.unit (s := S512x256) ![0, 0] S512x128.size r1).toLoadRect g14)⟩,
       ⟨Rect.unit (s := S512x512) ![0, 0] S512x128.size i0, k0_pay79 (arg13.view.readAt (Elt Ideal) (Rect.unit (s := S512x512) ![0, 0] S512x128.size r0).toLoadRect g13)⟩]) y
      = if (y 1).val % 256 < 128 then G13 (y 0).val (y 1).val * ((Real.log 2 : ℝ) : EReal) else G14 (y 0).val (128 * ((y 1).val / 256) + ((y 1).val % 256 - 128)) := by
  have hy : (y 1).val < 512 := (y 1).isLt
  have hl : Named.named (F := Ideal) κ "ln2" (φ := .f32) 0x3F317218#32 = (((Real.log 2 : ℝ) : EReal)) := rfl
  by_cases c3 : 384 ≤ (y 1).val
  · rw [if_neg (by omega), mem2 arg10.view f10 rfl _ _ _ y (ix2 (y 0) ⟨(y 1).val - 384, by omega⟩ : S512x128.Idx) (by simp [ix2]) (by simp [ix2]; omega)]
    unfold k0_pay83
    pointwise
    rw [rd2 h14 rfl S512x128.size r3]
    exact congrArg₂ G14 (by simp [ix2]) (by simp [ix2]; omega)
  rw [View.read_writes_cons_unit_of_not_mem arg10.view _ _ _ _ y rfl 1 (by simp; omega)]
  by_cases c2 : 256 ≤ (y 1).val
  · rw [if_pos (by omega), mem2 arg10.view f10 rfl _ _ _ y (ix2 (y 0) ⟨(y 1).val - 256, by omega⟩ : S512x128.Idx) (by simp [ix2]) (by simp [ix2]; omega)]
    unfold k0_pay82
    pointwise
    rw [rd2 h13 rfl S512x128.size r2, hl]
    exact congrArg (· * _) (congrArg₂ G13 (by simp [ix2]) (by simp [ix2]; omega))
  rw [View.read_writes_cons_unit_of_not_mem arg10.view _ _ _ _ y rfl 1 (by simp; omega)]
  by_cases c1 : 128 ≤ (y 1).val
  · rw [if_neg (by omega), mem2 arg10.view f10 rfl _ _ _ y (ix2 (y 0) ⟨(y 1).val - 128, by omega⟩ : S512x128.Idx) (by simp [ix2]) (by simp [ix2]; omega)]
    unfold k0_pay80
    pointwise
    rw [rd2 h14 rfl S512x128.size r1]
    exact congrArg₂ G14 (by simp [ix2]) (by simp [ix2]; omega)
  rw [View.read_writes_cons_unit_of_not_mem arg10.view _ _ _ _ y rfl 1 (by simp; omega)]
  rw [if_pos (by omega), mem2 arg10.view f10 rfl _ _ _ y (ix2 (y 0) ⟨(y 1).val, by omega⟩ : S512x128.Idx) (by simp [ix2]) (by simp [ix2])]
  unfold k0_pay79
  pointwise
  rw [rd2 h13 rfl S512x128.size r0, hl]
  exact congrArg (· * _) (congrArg₂ G13 (by simp [ix2]) (by simp [ix2]))

include h13 in
theorem out11 (arg11 : Memref sig .tc .vmem S512x256 .bf16) (f11 : BufTy.Contents (Elt Ideal) arg11.view.ty) (i0 i1 r0 r1) (y : S512x256.Idx) :
    arg11.view.read (Elt Ideal) (arg11.view.writes (Elt Ideal) f11
      [(⟨Rect.unit (s := S512x256) ![0, 128] S512x128.size i1, k0_pay1 (arg13.view.readAt (Elt Ideal) (Rect.unit (s := S512x512) ![0, 384] S512x128.size r1).toLoadRect g13)⟩ : View.Piece (Elt Ideal) S512x256 .bf16),
       ⟨Rect.unit (s := S512x256) ![0, 0] S512x128.size i0, k0_pay81 (arg13.view.readAt (Elt Ideal) (Rect.unit (s := S512x512) ![0, 128] S512x128.size r0).toLoadRect g13)⟩]) y
      = G13 (y 0).val (256 * ((y 1).val / 128) + (128 + (y 1).val % 128)) * ((Real.log 2 : ℝ) : EReal) := by
  have hy : (y 1).val < 256 := (y 1).isLt
  have hl : Named.named (F := Ideal) κ "ln2" (φ := .f32) 0x3F317218#32 = (((Real.log 2 : ℝ) : EReal)) := rfl
  by_cases c1 : 128 ≤ (y 1).val
  · rw [mem2 arg11.view f11 rfl _ _ _ y (ix2 (y 0) ⟨(y 1).val - 128, by omega⟩ : S512x128.Idx) (by simp [ix2]) (by simp [ix2]; omega)]
    unfold k0_pay1
    pointwise
    rw [rd2 h13 rfl S512x128.size r1, hl]
    exact congrArg (· * _) (congrArg₂ G13 (by simp [ix2]) (by simp [ix2]; omega))
  rw [View.read_writes_cons_unit_of_not_mem arg11.view _ _ _ _ y rfl 1 (by simp; omega)]
  rw [mem2 arg11.view f11 rfl _ _ _ y (ix2 (y 0) ⟨(y 1).val, by omega⟩ : S512x128.Idx) (by simp [ix2]) (by simp [ix2])]
  unfold k0_pay81
  pointwise
  rw [rd2 h13 rfl S512x128.size r0, hl]
  exact congrArg (· * _) (congrArg₂ G13 (by simp [ix2]) (by simp [ix2]; omega))

end Epilogue

set_option maxHeartbeats 1000000 in
/-- The body at a grid point. -/
theorem body (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (q k kt v u : ℕ → ℕ → EReal) (ls dl : ℕ → ℕ → EReal) (hX : Blk X2 X3 X4 X5 X6 X7 X8 q k kt v u ls dl) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ⊢ wp frame (wpE (defs₀ (F := Ideal)) 𝒱 (c : Thread nD τ) bd) E (cc0_l2_b_attn_skel (F := Ideal) i arg2 harg2 arg3 harg3 arg4 harg4 arg5 harg5 arg6 harg6 arg7 harg7 arg8 harg8 arg9 harg9 arg10 harg10 arg11 harg11 arg12 harg12 arg13 harg13 arg14 harg14) (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ ∃ (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty),
      ⌜Out (i 1).val q k kt v u ls dl f9 g9 g10 g11 f12 g12⌝ ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) : sProp 𝕄)) := by
  unfold cc0_l2_b_attn_skel
  iintro ⟨H2, H3, H4, H5, H6, H7, H8, H9, H10, H11, H12, H13, H14⟩
  sl_exec
  sl_for (Inv c i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 q k kt v u ls dl (fun y => if (i 1).val = 0 then 0 else arg12.view.read (Elt Ideal) f12 y)) $$ [H2 H3 H4 H5 H6 H7 H8 H12 H13 H14]
  · intro n acc
    exact inv_trip 𝒱 c bd E i arg2 harg2 arg3 harg3 arg4 harg4 arg5 harg5 arg6 harg6 arg7 harg7 arg8 harg8 arg9 harg9 arg10 harg10 arg11 harg11 arg12 harg12 arg13 harg13 arg14 harg14 _ _ X2 X3 X4 X5 X6 X7 X8 q k kt v u ls dl _ hX n acc
  · unfold Inv
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexists _; iexists _
    isplitr
    rotate_left
    · isplitl [H12]; · iexact H12
      isplitl [H13]; · iexact H13
      iexact H14
    ipureintro
    refine ⟨fun y => ?_, fun y => ?_, fun y => ?_⟩
    · exact (start12 hX i arg12 _ y).trans (begun i f12 y _ _)
    · rw [show Finset.Ico (i 1).val ((i 1).val + 1 + 0) = {(i 1).val} from Nat.Ico_succ_singleton _, Finset.sum_singleton]
      exact start13 hX i arg13 y
    · rw [show Finset.Ico (i 1).val ((i 1).val + 1 + 0) = {(i 1).val} from Nat.Ico_succ_singleton _, Finset.sum_singleton]
      exact start14 hX i arg14 y
  · iintro %acc HI
    unfold Inv
    icases HI with ⟨H2, H3, H4, H5, H6, H7, H8, %g12, %g13, %g14, %hs, H12, H13, H14⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexists _; iexists _; iexists g12; iexists g13; iexists g14
    isplitr
    rotate_left
    isplitl [H9]; · iexact H9
    isplitl [H10]; · iexact H10
    isplitl [H11]; · iexact H11
    isplitl [H12]; · iexact H12
    isplitl [H13]; · iexact H13
    iexact H14
    ipureintro
    have hj : (i 1).val < 8 := (i 1).isLt
    have ht : (i 1).val + 1 + Scf.trips (k0_t1_loop i).lb (k0_t1_loop i).ub (k0_t1_loop i).st = 8 := by
      have := trips i
      unfold Scf.Loop.trips at this
      omega
    have h12 := hs.h12
    have h13 := hs.h13
    have h14 := hs.h14
    rw [ht] at h12 h13 h14
    refine ⟨fun y => ?_, fun e y => ?_, fun e => ?_, fun y => ?_, fun y => ?_⟩
    · rw [h12]
      have : (y 1).val < 8 := (y 1).isLt
      exact congrArg (_ + ·) (if_congr (by omega) rfl rfl)
    · rw [dif_pos ((last i).mpr e), mem4 arg9.view f9 rfl _ _ _ y y (by simp) (by simp) (by simp) (by simp)]
      unfold k0_pay2
      pointwise
      exact at4 arg12.view g12 rfl S2x8x256x512.size _ y y (by simp) (by simp) (by simp) (by simp)
    · rw [dif_neg fun h => e ((last i).mp h)]
    · refine (out10 g13 g14 (fun a b => ∑ n ∈ Finset.Ico (i 1).val 8, addK (i 1).val q k v u ls dl n (b / 256) a (b % 256)) (fun a b => ∑ n ∈ Finset.Ico (i 1).val 8, addV (i 1).val q k u ls n (b / 128) a (b % 128)) h13 h14 arg10 f10 _ _ _ _ _ _ _ _ y).trans ?_
      have : (y 1).val < 512 := (y 1).isLt
      by_cases hh : (y 1).val % 256 < 128
      · rw [if_pos hh, if_pos hh]
      · rw [if_neg hh, if_neg hh]
        dsimp only
        rw [show (128 * ((y 1).val / 256) + ((y 1).val % 256 - 128)) / 128 = (y 1).val / 256 by omega, show (128 * ((y 1).val / 256) + ((y 1).val % 256 - 128)) % 128 = (y 1).val % 256 - 128 by omega]
    · refine (out11 g13 (fun a b => ∑ n ∈ Finset.Ico (i 1).val 8, addK (i 1).val q k v u ls dl n (b / 256) a (b % 256)) h13 arg11 f11 _ _ _ _ y).trans ?_
      have : (y 1).val < 256 := (y 1).isLt
      dsimp only
      rw [show (256 * ((y 1).val / 128) + (128 + (y 1).val % 128)) / 256 = (y 1).val / 128 by omega, show (256 * ((y 1).val / 128) + (128 + (y 1).val % 128)) % 256 = 128 + (y 1).val % 128 by omega]

end Cert.AttnIdeal.Body
-- ==== Proof.AttnPoint.lean ====
/- The blocks each grid point reads. -/
module

public import proofs.«01_k».proof.Proof.AttnBody
public import proofs.«01_k».proof.Proof.Gen.AttnIdeal.Frame
public import Idealize.ShloMosaic.Lib.Pipeline.ValueKit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- An array of two axes read at numbers. -/
def num2 {n0 n1 : ℕ} (X : (⟨2, ![n0, n1]⟩ : Shape).Idx → EReal) (a b : ℕ) : EReal := if h : a < n0 ∧ b < n1 then X (ix2 ⟨a, h.1⟩ ⟨b, h.2⟩) else 0

theorem num2_eq {n0 n1 : ℕ} (X : (⟨2, ![n0, n1]⟩ : Shape).Idx → EReal) (y : (⟨2, ![n0, n1]⟩ : Shape).Idx) (a b : ℕ) (h0 : (y 0).val = a) (h1 : (y 1).val = b) : X y = num2 X a b := by
  subst h0 h1
  unfold num2
  rw [dif_pos ⟨(y 0).isLt, (y 1).isLt⟩]
  exact congrArg X (funext fun a => by fin_cases a <;> rfl)

/-- An array of four axes read at numbers. -/
def num4 {n0 n1 n2 n3 : ℕ} (X : (⟨4, ![n0, n1, n2, n3]⟩ : Shape).Idx → EReal) (a b c d : ℕ) : EReal :=
  if h : (a < n0 ∧ b < n1) ∧ c < n2 ∧ d < n3 then X (ix4 ⟨a, h.1.1⟩ ⟨b, h.1.2⟩ ⟨c, h.2.1⟩ ⟨d, h.2.2⟩) else 0

theorem num4_eq {n0 n1 n2 n3 : ℕ} (X : (⟨4, ![n0, n1, n2, n3]⟩ : Shape).Idx → EReal) (y : (⟨4, ![n0, n1, n2, n3]⟩ : Shape).Idx) (a b c d : ℕ)
    (h0 : (y 0).val = a) (h1 : (y 1).val = b) (h2 : (y 2).val = c) (h3 : (y 3).val = d) : X y = num4 X a b c d := by
  subst h0 h1 h2 h3
  unfold num4
  rw [dif_pos ⟨⟨(y 0).isLt, (y 1).isLt⟩, (y 2).isLt, (y 3).isLt⟩]
  exact congrArg X (funext fun a => by fin_cases a <;> rfl)

section Point

variable (m : (ℓ : Loc nD τ sig) → Buf (Elt Ideal) ℓ) (ρ : Dev nD → PrngReg) (c : Dev nD)

/-- The blocks of the pair `h` of heads, as numbers read them. -/
def bq (h : ℕ) (r col : ℕ) : EReal := num2 (n0 := 4096) (n1 := 4096) (V m c main_v42) r (512 * h + col)
def bk (h j : ℕ) (kk col : ℕ) : EReal := num2 (n0 := 4096) (n1 := 4096) (V m c main_v43) (512 * j + kk) (512 * h + col)
def bkt (h j : ℕ) (a kk : ℕ) : EReal := num2 (n0 := 4096) (n1 := 4096) (V m c main_v44) (512 * h + a) (512 * j + kk)
def bv (h j : ℕ) (kk col : ℕ) : EReal := num2 (n0 := 4096) (n1 := 2048) (V m c main_v45) (512 * j + kk) (256 * h + col)
def bu (h : ℕ) (r col : ℕ) : EReal := num2 (n0 := 4096) (n1 := 2048) (V m c main_v46) r (256 * h + col)
def bl (h : ℕ) (hh qq : ℕ) : EReal := num4 (n0 := 16) (n1 := 8) (n2 := 1) (n3 := 512) (V m c main_v32) (2 * h + hh) (qq / 512) 0 (qq % 512)
def bd (h : ℕ) (hh qq : ℕ) : EReal := num4 (n0 := 16) (n1 := 8) (n2 := 1) (n3 := 512) (V m c main_v36) (2 * h + hh) (qq / 512) 0 (qq % 512)

/-- The running sum of the queries' gradient after the first `n` blocks of keys. -/
def sumQ (h n hh blk d l : ℕ) : EReal :=
  ∑ j ∈ Finset.range n, if j ≤ blk then addQ j (bq m c h) (bk m c h j) (bkt m c h j) (bv m c h j) (bu m c h) (bl m c h) (bd m c h) hh d (512 * blk + l) else 0

/-- The block of the gradients of the keys' first columns and of the values. -/
def outKV (h j : ℕ) (r col : ℕ) : EReal :=
  if col % 256 < 128 then (∑ b ∈ Finset.Ico j 8, addK j (bq m c h) (bk m c h j) (bv m c h j) (bu m c h) (bl m c h) (bd m c h) b (col / 256) r (col % 256)) * ((Real.log 2 : ℝ) : EReal)
  else ∑ b ∈ Finset.Ico j 8, addV j (bq m c h) (bk m c h j) (bu m c h) (bl m c h) b (col / 256) r (col % 256 - 128)

/-- The block of the gradients of the keys' last columns. -/
def outR (h j : ℕ) (r col : ℕ) : EReal :=
  (∑ b ∈ Finset.Ico j 8, addK j (bq m c h) (bk m c h j) (bv m c h j) (bu m c h) (bl m c h) (bd m c h) b (col / 128) r (128 + col % 128)) * ((Real.log 2 : ℝ) : EReal)

/-- Where each window's block sits. -/
theorem attn_idx : ∀ t : Fin cfg0.N, win0_0.index t = ![0, t.val / 8] ∧ win0_1.index t = ![t.val % 8, t.val / 8] ∧ win0_2.index t = ![t.val / 8, t.val % 8]
    ∧ win0_3.index t = ![t.val % 8, t.val / 8] ∧ win0_4.index t = ![0, t.val / 8] ∧ win0_5.index t = ![t.val / 8, 0, 0, 0] ∧ win0_6.index t = ![t.val / 8, 0, 0, 0]
    ∧ win0_7.index t = ![t.val / 8, 0, 0, 0] ∧ win0_8.index t = ![t.val % 8, t.val / 8] ∧ win0_9.index t = ![t.val % 8, t.val / 8] :=
  (by decide +kernel : ∀ t : Fin grid0.N, _)

theorem coord : ∀ t : Fin cfg0.N, ((grid0.coords t) 1).val = t.val % 8 := (by decide +kernel : ∀ t : Fin grid0.N, _)

theorem bq_read (X : S4096x4096.Idx → EReal) (t : Fin cfg0.N) (y : S4096x512.Idx) : (((cfg0.win 0).blk t).view.read (Elt Ideal) X y : EReal) = num2 (n0 := 4096) (n1 := 4096) X ((y 0).val) (512 * (t.val / 8) + (y 1).val) := by
  have e := (attn_idx t).1
  blk_simp
  refine num2_eq X _ _ _ ?_ ?_
  · blk_simp [e]
    first | done | (simp; done) | (simp; omega)
  · blk_simp [e]
    first | done | (simp; done) | (simp; omega)

theorem bq_eq (t : Fin cfg0.N) (y : S4096x512.Idx) : (iblk m c 0 t y : EReal) = bq m c (t.val / 8) (y 0).val (y 1).val :=
  bq_read (V m c main_v42) t y

theorem bk_read (X : S4096x4096.Idx → EReal) (t : Fin cfg0.N) (y : S512x512.Idx) : (((cfg0.win 1).blk t).view.read (Elt Ideal) X y : EReal) = num2 (n0 := 4096) (n1 := 4096) X (512 * (t.val % 8) + (y 0).val) (512 * (t.val / 8) + (y 1).val) := by
  have e := (attn_idx t).2.1
  blk_simp
  refine num2_eq X _ _ _ ?_ ?_
  · blk_simp [e]
    first | done | (simp; done) | (simp; omega)
  · blk_simp [e]
    first | done | (simp; done) | (simp; omega)

theorem bk_eq (t : Fin cfg0.N) (y : S512x512.Idx) : (iblk m c 1 t y : EReal) = bk m c (t.val / 8) (t.val % 8) (y 0).val (y 1).val :=
  bk_read (V m c main_v43) t y

theorem bkt_read (X : S4096x4096.Idx → EReal) (t : Fin cfg0.N) (y : S512x512.Idx) : (((cfg0.win 2).blk t).view.read (Elt Ideal) X y : EReal) = num2 (n0 := 4096) (n1 := 4096) X (512 * (t.val / 8) + (y 0).val) (512 * (t.val % 8) + (y 1).val) := by
  have e := (attn_idx t).2.2.1
  blk_simp
  refine num2_eq X _ _ _ ?_ ?_
  · blk_simp [e]
    first | done | (simp; done) | (simp; omega)
  · blk_simp [e]
    first | done | (simp; done) | (simp; omega)

theorem bkt_eq (t : Fin cfg0.N) (y : S512x512.Idx) : (iblk m c 2 t y : EReal) = bkt m c (t.val / 8) (t.val % 8) (y 0).val (y 1).val :=
  bkt_read (V m c main_v44) t y

theorem bv_read (X : S4096x2048.Idx → EReal) (t : Fin cfg0.N) (y : S512x256.Idx) : (((cfg0.win 3).blk t).view.read (Elt Ideal) X y : EReal) = num2 (n0 := 4096) (n1 := 2048) X (512 * (t.val % 8) + (y 0).val) (256 * (t.val / 8) + (y 1).val) := by
  have e := (attn_idx t).2.2.2.1
  blk_simp
  refine num2_eq X _ _ _ ?_ ?_
  · blk_simp [e]
    first | done | (simp; done) | (simp; omega)
  · blk_simp [e]
    first | done | (simp; done) | (simp; omega)

theorem bv_eq (t : Fin cfg0.N) (y : S512x256.Idx) : (iblk m c 3 t y : EReal) = bv m c (t.val / 8) (t.val % 8) (y 0).val (y 1).val :=
  bv_read (V m c main_v45) t y

theorem bu_read (X : S4096x2048.Idx → EReal) (t : Fin cfg0.N) (y : S4096x256.Idx) : (((cfg0.win 4).blk t).view.read (Elt Ideal) X y : EReal) = num2 (n0 := 4096) (n1 := 2048) X ((y 0).val) (256 * (t.val / 8) + (y 1).val) := by
  have e := (attn_idx t).2.2.2.2.1
  blk_simp
  refine num2_eq X _ _ _ ?_ ?_
  · blk_simp [e]
    first | done | (simp; done) | (simp; omega)
  · blk_simp [e]
    first | done | (simp; done) | (simp; omega)

theorem bu_eq (t : Fin cfg0.N) (y : S4096x256.Idx) : (iblk m c 4 t y : EReal) = bu m c (t.val / 8) (y 0).val (y 1).val :=
  bu_read (V m c main_v46) t y

theorem bl_read (X : S16x8x1x512.Idx → EReal) (t : Fin cfg0.N) (y : S2x8x1x512.Idx) : (((cfg0.win 5).blk t).view.read (Elt Ideal) X y : EReal)
    = num4 (n0 := 16) (n1 := 8) (n2 := 1) (n3 := 512) X (2 * (t.val / 8) + (y 0).val) ((512 * (y 1).val + (y 3).val) / 512) 0 ((512 * (y 1).val + (y 3).val) % 512) := by
  have e := (attn_idx t).2.2.2.2.2.1
  have h2 : (y 2).val < 1 := (y 2).isLt
  have h3 : (y 3).val < 512 := (y 3).isLt
  blk_simp
  refine num4_eq X _ _ _ _ _ ?_ ?_ ?_ ?_
  · blk_simp [e]
    first | done | (simp; done) | (simp; omega)
  · blk_simp [e]
    first | done | omega | (simp; done) | (simp; omega)
  · blk_simp [e]
    first | done | omega | (simp; done) | (simp; omega)
  · blk_simp [e]
    first | done | omega | (simp; done) | (simp; omega)

theorem bl_eq (t : Fin cfg0.N) (y : S2x8x1x512.Idx) : (iblk m c 5 t y : EReal) = bl m c (t.val / 8) (y 0).val (512 * (y 1).val + (y 3).val) :=
  bl_read (V m c main_v32) t y

theorem bd_read (X : S16x8x1x512.Idx → EReal) (t : Fin cfg0.N) (y : S2x8x1x512.Idx) : (((cfg0.win 6).blk t).view.read (Elt Ideal) X y : EReal)
    = num4 (n0 := 16) (n1 := 8) (n2 := 1) (n3 := 512) X (2 * (t.val / 8) + (y 0).val) ((512 * (y 1).val + (y 3).val) / 512) 0 ((512 * (y 1).val + (y 3).val) % 512) := by
  have e := (attn_idx t).2.2.2.2.2.2.1
  have h2 : (y 2).val < 1 := (y 2).isLt
  have h3 : (y 3).val < 512 := (y 3).isLt
  blk_simp
  refine num4_eq X _ _ _ _ _ ?_ ?_ ?_ ?_
  · blk_simp [e]
    first | done | (simp; done) | (simp; omega)
  · blk_simp [e]
    first | done | omega | (simp; done) | (simp; omega)
  · blk_simp [e]
    first | done | omega | (simp; done) | (simp; omega)
  · blk_simp [e]
    first | done | omega | (simp; done) | (simp; omega)

theorem bd_eq (t : Fin cfg0.N) (y : S2x8x1x512.Idx) : (iblk m c 6 t y : EReal) = bd m c (t.val / 8) (y 0).val (512 * (y 1).val + (y 3).val) :=
  bd_read (V m c main_v36) t y

end Point

end Cert.AttnIdeal.Body

end
-- ==== Proof.AttnReal.lean ====
/- The gradient of the attention over the reals. -/
module

public import Idealize.ShloMosaic.PureOps.Ideal
public import Idealize.ShloMosaic.Lib.Pipeline.ValueKit

@[expose] public section

noncomputable section

namespace Cert.AttnReal

open Idealize.ShloMosaic

/-- A sum of reals, read among the extended reals. -/
theorem sum_coe {ι : Type} (S : Finset ι) (f : ι → ℝ) : (∑ i ∈ S, ((f i : ℝ) : EReal)) = ((∑ i ∈ S, f i : ℝ) : EReal) := by
  classical
  induction S using Finset.induction_on with
  | empty => simp
  | insert a S h ih => rw [Finset.sum_insert h, Finset.sum_insert h, ih, EReal.coe_add]

/-- A sum over 4096 numbers by blocks of 512. -/
theorem sum_blocks {A : Type} [AddCommMonoid A] (f : ℕ → A) : (∑ i : Fin 4096, f i.val) = ∑ b ∈ Finset.range 8, ∑ l : Fin 512, f (512 * b + l.val) := by
  rw [Finset.sum_range, ← Fintype.sum_prod_type' (f := fun (b : Fin 8) (l : Fin 512) => f (512 * b.val + l.val))]
  exact (Fintype.sum_equiv (finProdFinEquiv (m := 8) (n := 512)) _ _ fun x => by
    show _ = f _
    congr 1
    simp [finProdFinEquiv]; omega).symm

/-- Blocks before the `j`-th hold zeros. -/
theorem sum_from {A : Type} [AddCommMonoid A] (f : ℕ → A) (j : ℕ) (hj : j < 8) (h : ∀ i, i < 512 * j → f i = 0) :
    (∑ b ∈ Finset.Ico j 8, ∑ l : Fin 512, f (512 * b + l.val)) = ∑ i : Fin 4096, f i.val := by
  rw [sum_blocks, Finset.range_eq_Ico, ← Finset.sum_Ico_consecutive _ (Nat.zero_le j) (by omega : j ≤ 8)]
  rw [Finset.sum_eq_zero (s := Finset.Ico 0 j), zero_add]
  intro b hb
  refine Finset.sum_eq_zero fun l _ => h _ ?_
  have := (Finset.mem_Ico.mp hb).2
  have := l.isLt
  omega

/-- Blocks after the `n`-th hold zeros. -/
theorem sum_to {A : Type} [AddCommMonoid A] (f : ℕ → A) (n : ℕ) (h : ∀ i, 512 * (n + 1) ≤ i → f i = 0) :
    (∑ b ∈ Finset.range 8, if b ≤ n then ∑ l : Fin 512, f (512 * b + l.val) else 0) = ∑ i : Fin 4096, f i.val := by
  rw [sum_blocks]
  refine Finset.sum_congr rfl fun b _ => ?_
  split_ifs with hb
  · rfl
  · exact (Finset.sum_eq_zero fun l _ => h _ (by omega)).symm

section Grad

variable (q k v u : ℕ → ℕ → ℕ → ℝ) (μ : ℕ → ℕ → ℝ) (sc : ℝ)

/-- The scaled score of a query row and a key row. -/
def s (a i kk : ℕ) : ℝ := (∑ d : Fin 256, q a i d.val * k a kk d.val) * sc
/-- The exponential of a score less the row's shift, zero where the key comes after the query. -/
def e (a i kk : ℕ) : ℝ := if kk ≤ i then Real.exp (s q k sc a i kk - μ a i) else 0
/-- The row's sum of exponentials. -/
def l (a i : ℕ) : ℝ := ∑ kk : Fin 4096, e q k μ sc a i kk.val
/-- The softmax. -/
def p (a i kk : ℕ) : ℝ := e q k μ sc a i kk / l q k μ sc a i
/-- The product of a value row with a cotangent row. -/
def dp (a i kk : ℕ) : ℝ := ∑ d : Fin 128, v a kk d.val * u a i d.val
/-- The row's mean of these products. -/
def mean (a i : ℕ) : ℝ := ∑ kk : Fin 4096, p q k μ sc a i kk.val * dp v u a i kk.val
/-- The gradient of a scaled score. -/
def ds (a i kk : ℕ) : ℝ := p q k μ sc a i kk * (dp v u a i kk - mean q k v u μ sc a i)
def dQ (a i d : ℕ) : ℝ := ∑ kk : Fin 4096, ds q k v u μ sc a i kk.val * sc * k a kk.val d
def dK (a kk d : ℕ) : ℝ := ∑ i : Fin 4096, ds q k v u μ sc a i.val kk * sc * q a i.val d
def dV (a kk d : ℕ) : ℝ := ∑ i : Fin 4096, u a i.val d * p q k μ sc a i.val kk

theorem e_nonneg (a i kk : ℕ) : 0 ≤ e q k μ sc a i kk := by
  unfold e; split_ifs
  · exact (Real.exp_pos _).le
  · exact le_rfl

theorem l_pos (a i : ℕ) (hi : i < 4096) : 0 < l q k μ sc a i := by
  refine Finset.sum_pos' (fun kk _ => e_nonneg q k μ sc a i kk.val) ⟨⟨i, hi⟩, Finset.mem_univ _, ?_⟩
  unfold e; rw [if_pos le_rfl]; exact Real.exp_pos _

theorem p_after (a i kk : ℕ) (h : i < kk) : p q k μ sc a i kk = 0 := by
  unfold p e; rw [if_neg (by omega), zero_div]

theorem ds_after (a i kk : ℕ) (h : i < kk) : ds q k v u μ sc a i kk = 0 := by
  unfold ds; rw [p_after q k μ sc a i kk h, zero_mul]

/-- The base-2 exponential of a base-2 score less the base-2 logarithm of the row's sum is the softmax. -/
theorem p_base2 (a i kk : ℕ) (hi : i < 4096) (h : kk ≤ i) :
    Real.rpow 2 (s q k sc a i kk / Real.log 2 - (μ a i + Real.log (l q k μ sc a i)) / Real.log 2) = p q k μ sc a i kk := by
  have hl := l_pos q k μ sc a i hi
  have h2 : Real.log 2 ≠ 0 := (Real.log_pos (by norm_num)).ne'
  rw [Real.rpow_eq_pow, Real.rpow_def_of_pos (by norm_num)]
  unfold p e
  rw [if_pos h, ← sub_div, mul_div_cancel₀ _ h2, ← sub_sub, Real.exp_sub, Real.exp_log hl]

/-- The mean, by columns of the result. -/
theorem mean_eq (a i : ℕ) : mean q k v u μ sc a i = ∑ d : Fin 128, u a i d.val * ∑ kk : Fin 4096, v a kk.val d.val * p q k μ sc a i kk.val := by
  unfold mean dp
  simp only [Finset.mul_sum]
  rw [Finset.sum_comm]
  refine Finset.sum_congr rfl fun d _ => Finset.sum_congr rfl fun kk _ => ?_
  ring

/-- The softmax's gradient as the quotient rule writes it. -/
theorem ds_eq (a i kk : ℕ) (hi : i < 4096) :
    (dp v u a i kk / l q k μ sc a i + -(∑ kk : Fin 4096, dp v u a i kk.val * (1 / (l q k μ sc a i * l q k μ sc a i)) * e q k μ sc a i kk.val)) * e q k μ sc a i kk
      = ds q k v u μ sc a i kk := by
  have hl := (l_pos q k μ sc a i hi).ne'
  have hm : (∑ kk : Fin 4096, dp v u a i kk.val * (1 / (l q k μ sc a i * l q k μ sc a i)) * e q k μ sc a i kk.val) = mean q k v u μ sc a i / l q k μ sc a i := by
    unfold mean p
    rw [Finset.sum_div]
    refine Finset.sum_congr rfl fun kk _ => ?_
    field_simp
  rw [hm]
  unfold ds p
  field_simp
  ring

end Grad

end Cert.AttnReal

end
-- ==== Proof.AttnHost.lean ====
/- The host's operations on the attention, read at an index. -/
module

public import proofs.«01_k».proof.Proof.Gen.AttnRefIdeal
public import proofs.«01_k».proof.Proof.AttnReal
public import Idealize.ShloMosaic.Lib.Pipeline.ValueKit
public import Idealize.ShloMosaic.PureOps.Reduce
public import Idealize.ShloMosaic.PureOps.Ideal.Laws
public import Idealize.ShloMosaic.Lib.Affine

@[expose] public section

set_option maxRecDepth 16384

noncomputable section

namespace Cert.AttnRefIdeal.Host

open Cert.AttnRefIdeal Cert.AttnRefIdeal.Gen
open Idealize.ShloMosaic

/-- Where the key comes no later than the query. -/
def causal : IVec S16x4096x4096 1 :=
  broadcastInDim S16x4096x4096 ![0, 1, 2] bcast_S1x4096x4096_S16x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))

theorem causal_apply (a : Fin 16) (i k : Fin 4096) : causal (ix3 a i k) = if k.val ≤ i.val then 1#1 else 0#1 := by
  pointwise [causal]
  have hi := i.isLt
  have hk := k.isLt
  by_cases h : k.val ≤ i.val
  · rw [if_pos h, IntOp.cmpi_sle, BitVec.toInt_ofNat', BitVec.toInt_ofNat', Int.bmod_eq_of_le, Int.bmod_eq_of_le] <;> omega
  · rw [if_neg h]
    refine (BitVec.eq_zero_or_eq_one _).resolve_right fun h' => h ?_
    rw [IntOp.cmpi_sle, BitVec.toInt_ofNat', BitVec.toInt_ofNat', Int.bmod_eq_of_le, Int.bmod_eq_of_le] at h' <;> omega

/-- The products of the query rows with the key rows. -/
def products (X0 X1 : FVec Ideal S4096x4096 .f32) : FVec Ideal S16x4096x4096 .f32 :=
  Host.dotGeneral dot_S4096x16x256_S4096x16x256_S16x4096x4096_2_2_0_0_1_1 none (shapeCast S4096x16x256 X0 shapeCasts_S4096x4096_S4096x16x256) (shapeCast S4096x16x256 X1 shapeCasts_S4096x4096_S4096x16x256)

theorem products_apply (X0 X1 : FVec Ideal S4096x4096 .f32) (a : Fin 16) (i k : Fin 4096) :
    products X0 X1 (ix3 a i k) = ∑ d : Fin 256, X0 (ix2 i ⟨a.val * 256 + d.val, by omega⟩) * X1 (ix2 k ⟨a.val * 256 + d.val, by omega⟩) := by
  pointwise [products]

/-- The scaled and masked scores. -/
def masked (X0 X1 : FVec Ideal S4096x4096 .f32) : FVec Ideal S16x4096x4096 .f32 :=
  select causal (mulf (products X0 X1) (broadcastInDim S16x4096x4096 ![] bcast_S_S16x4096x4096 (constant S_ .f32 0x3D93CD3A#32)))
    (broadcastInDim S16x4096x4096 ![] bcast_S_S16x4096x4096 (id (constant S_ .f32 0xFF800000#32)))

theorem masked_apply (X0 X1 : FVec Ideal S4096x4096 .f32) (a : Fin 16) (i k : Fin 4096) :
    masked X0 X1 (ix3 a i k) = if k.val ≤ i.val then products X0 X1 (ix3 a i k) * Ideal.ofBits .f32 0x3D93CD3A#32 else Ideal.ofBits .f32 0xFF800000#32 := by
  pointwise [masked]
  rw [causal_apply]
  split_ifs <;> rfl

/-- The greatest score of each row. -/
def rowMax (A : FVec Ideal S16x4096x4096 .f32) : FVec Ideal S16x4096 .f32 :=
  Host.reduce FloatOps.maximumf A (constant S_ .f32 0xFF800000#32) reducesTo_S16x4096x4096_S16x4096_d2 h_S_

/-- A row's number, beside an axis of one. -/
def column (M : FVec Ideal S16x4096 .f32) : FVec Ideal S16x4096x1 .f32 := broadcastInDim S16x4096x1 ![0, 1] bcast_S16x4096_S16x4096x1_0_1 M

/-- The exponentials of the scores less the row's shift. -/
def expd (A : FVec Ideal S16x4096x4096 .f32) (M : FVec Ideal S16x4096 .f32) : FVec Ideal S16x4096x4096 .f32 :=
  Host.exp (subf A (broadcastInDim S16x4096x4096 ![0, 1, 2] bcast_S16x4096x1_S16x4096x4096_0_1_2 (column M)))

theorem expd_apply (A : FVec Ideal S16x4096x4096 .f32) (M : FVec Ideal S16x4096 .f32) (a : Fin 16) (i k : Fin 4096) :
    expd A M (ix3 a i k) = Ideal.exp (A (ix3 a i k) - M (ix2 a i)) := by
  pointwise [expd, column]

/-- Each row's sum. -/
def total (E : FVec Ideal S16x4096x4096 .f32) : FVec Ideal S16x4096 .f32 :=
  Host.reduceAdd E (constant S_ .f32 0x00000000#32) reducesTo_S16x4096x4096_S16x4096_d2 h_S_

theorem total_apply (E : FVec Ideal S16x4096x4096 .f32) (a : Fin 16) (i : Fin 4096) : total E (ix2 a i) = ∑ k : Fin 4096, E (ix3 a i k) := by
  pointwise [total]

/-- The rows by their sums. -/
def share (E : FVec Ideal S16x4096x4096 .f32) : FVec Ideal S16x4096x4096 .f32 :=
  Host.divf E (broadcastInDim S16x4096x4096 ![0, 1, 2] bcast_S16x4096x1_S16x4096x4096_0_1_2 (column (total E)))

theorem share_apply (E : FVec Ideal S16x4096x4096 .f32) (a : Fin 16) (i k : Fin 4096) :
    share E (ix3 a i k) = Ideal.div (E (ix3 a i k)) (total E (ix2 a i)) := by
  pointwise [share, column]

/-- The products of the cotangent rows with the value rows. -/
def cross (X2 X3 : FVec Ideal S4096x2048 .f32) : FVec Ideal S16x4096x4096 .f32 :=
  Host.dotGeneral dot_S16x128x4096_S4096x16x128_S16x4096x4096_1_2_2_0_0_1 none (transpose S16x128x4096 [1, 2, 0] (shapeCast S4096x16x128 X3 shapeCasts_S4096x2048_S4096x16x128) transposes_S4096x16x128_S16x128x4096_1_2_0)
    (shapeCast S4096x16x128 X2 shapeCasts_S4096x2048_S4096x16x128)

theorem cross_apply (X2 X3 : FVec Ideal S4096x2048 .f32) (a : Fin 16) (i k : Fin 4096) :
    cross X2 X3 (ix3 a i k) = ∑ d : Fin 128, X3 (ix2 i ⟨a.val * 128 + d.val, by omega⟩) * X2 (ix2 k ⟨a.val * 128 + d.val, by omega⟩) := by
  pointwise [cross]

/-- The values' gradient. -/
def gradV (X3 : FVec Ideal S4096x2048 .f32) (P : FVec Ideal S16x4096x4096 .f32) : FVec Ideal S4096x16x128 .f32 :=
  transpose S4096x16x128 [2, 0, 1] (Host.dotGeneral dot_S16x128x4096_S16x4096x4096_S16x128x4096_2_1_1_2_0_0 none
    (transpose S16x128x4096 [1, 2, 0] (shapeCast S4096x16x128 X3 shapeCasts_S4096x2048_S4096x16x128) transposes_S4096x16x128_S16x128x4096_1_2_0) P) transposes_S16x128x4096_S4096x16x128_2_0_1

theorem gradV_apply (X3 : FVec Ideal S4096x2048 .f32) (P : FVec Ideal S16x4096x4096 .f32) (k : Fin 4096) (a : Fin 16) (d : Fin 128) :
    gradV X3 P (ix3 k a d) = ∑ i : Fin 4096, X3 (ix2 i ⟨a.val * 128 + d.val, by omega⟩) * P (ix3 a i k) := by
  pointwise [gradV]

/-- The sum the quotient's derivative takes from each row. -/
def taken (G E : FVec Ideal S16x4096x4096 .f32) : FVec Ideal S16x4096 .f32 :=
  Host.reduceAdd (Host.negf (shapeCast S16x4096x1 (Host.reduceAdd (mulf (mulf G (broadcastInDim S16x4096x4096 ![0, 1, 2] bcast_S16x4096x1_S16x4096x4096_0_1_2
    (Host.divf (broadcastInDim S16x4096x1 ![] bcast_S_S16x4096x1 (constant S_ .f32 0x3F800000#32)) (mulf (column (total E)) (column (total E)))))) E)
    (constant S_ .f32 0x00000000#32) reducesTo_S16x4096x4096_S16x4096_d2 h_S_) shapeCasts_S16x4096_S16x4096x1)) (constant S_ .f32 0x00000000#32) reducesTo_S16x4096x1_S16x4096_d2 h_S_

theorem taken_apply (G E : FVec Ideal S16x4096x4096 .f32) (a : Fin 16) (i : Fin 4096) :
    taken G E (ix2 a i) = -∑ k : Fin 4096, G (ix3 a i k) * Ideal.div 1 (total E (ix2 a i) * total E (ix2 a i)) * E (ix3 a i k) := by
  pointwise [taken, column]
  exact Fin.sum_univ_one _

/-- The gradient of the products. -/
def gradS (G E : FVec Ideal S16x4096x4096 .f32) : FVec Ideal S16x4096x4096 .f32 :=
  mulf (select causal (mulf (addf (Host.divf G (broadcastInDim S16x4096x4096 ![0, 1, 2] bcast_S16x4096x1_S16x4096x4096_0_1_2 (column (total E))))
    (broadcastInDim S16x4096x4096 ![0, 1] bcast_S16x4096_S16x4096x4096_0_1 (taken G E))) E) (broadcastInDim S16x4096x4096 ![] bcast_S_S16x4096x4096 (constant S_ .f32 0x00000000#32)))
    (broadcastInDim S16x4096x4096 ![] bcast_S_S16x4096x4096 (constant S_ .f32 0x3D93CD3A#32))

theorem gradS_apply (G E : FVec Ideal S16x4096x4096 .f32) (a : Fin 16) (i k : Fin 4096) :
    gradS G E (ix3 a i k) = (if k.val ≤ i.val then (Ideal.div (G (ix3 a i k)) (total E (ix2 a i)) + taken G E (ix2 a i)) * E (ix3 a i k) else 0) * Ideal.ofBits .f32 0x3D93CD3A#32 := by
  pointwise [gradS, column]
  rw [causal_apply]
  split_ifs <;> simp [Scalar.select]

/-- The keys' gradient. -/
def gradK (X0 : FVec Ideal S4096x4096 .f32) (W : FVec Ideal S16x4096x4096 .f32) : FVec Ideal S4096x16x256 .f32 :=
  transpose S4096x16x256 [1, 0, 2] (Host.dotGeneral dot_S16x4096x4096_S4096x16x256_S16x4096x256_1_0_2_2_0_1 none W (shapeCast S4096x16x256 X0 shapeCasts_S4096x4096_S4096x16x256)) transposes_S16x4096x256_S4096x16x256_1_0_2

theorem gradK_apply (X0 : FVec Ideal S4096x4096 .f32) (W : FVec Ideal S16x4096x4096 .f32) (k : Fin 4096) (a : Fin 16) (d : Fin 256) :
    gradK X0 W (ix3 k a d) = ∑ i : Fin 4096, W (ix3 a i k) * X0 (ix2 i ⟨a.val * 256 + d.val, by omega⟩) := by
  pointwise [gradK]

/-- The queries' gradient. -/
def gradQ (X1 : FVec Ideal S4096x4096 .f32) (W : FVec Ideal S16x4096x4096 .f32) : FVec Ideal S4096x16x256 .f32 :=
  transpose S4096x16x256 [1, 0, 2] (Host.dotGeneral dot_S16x4096x4096_S4096x16x256_S16x4096x256_2_0_1_2_0_1 none W (shapeCast S4096x16x256 X1 shapeCasts_S4096x4096_S4096x16x256)) transposes_S16x4096x256_S4096x16x256_1_0_2

theorem gradQ_apply (X1 : FVec Ideal S4096x4096 .f32) (W : FVec Ideal S16x4096x4096 .f32) (i : Fin 4096) (a : Fin 16) (d : Fin 256) :
    gradQ X1 W (ix3 i a d) = ∑ k : Fin 4096, W (ix3 a i k) * X1 (ix2 k ⟨a.val * 256 + d.val, by omega⟩) := by
  pointwise [gradQ]

/-- The queries' gradient by head and block of rows. -/
def outQ (W : FVec Ideal S4096x16x256 .f32) : FVec Ideal S16x8x256x512 .bf16 :=
  truncf .bf16 (transpose S16x8x256x512 [2, 0, 3, 1] (shapeCast S8x512x16x256 W shapeCasts_S4096x16x256_S8x512x16x256) transposes_S8x512x16x256_S16x8x256x512_2_0_3_1) bitsLt_bf16_f32

theorem outQ_apply (W : FVec Ideal S4096x16x256 .f32) (a : Fin 16) (b : Fin 8) (d : Fin 256) (l : Fin 512) :
    outQ W (ix4 a b d l) = W (ix3 ⟨b.val * 512 + l.val, by omega⟩ a d) := by
  pointwise [outQ]

/-- The keys' first columns beside the values. -/
def outKV (W : FVec Ideal S4096x16x256 .f32) (Z : FVec Ideal S4096x16x128 .f32) : FVec Ideal S4096x4096 .bf16 :=
  truncf .bf16 (shapeCast S4096x4096 (concatenate S4096x16x256 2 [⟨S4096x16x128, extractStridedSlice S4096x16x128 ![0, 0, 0] W slices_S4096x16x256_S4096x16x128_0_0_0⟩, ⟨S4096x16x128, Z⟩]
    concatenates_S4096x16x128_S4096x16x128_S4096x16x256_d2) shapeCasts_S4096x16x256_S4096x4096) bitsLt_bf16_f32

theorem outKV_apply (W : FVec Ideal S4096x16x256 .f32) (Z : FVec Ideal S4096x16x128 .f32) (k : Fin 4096) (a : Fin 16) (d : Fin 256) :
    outKV W Z (ix2 k ⟨a.val * 256 + d.val, by omega⟩) = if h : d.val < 128 then W (ix3 k a d) else Z (ix3 k a ⟨d.val - 128, by omega⟩) := by
  pointwise [outKV]

/-- The keys' other columns. -/
def outR (W : FVec Ideal S4096x16x256 .f32) : FVec Ideal S4096x2048 .bf16 :=
  truncf .bf16 (shapeCast S4096x2048 (extractStridedSlice S4096x16x128 ![0, 0, 128] W slices_S4096x16x256_S4096x16x128_0_0_128) shapeCasts_S4096x16x128_S4096x2048) bitsLt_bf16_f32

theorem outR_apply (W : FVec Ideal S4096x16x256 .f32) (k : Fin 4096) (a : Fin 16) (d : Fin 128) :
    outR W (ix2 k ⟨a.val * 128 + d.val, by omega⟩) = W (ix3 k a ⟨128 + d.val, by omega⟩) := by
  pointwise [outR]

end Cert.AttnRefIdeal.Host

end
-- ==== Proof.AttnCoe.lean ====
/- The host's operations on finite arrays, over the reals. -/
module

public import proofs.«01_k».proof.Proof.AttnHost

@[expose] public section

set_option maxRecDepth 16384

noncomputable section

namespace Cert.AttnRefIdeal.Host

open Cert.AttnRefIdeal Cert.AttnRefIdeal.Gen
open Idealize.ShloMosaic
open Cert.AttnReal (sum_coe)

/-- The number at column `d` of the `a`-th group of `w` columns of row `i`. -/
def re {n0 n1 : ℕ} (w : ℕ) (X : (⟨2, ![n0, n1]⟩ : Shape).Idx → EReal) (a i d : ℕ) : ℝ :=
  if h : i < n0 ∧ a * w + d < n1 then (X (ix2 ⟨i, h.1⟩ ⟨a * w + d, h.2⟩)).toReal else 0

theorem re_coe {n0 n1 : ℕ} (w : ℕ) (X : (⟨2, ![n0, n1]⟩ : Shape).Idx → EReal) (hX : ∀ y, X y = (((X y).toReal : ℝ) : EReal)) (i : Fin n0) (a d : ℕ) (h : a * w + d < n1) :
    X (ix2 i ⟨a * w + d, h⟩) = ((re w X a i.val d : ℝ) : EReal) := by
  unfold re
  rw [dif_pos ⟨i.isLt, h⟩]
  exact hX _

/-- The scores' scale. -/
def sc : ℝ := (Ideal.ofBits .f32 0x3D93CD3A#32).toReal

theorem sc_coe : Ideal.ofBits .f32 0x3D93CD3A#32 = ((sc : ℝ) : EReal) := by
  have h : ∃ r : ℝ, Ideal.ofBits .f32 0x3D93CD3A#32 = (r : EReal) := by
    simp [Ideal.ofBits, Ideal.ieee, -EReal.coe_mul]
  obtain ⟨r, hr⟩ := h
  unfold sc
  rw [hr, EReal.toReal_coe]

theorem least : Ideal.ofBits .f32 0xFF800000#32 = (⊥ : EReal) := by simp [Ideal.ofBits, Ideal.ieee]

theorem two_coe : Ideal.ofBits .f32 0x40000000#32 = ((2 : ℝ) : EReal) := by
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul]
  congr 1; field_simp

theorem log_two : Ideal.log (Ideal.ofBits .f32 0x40000000#32) = ((Real.log 2 : ℝ) : EReal) := by
  rw [two_coe, Ideal.log_coe, if_neg (by norm_num)]

section Coe

variable (X0 X1 : FVec Ideal S4096x4096 .f32) (X2 X3 : FVec Ideal S4096x2048 .f32)

/-- Every entry is a real. -/
structure Finite : Prop where
  h0 : ∀ y, X0 y = (((X0 y : EReal).toReal : ℝ) : EReal)
  h1 : ∀ y, X1 y = (((X1 y : EReal).toReal : ℝ) : EReal)
  h2 : ∀ y, X2 y = (((X2 y : EReal).toReal : ℝ) : EReal)
  h3 : ∀ y, X3 y = (((X3 y : EReal).toReal : ℝ) : EReal)

/-- Each row's greatest score, as a real. -/
def mu (a i : ℕ) : ℝ := if h : a < 16 ∧ i < 4096 then (rowMax (masked X0 X1) (ix2 ⟨a, h.1⟩ ⟨i, h.2⟩) : EReal).toReal else 0

abbrev rs (a i k : ℕ) : ℝ := AttnReal.s (re 256 X0) (re 256 X1) sc a i k
abbrev rE (a i k : ℕ) : ℝ := AttnReal.e (re 256 X0) (re 256 X1) (mu X0 X1) sc a i k
abbrev rl (a i : ℕ) : ℝ := AttnReal.l (re 256 X0) (re 256 X1) (mu X0 X1) sc a i
abbrev rp (a i k : ℕ) : ℝ := AttnReal.p (re 256 X0) (re 256 X1) (mu X0 X1) sc a i k
abbrev rdp (a i k : ℕ) : ℝ := AttnReal.dp (re 128 X2) (re 128 X3) a i k
abbrev rmean (a i : ℕ) : ℝ := AttnReal.mean (re 256 X0) (re 256 X1) (re 128 X2) (re 128 X3) (mu X0 X1) sc a i
abbrev rds (a i k : ℕ) : ℝ := AttnReal.ds (re 256 X0) (re 256 X1) (re 128 X2) (re 128 X3) (mu X0 X1) sc a i k
abbrev rdQ (a i d : ℕ) : ℝ := AttnReal.dQ (re 256 X0) (re 256 X1) (re 128 X2) (re 128 X3) (mu X0 X1) sc a i d
abbrev rdK (a k d : ℕ) : ℝ := AttnReal.dK (re 256 X0) (re 256 X1) (re 128 X2) (re 128 X3) (mu X0 X1) sc a k d
abbrev rdV (a k d : ℕ) : ℝ := AttnReal.dV (re 256 X0) (re 256 X1) (re 128 X3) (mu X0 X1) sc a k d

/-- The exponentials of the scores less their row's greatest. -/
abbrev exps : FVec Ideal S16x4096x4096 .f32 := expd (masked X0 X1) (rowMax (masked X0 X1))

variable {X0 X1 X2 X3}
variable (H : Finite X0 X1 X2 X3)
include H

theorem masked_coe (a : Fin 16) (i k : Fin 4096) :
    masked X0 X1 (ix3 a i k) = if k.val ≤ i.val then ((rs X0 X1 a i k : ℝ) : EReal) else ⊥ := by
  rw [masked_apply, least, products_apply, sc_coe]
  split_ifs
  · unfold rs AttnReal.s
    rw [EReal.coe_mul, ← sum_coe]
    congr 1
    refine Finset.sum_congr rfl fun d _ => ?_
    rw [re_coe 256 X0 H.h0, re_coe 256 X1 H.h1, ← EReal.coe_mul]
  · rfl

theorem masked_lt (x : S16x4096x4096.Idx) : (masked X0 X1 x : EReal) < ⊤ := by
  obtain ⟨a, i, k, rfl⟩ : ∃ (a : Fin 16) (i k : Fin 4096), x = ix3 a i k := ⟨x 0, x 1, x 2, funext fun b => by fin_cases b <;> rfl⟩
  rw [masked_coe H]
  split_ifs
  · exact EReal.coe_lt_top _
  · exact bot_lt_top

theorem rowMax_coe (a : Fin 16) (i : Fin 4096) : rowMax (masked X0 X1) (ix2 a i) = ((mu X0 X1 a i : ℝ) : EReal) := by
  have e : (rowMax (masked X0 X1) (ix2 a i) : EReal)
      = (Finset.univ.filter fun x : S16x4096x4096.Idx => reducesTo_S16x4096x4096_S16x4096_d2.drop x = ix2 a i).fold max (Ideal.ofBits .f32 0xFF800000#32 : EReal) (masked X0 X1) :=
    Host.reduce_eq_fold (max : EReal → EReal → EReal) _ _ _ _ _
  have h1 : (rowMax (masked X0 X1) (ix2 a i) : EReal) < ⊤ := by
    rw [e, Finset.fold_max_lt, least]
    exact ⟨bot_lt_top, fun x _ => masked_lt H x⟩
  have h2 : (⊥ : EReal) < rowMax (masked X0 X1) (ix2 a i) := by
    rw [e, Finset.lt_fold_max]
    refine Or.inr ⟨ix3 a i i, Finset.mem_filter.mpr ⟨Finset.mem_univ _, ?_⟩, ?_⟩
    · funext b
      apply Fin.ext
      fin_cases b
      · exact reducesTo_S16x4096x4096_S16x4096_d2.drop_apply_val_of_eq _ 0 0 (by decide)
      · exact reducesTo_S16x4096x4096_S16x4096_d2.drop_apply_val_of_eq _ 1 1 (by decide)
    · rw [masked_coe H, if_pos le_rfl]
      exact EReal.bot_lt_coe _
  unfold mu
  rw [dif_pos ⟨a.isLt, i.isLt⟩]
  exact (EReal.coe_toReal h1.ne h2.ne').symm

theorem exps_coe (a : Fin 16) (i k : Fin 4096) : exps X0 X1 (ix3 a i k) = ((rE X0 X1 a i k : ℝ) : EReal) := by
  show expd (masked X0 X1) (rowMax (masked X0 X1)) (ix3 a i k) = _
  rw [expd_apply, masked_coe H, rowMax_coe H]
  unfold rE AttnReal.e
  split_ifs
  · rw [← EReal.coe_sub, Ideal.exp_coe]
  · rfl

theorem total_coe (a : Fin 16) (i : Fin 4096) : total (exps X0 X1) (ix2 a i) = ((rl X0 X1 a i : ℝ) : EReal) := by
  rw [total_apply]
  unfold rl AttnReal.l
  rw [← sum_coe]
  exact Finset.sum_congr rfl fun k _ => exps_coe H a i k

omit H in
theorem rl_pos (a : ℕ) (i : Fin 4096) : rl X0 X1 a i ≠ 0 := (AttnReal.l_pos (re 256 X0) (re 256 X1) (mu X0 X1) sc a i.val i.isLt).ne'

theorem share_coe (a : Fin 16) (i k : Fin 4096) : share (exps X0 X1) (ix3 a i k) = ((rp X0 X1 a i k : ℝ) : EReal) := by
  rw [share_apply, total_coe H, exps_coe H, div_real _ _ (rl_pos a i)]
  rfl

theorem cross_coe (a : Fin 16) (i k : Fin 4096) : cross X2 X3 (ix3 a i k) = ((rdp X2 X3 a i k : ℝ) : EReal) := by
  rw [cross_apply]
  unfold rdp AttnReal.dp
  rw [← sum_coe]
  refine Finset.sum_congr rfl fun d _ => ?_
  rw [re_coe 128 X2 H.h2, re_coe 128 X3 H.h3, ← EReal.coe_mul, mul_comm]

theorem gradV_coe (k : Fin 4096) (a : Fin 16) (d : Fin 128) : gradV X3 (share (exps X0 X1)) (ix3 k a d) = ((rdV X0 X1 X3 a k d : ℝ) : EReal) := by
  rw [gradV_apply]
  unfold rdV AttnReal.dV
  rw [← sum_coe]
  refine Finset.sum_congr rfl fun i _ => ?_
  rw [re_coe 128 X3 H.h3, share_coe H, ← EReal.coe_mul]

theorem taken_coe (a : Fin 16) (i : Fin 4096) :
    taken (cross X2 X3) (exps X0 X1) (ix2 a i) = ((-(∑ kk : Fin 4096, rdp X2 X3 a i kk * (1 / (rl X0 X1 a i * rl X0 X1 a i)) * rE X0 X1 a i kk) : ℝ) : EReal) := by
  rw [taken_apply, EReal.coe_neg, ← sum_coe]
  refine congrArg (fun x : EReal => -x) (Finset.sum_congr rfl fun k _ => ?_)
  rw [cross_coe H, exps_coe H, total_coe H, ← EReal.coe_mul, ← EReal.coe_one, div_real _ _ (mul_ne_zero (rl_pos a i) (rl_pos a i)), ← EReal.coe_mul, ← EReal.coe_mul]

theorem gradS_coe (a : Fin 16) (i k : Fin 4096) : gradS (cross X2 X3) (exps X0 X1) (ix3 a i k) = ((rds X0 X1 X2 X3 a i k * sc : ℝ) : EReal) := by
  rw [gradS_apply, sc_coe, EReal.coe_mul]
  congr 1
  split_ifs with h
  · rw [cross_coe H, exps_coe H, total_coe H, taken_coe H, div_real _ _ (rl_pos a i), ← EReal.coe_add, ← EReal.coe_mul]
    exact congrArg (fun r : ℝ => (r : EReal)) (AttnReal.ds_eq (re 256 X0) (re 256 X1) (re 128 X2) (re 128 X3) (mu X0 X1) sc a.val i.val k.val i.isLt)
  · rw [show rds X0 X1 X2 X3 a i k = 0 from AttnReal.ds_after (re 256 X0) (re 256 X1) (re 128 X2) (re 128 X3) (mu X0 X1) sc a.val i.val k.val (by omega)]; rfl

theorem gradK_coe (k : Fin 4096) (a : Fin 16) (d : Fin 256) : gradK X0 (gradS (cross X2 X3) (exps X0 X1)) (ix3 k a d) = ((rdK X0 X1 X2 X3 a k d : ℝ) : EReal) := by
  rw [gradK_apply]
  unfold rdK AttnReal.dK
  rw [← sum_coe]
  refine Finset.sum_congr rfl fun i _ => ?_
  rw [re_coe 256 X0 H.h0, gradS_coe H, ← EReal.coe_mul]

theorem gradQ_coe (i : Fin 4096) (a : Fin 16) (d : Fin 256) : gradQ X1 (gradS (cross X2 X3) (exps X0 X1)) (ix3 i a d) = ((rdQ X0 X1 X2 X3 a i d : ℝ) : EReal) := by
  rw [gradQ_apply]
  unfold rdQ AttnReal.dQ
  rw [← sum_coe]
  refine Finset.sum_congr rfl fun k _ => ?_
  rw [re_coe 256 X1 H.h1, gradS_coe H, ← EReal.coe_mul]

end Coe

/-- The greater of the least number and another is the other. -/
theorem shift_eq (M : FVec Ideal S16x4096 .f32) : maximumf (broadcastInDim S16x4096 ![] bcast_S_S16x4096 (constant S_ .f32 0xFF800000#32)) M = M := by
  funext y
  pointwise []
  rw [least]
  exact max_eq_right bot_le

end Cert.AttnRefIdeal.Host

end
-- ==== Proof.AttnMeans.lean ====
/- The kernel's sums over the reals: what its blocks add, and the whole sums. -/
module

public import proofs.«01_k».proof.Proof.AttnBlock
public import proofs.«01_k».proof.Proof.AttnReal

@[expose] public section

noncomputable section

namespace Cert.AttnIdeal.Body

open Idealize.ShloMosaic
open Cert.AttnReal (sum_coe sum_from sum_to)

section Means

variable (q k v u : ℕ → ℕ → ℕ → ℝ) (μ : ℕ → ℕ → ℝ) (sc : ℝ)

/-- The blocks hold one head's reals: `hh` is the head's place in its pair, `a` its number, `j` the keys' block. -/
structure Holds (j hh a : ℕ) (bq bk bkt bv bu bl bd : ℕ → ℕ → EReal) : Prop where
  hq : ∀ r d, r < 4096 → d < 256 → bq r (256 * hh + d) = ((q a r d * sc / Real.log 2 : ℝ) : EReal)
  hk : ∀ kk d, kk < 512 → d < 256 → bk kk (256 * hh + d) = ((k a (512 * j + kk) d : ℝ) : EReal)
  hkt : ∀ d kk, d < 256 → kk < 512 → bkt (256 * hh + d) kk = ((k a (512 * j + kk) d : ℝ) : EReal)
  hv : ∀ kk d, kk < 512 → d < 128 → bv kk (128 * hh + d) = ((v a (512 * j + kk) d : ℝ) : EReal)
  hu : ∀ r d, r < 4096 → d < 128 → bu r (128 * hh + d) = ((u a r d : ℝ) : EReal)
  hl : ∀ r, r < 4096 → bl hh r = (((μ a r + Real.log (AttnReal.l q k μ sc a r)) / Real.log 2 : ℝ) : EReal)
  hd : ∀ r, r < 4096 → bd hh r = ((AttnReal.mean q k v u μ sc a r : ℝ) : EReal)

variable {q k v u μ sc}
variable {j hh a : ℕ} {bq bk bkt bv bu bl bd : ℕ → ℕ → EReal}

theorem Holds.weight_coe (H : Holds q k v u μ sc j hh a bq bk bkt bv bu bl bd) (kk qq : ℕ) (h1 : kk < 512) (h2 : qq < 4096) :
    weight j bq bk bl hh kk qq = ((AttnReal.p q k μ sc a qq (512 * j + kk) : ℝ) : EReal) := by
  unfold weight
  split_ifs with h
  · have hs : score bq bk hh kk qq = ((AttnReal.s q k sc a qq (512 * j + kk) / Real.log 2 : ℝ) : EReal) := by
      unfold score AttnReal.s
      rw [Finset.sum_mul, Finset.sum_div, ← sum_coe]
      refine Finset.sum_congr rfl fun d _ => ?_
      rw [H.hk kk d.val h1 d.isLt, H.hq qq d.val h2 d.isLt, ← EReal.coe_mul]
      congr 1; ring
    unfold weight₀
    rw [hs, H.hl qq h2, ← EReal.coe_sub, ← AttnReal.p_base2 q k μ sc a qq (512 * j + kk) h2 h]
    rfl
  · rw [AttnReal.p_after q k μ sc a qq (512 * j + kk) (by omega)]; rfl

theorem Holds.dprod_coe (H : Holds q k v u μ sc j hh a bq bk bkt bv bu bl bd) (kk qq : ℕ) (h1 : kk < 512) (h2 : qq < 4096) :
    dprod bv bu hh kk qq = ((AttnReal.dp v u a qq (512 * j + kk) : ℝ) : EReal) := by
  unfold dprod AttnReal.dp
  rw [← sum_coe]
  refine Finset.sum_congr rfl fun d _ => ?_
  rw [H.hv kk d.val h1 d.isLt, H.hu qq d.val h2 d.isLt, ← EReal.coe_mul]

theorem Holds.dscore_coe (H : Holds q k v u μ sc j hh a bq bk bkt bv bu bl bd) (kk qq : ℕ) (h1 : kk < 512) (h2 : qq < 4096) :
    dscore j bq bk bv bu bl bd hh kk qq = ((AttnReal.ds q k v u μ sc a qq (512 * j + kk) : ℝ) : EReal) := by
  unfold dscore AttnReal.ds
  rw [H.weight_coe kk qq h1 h2, H.dprod_coe kk qq h1 h2, H.hd qq h2, ← EReal.coe_sub, ← EReal.coe_mul]

theorem Holds.addV_coe (H : Holds q k v u μ sc j hh a bq bk bkt bv bu bl bd) (b kk d : ℕ) (hb : b < 8) (h1 : kk < 512) (h2 : d < 128) :
    addV j bq bk bu bl b hh kk d = ((∑ l : Fin 512, u a (512 * b + l.val) d * AttnReal.p q k μ sc a (512 * b + l.val) (512 * j + kk) : ℝ) : EReal) := by
  unfold addV
  rw [← sum_coe]
  refine Finset.sum_congr rfl fun l _ => ?_
  have := l.isLt
  rw [H.weight_coe kk _ h1 (by omega), H.hu _ d (by omega) h2, ← EReal.coe_mul, mul_comm]

theorem Holds.addK_coe (H : Holds q k v u μ sc j hh a bq bk bkt bv bu bl bd) (b kk d : ℕ) (hb : b < 8) (h1 : kk < 512) (h2 : d < 256) :
    addK j bq bk bv bu bl bd b hh kk d = ((∑ l : Fin 512, AttnReal.ds q k v u μ sc a (512 * b + l.val) (512 * j + kk) * (q a (512 * b + l.val) d * sc / Real.log 2) : ℝ) : EReal) := by
  unfold addK
  rw [← sum_coe]
  refine Finset.sum_congr rfl fun l _ => ?_
  have := l.isLt
  rw [H.dscore_coe kk _ h1 (by omega), H.hq _ d (by omega) h2, ← EReal.coe_mul]

theorem Holds.addQ_coe (H : Holds q k v u μ sc j hh a bq bk bkt bv bu bl bd) (d qq : ℕ) (h1 : d < 256) (h2 : qq < 4096) :
    addQ j bq bk bkt bv bu bl bd hh d qq = ((∑ kk : Fin 512, k a (512 * j + kk.val) d * AttnReal.ds q k v u μ sc a qq (512 * j + kk.val) : ℝ) : EReal) := by
  unfold addQ
  rw [← sum_coe]
  refine Finset.sum_congr rfl fun l _ => ?_
  rw [H.dscore_coe l.val qq l.isLt h2, H.hkt d l.val h1 l.isLt, ← EReal.coe_mul]

/-- The values' gradient. -/
theorem Holds.values (H : Holds q k v u μ sc j hh a bq bk bkt bv bu bl bd) (hj : j < 8) (kk d : ℕ) (h1 : kk < 512) (h2 : d < 128) :
    (∑ b ∈ Finset.Ico j 8, addV j bq bk bu bl b hh kk d) = ((AttnReal.dV q k u μ sc a (512 * j + kk) d : ℝ) : EReal) := by
  rw [Finset.sum_congr rfl fun b hb => H.addV_coe b kk d (Finset.mem_Ico.mp hb).2 h1 h2, sum_coe]
  unfold AttnReal.dV
  rw [← sum_from (fun i => u a i d * AttnReal.p q k μ sc a i (512 * j + kk)) j hj fun i hi => ?_]
  rw [AttnReal.p_after q k μ sc a i _ (by omega), mul_zero]

/-- The keys' gradient. -/
theorem Holds.keys (H : Holds q k v u μ sc j hh a bq bk bkt bv bu bl bd) (hj : j < 8) (kk d : ℕ) (h1 : kk < 512) (h2 : d < 256) :
    (∑ b ∈ Finset.Ico j 8, addK j bq bk bv bu bl bd b hh kk d) * ((Real.log 2 : ℝ) : EReal) = ((AttnReal.dK q k v u μ sc a (512 * j + kk) d : ℝ) : EReal) := by
  rw [Finset.sum_congr rfl fun b hb => H.addK_coe b kk d (Finset.mem_Ico.mp hb).2 h1 h2, sum_coe, ← EReal.coe_mul]
  unfold AttnReal.dK
  rw [sum_from (fun i => AttnReal.ds q k v u μ sc a i (512 * j + kk) * (q a i d * sc / Real.log 2)) j hj fun i hi => ?_]
  · congr 1
    rw [Finset.sum_mul]
    refine Finset.sum_congr rfl fun i _ => ?_
    have h2 : Real.log 2 ≠ 0 := (Real.log_pos (by norm_num)).ne'
    field_simp
  · rw [AttnReal.ds_after q k v u μ sc a i _ (by omega), zero_mul]

end Means

section Whole

variable {q k v u : ℕ → ℕ → ℕ → ℝ} {μ : ℕ → ℕ → ℝ} {sc : ℝ}
variable {hh a : ℕ} {bq bu bl bd : ℕ → ℕ → EReal} {bk bkt bv : ℕ → ℕ → ℕ → EReal}

/-- The queries' gradient, all blocks of keys together. -/
theorem queries (H : ∀ j, j < 8 → Holds q k v u μ sc j hh a bq (bk j) (bkt j) (bv j) bu bl bd) (blk d l : ℕ) (hb : blk < 8) (h1 : d < 256) (h2 : l < 512) :
    (∑ j ∈ Finset.range 8, if j ≤ blk then addQ j bq (bk j) (bkt j) (bv j) bu bl bd hh d (512 * blk + l) else 0) * ((sc : ℝ) : EReal)
      = ((AttnReal.dQ q k v u μ sc a (512 * blk + l) d : ℝ) : EReal) := by
  have e : ∀ j ∈ Finset.range 8, (if j ≤ blk then addQ j bq (bk j) (bkt j) (bv j) bu bl bd hh d (512 * blk + l) else 0)
      = (((if j ≤ blk then ∑ kk : Fin 512, k a (512 * j + kk.val) d * AttnReal.ds q k v u μ sc a (512 * blk + l) (512 * j + kk.val) else 0 : ℝ)) : EReal) := by
    intro j hj
    split_ifs
    · exact (H j (Finset.mem_range.mp hj)).addQ_coe d _ h1 (by omega)
    · rfl
  rw [Finset.sum_congr rfl e, sum_coe, ← EReal.coe_mul]
  unfold AttnReal.dQ
  rw [sum_to (fun kk => k a kk d * AttnReal.ds q k v u μ sc a (512 * blk + l) kk) blk fun kk hk => ?_]
  · congr 1
    rw [Finset.sum_mul]
    refine Finset.sum_congr rfl fun i _ => ?_
    ring
  · rw [AttnReal.ds_after q k v u μ sc a _ kk (by omega), mul_zero]

end Whole

end Cert.AttnIdeal.Body

end
-- ==== Proof.AttnEntry.lean ====
/- The arrays the kernel is launched on, as the host's operations on the arguments. -/
module

public import proofs.«01_k».proof.Proof.AttnPoint
public import proofs.«01_k».proof.Proof.AttnCoe
public import proofs.«01_k».proof.Proof.AttnMeans
public import proofs.«01_k».proof.Proof.Gen.AttnIdeal.Frame
public import Idealize.ShloMosaic.Lib.StableHlo.Run

@[expose] public section

set_option maxRecDepth 16384

noncomputable section

namespace Cert.AttnIdeal.Body

open Cert.AttnIdeal Cert.AttnIdeal.Gen
open Idealize.ShloMosaic Idealize.ShloMosaic.TcCoe Idealize.ShloMosaic.StableHlo
open Idealize.SL.Sem

/-- The queries, scaled for the base-2 exponential. -/
def scaledQ (X0 : FVec Ideal S4096x4096 .f32) : FVec Ideal S4096x4096 .bf16 :=
  truncf .bf16 (Host.divf (mulf X0 (broadcastInDim S4096x4096 ![] bcast_S_S4096x4096 (constant S_ .f32 0x3D93CD3A#32))) (broadcastInDim S4096x4096 ![] bcast_S_S4096x4096 (Host.log (constant S_ .f32 0x40000000#32)))) bitsLt_bf16_f32

/-- Each row's base-2 logarithm of the sum of exponentials. -/
def logs (M T : FVec Ideal S16x4096 .f32) : FVec Ideal S16x8x1x512 .f32 :=
  shapeCast S16x8x1x512 (Host.divf (addf (Cert.AttnRefIdeal.Host.column M) (Host.log (Cert.AttnRefIdeal.Host.column T)))
    (broadcastInDim S16x4096x1 ![] bcast_S_S16x4096x1 (Host.log (constant S_ .f32 0x40000000#32)))) shapeCasts_S16x4096x1_S16x8x1x512

/-- Each row's sum of the products of the cotangent with the result. -/
def deltas (X2 X3 : FVec Ideal S4096x2048 .f32) (P : FVec Ideal S16x4096x4096 .f32) : FVec Ideal S16x8x1x512 .f32 :=
  shapeCast S16x8x1x512 (transpose S16x4096 [1, 0] (Host.reduceAdd (mulf (shapeCast S4096x16x128 X3 shapeCasts_S4096x2048_S4096x16x128)
    (transpose S4096x16x128 [2, 0, 1] (Host.dotGeneral dot_S4096x16x128_S16x4096x4096_S16x128x4096_0_2_2_1_1_0 none (shapeCast S4096x16x128 X2 shapeCasts_S4096x2048_S4096x16x128) P) transposes_S16x128x4096_S4096x16x128_2_0_1))
    (constant S_ .f32 0x00000000#32) reducesTo_S4096x16x128_S4096x16_d2 h_S_) transposes_S4096x16_S16x4096_1_0) shapeCasts_S16x4096_S16x8x1x512

theorem scaledQ_apply (X0 : FVec Ideal S4096x4096 .f32) (y : S4096x4096.Idx) :
    scaledQ X0 y = Ideal.div (X0 y * Ideal.ofBits .f32 0x3D93CD3A#32) (Ideal.log (Ideal.ofBits .f32 0x40000000#32)) := by
  pointwise [scaledQ]

theorem logs_apply (M T : FVec Ideal S16x4096 .f32) (a : Fin 16) (b : Fin 8) (l : Fin 512) :
    logs M T (ix4 a b 0 l) = Ideal.div (M (ix2 a ⟨b.val * 512 + l.val, by omega⟩) + Ideal.log (T (ix2 a ⟨b.val * 512 + l.val, by omega⟩))) (Ideal.log (Ideal.ofBits .f32 0x40000000#32)) := by
  pointwise [logs, Cert.AttnRefIdeal.Host.column]

theorem deltas_apply (X2 X3 : FVec Ideal S4096x2048 .f32) (P : FVec Ideal S16x4096x4096 .f32) (a : Fin 16) (b : Fin 8) (l : Fin 512) :
    deltas X2 X3 P (ix4 a b 0 l) = ∑ d : Fin 128, X3 (ix2 ⟨b.val * 512 + l.val, by omega⟩ ⟨a.val * 128 + d.val, by omega⟩)
      * ∑ k : Fin 4096, X2 (ix2 k ⟨a.val * 128 + d.val, by omega⟩) * P (ix3 a ⟨b.val * 512 + l.val, by omega⟩ k) := by
  pointwise [deltas]

section Entry

variable (m : (ℓ : Loc nD τ sig) → Buf (Elt Ideal) ℓ) (c : Dev nD)

abbrev arg0 : FVec Ideal S4096x4096 .f32 := m ((c : Thread nD τ).loc main_arg0)
abbrev arg1 : FVec Ideal S4096x4096 .f32 := m ((c : Thread nD τ).loc main_arg1)
abbrev arg2 : FVec Ideal S4096x2048 .f32 := m ((c : Thread nD τ).loc main_arg2)
abbrev arg3 : FVec Ideal S4096x2048 .f32 := m ((c : Thread nD τ).loc main_arg3)

theorem v_q : V m c main_v42 = scaledQ (arg0 m c) := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp
  rfl

theorem v_k : V m c main_v43 = truncf .bf16 (arg1 m c) bitsLt_bf16_f32 := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp

theorem v_kt : V m c main_v44 = transpose S4096x4096 [1, 0] (truncf .bf16 (arg1 m c) bitsLt_bf16_f32) transposes_S4096x4096_S4096x4096_1_0 := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp

theorem v_v : V m c main_v45 = truncf .bf16 (arg2 m c) bitsLt_bf16_f32 := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp

theorem v_do : V m c main_v46 = truncf .bf16 (arg3 m c) bitsLt_bf16_f32 := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp

theorem v_lse : V m c main_v32 = logs (Cert.AttnRefIdeal.Host.rowMax (Cert.AttnRefIdeal.Host.masked (arg0 m c) (arg1 m c))) (Cert.AttnRefIdeal.Host.total (Cert.AttnRefIdeal.Host.exps (arg0 m c) (arg1 m c))) := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp
  rfl

theorem v_delta : V m c main_v36 = deltas (arg2 m c) (arg3 m c) (Cert.AttnRefIdeal.Host.share (Cert.AttnRefIdeal.Host.exps (arg0 m c) (arg1 m c))) := by
  unfold V V0
  simp only [hostOps0, hostOps0_1, hostOps0_2, List.flatten_cons, List.flatten_nil, List.cons_append, List.nil_append, List.append_nil, TRef.nullary, TRef.ternary, TRef.unary, TRef.toBuf, TRef.ofBuf, cast_eq]
  after_results_simp
  rfl

section Blocks

open Cert.AttnRefIdeal.Host

theorem num2_re {n0 n1 : ℕ} (w : ℕ) (X : (⟨2, ![n0, n1]⟩ : Shape).Idx → EReal) (hX : ∀ y, X y = (((X y).toReal : ℝ) : EReal)) (i a d col : ℕ)
    (hi : i < n0) (hc : a * w + d < n1) (e : col = a * w + d) : num2 X i col = ((re w X a i d : ℝ) : EReal) := by
  subst e
  unfold num2
  rw [dif_pos ⟨hi, hc⟩]
  exact re_coe w X hX ⟨i, hi⟩ a d hc

theorem num2_turned (X : FVec Ideal S4096x4096 .bf16) (a b : ℕ) (ha : a < 4096) (hb : b < 4096) :
    num2 (n0 := 4096) (n1 := 4096) (transpose S4096x4096 [1, 0] X transposes_S4096x4096_S4096x4096_1_0) a b = num2 (n0 := 4096) (n1 := 4096) X b a := by
  unfold num2
  rw [dif_pos ⟨ha, hb⟩, dif_pos ⟨hb, ha⟩]
  pointwise []

variable {m c}

/-- The kernel's blocks at one head and one block of keys. -/
theorem blocks (H : Finite (arg0 m c) (arg1 m c) (arg2 m c) (arg3 m c)) (h j hh : ℕ) (hh8 : h < 8) (hj : j < 8) (h2 : hh < 2) :
    Holds (re 256 (arg0 m c)) (re 256 (arg1 m c)) (re 128 (arg2 m c)) (re 128 (arg3 m c)) (mu (arg0 m c) (arg1 m c)) sc j hh (2 * h + hh)
      (bq m c h) (bk m c h j) (bkt m c h j) (bv m c h j) (bu m c h) (bl m c h) (bd m c h) where
  hq r d h1 h3 := by
    unfold bq
    rw [v_q]
    have e1 : num2 (n0 := 4096) (n1 := 4096) (scaledQ (arg0 m c)) r (512 * h + (256 * hh + d))
        = Ideal.div (num2 (n0 := 4096) (n1 := 4096) (arg0 m c) r (512 * h + (256 * hh + d)) * Ideal.ofBits .f32 0x3D93CD3A#32) (Ideal.log (Ideal.ofBits .f32 0x40000000#32)) := by
      unfold num2
      rw [dif_pos ⟨h1, by omega⟩, dif_pos ⟨h1, by omega⟩]
      exact scaledQ_apply _ _
    rw [e1, num2_re 256 (arg0 m c) H.h0 r (2 * h + hh) d _ h1 (by omega) (by omega), sc_coe, log_two, ← EReal.coe_mul, div_real _ _ (Real.log_pos (by norm_num)).ne']
  hk kk d h1 h3 := by
    unfold bk
    rw [v_k]
    exact num2_re 256 (arg1 m c) H.h1 (512 * j + kk) (2 * h + hh) d _ (by omega) (by omega) (by omega)
  hkt d kk h1 h3 := by
    unfold bkt
    rw [v_kt, num2_turned _ _ _ (by omega) (by omega)]
    exact num2_re 256 (arg1 m c) H.h1 (512 * j + kk) (2 * h + hh) d _ (by omega) (by omega) (by omega)
  hv kk d h1 h3 := by
    unfold bv
    rw [v_v]
    exact num2_re 128 (arg2 m c) H.h2 (512 * j + kk) (2 * h + hh) d _ (by omega) (by omega) (by omega)
  hu r d h1 h3 := by
    unfold bu
    rw [v_do]
    exact num2_re 128 (arg3 m c) H.h3 r (2 * h + hh) d _ (by omega) (by omega) (by omega)
  hl r h1 := by
    unfold bl
    rw [v_lse]
    unfold num4
    rw [dif_pos ⟨⟨by omega, by omega⟩, by omega, by omega⟩]
    refine (logs_apply _ _ ⟨2 * h + hh, by omega⟩ ⟨r / 512, by omega⟩ ⟨r % 512, by omega⟩).trans ?_
    have e : (⟨r / 512 * 512 + r % 512, by omega⟩ : Fin 4096) = ⟨r, h1⟩ := Fin.ext (by dsimp only; omega)
    dsimp only
    rw [e, rowMax_coe H, total_coe H, log_two, Ideal.log_coe, if_neg (not_le.mpr (AttnReal.l_pos (re 256 (arg0 m c)) (re 256 (arg1 m c)) (mu (arg0 m c) (arg1 m c)) sc (2 * h + hh) r h1)), ← EReal.coe_add, div_real _ _ (Real.log_pos (by norm_num)).ne']
  hd r h1 := by
    unfold bd
    rw [v_delta]
    unfold num4
    rw [dif_pos ⟨⟨by omega, by omega⟩, by omega, by omega⟩]
    refine (deltas_apply _ _ _ ⟨2 * h + hh, by omega⟩ ⟨r / 512, by omega⟩ ⟨r % 512, by omega⟩).trans ?_
    have e : (⟨r / 512 * 512 + r % 512, by omega⟩ : Fin 4096) = ⟨r, h1⟩ := Fin.ext (by dsimp only; omega)
    dsimp only
    rw [e, AttnReal.mean_eq, ← AttnReal.sum_coe]
    refine Finset.sum_congr rfl fun d _ => ?_
    rw [EReal.coe_mul, ← AttnReal.sum_coe]
    have hd := d.isLt
    refine congr (congrArg (fun x y : EReal => x * y) (re_coe 128 (arg3 m c) H.h3 ⟨r, h1⟩ (2 * h + hh) d.val (by omega))) (Finset.sum_congr rfl fun k _ => ?_)
    rw [share_coe H, EReal.coe_mul]
    exact congrArg (fun x : EReal => x * _) (re_coe 128 (arg2 m c) H.h2 k (2 * h + hh) d.val (by omega))

end Blocks

end Entry

end Cert.AttnIdeal.Body

end
-- ==== Proof.AttnRun.lean ====
/- The launch: what every array holds when the call ends. -/
module

public import proofs.«01_k».proof.Proof.AttnPoint
public import proofs.«01_k».proof.Proof.Gen.AttnIdeal.Frame
public import Idealize.ShloMosaic.Lib.Pipeline.ValueKit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Owned

variable (j : ℕ) (q k kt v u : ℕ → ℕ → EReal) (ls dl : ℕ → ℕ → EReal)

/-- The running sum of the queries' gradient, one block of keys later. -/
def next (Y : S2x8x256x512.Idx → EReal) (y : S2x8x256x512.Idx) : EReal :=
  (if j = 0 then 0 else Y y) + if j ≤ (y 1).val then addQ j q k kt v u ls dl (y 0).val (y 2).val (512 * (y 1).val + (y 3).val) else 0

def keysValues (y : S512x512.Idx) : EReal :=
  if (y 1).val % 256 < 128 then (∑ b ∈ Finset.Ico j 8, addK j q k v u ls dl b ((y 1).val / 256) (y 0).val ((y 1).val % 256)) * ((Real.log 2 : ℝ) : EReal)
  else ∑ b ∈ Finset.Ico j 8, addV j q k u ls b ((y 1).val / 256) (y 0).val ((y 1).val % 256 - 128)

def keysLast (y : S512x256.Idx) : EReal :=
  (∑ b ∈ Finset.Ico j 8, addK j q k v u ls dl b ((y 1).val / 128) (y 0).val (128 + (y 1).val % 128)) * ((Real.log 2 : ℝ) : EReal)

end Owned

set_option maxHeartbeats 1000000 in
/-- The body at a grid point, over owned memrefs. -/
theorem body_owned (𝒱 : Variants) (c : Dev nD) (bd) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole)
    (Y2 : S4096x512.Idx → EReal) (Y3 : S512x512.Idx → EReal) (Y4 : S512x512.Idx → EReal) (Y5 : S512x256.Idx → EReal) (Y6 : S4096x256.Idx → EReal) (Y7 : S2x8x1x512.Idx → EReal) (Y8 : S2x8x1x512.Idx → EReal) (Y9 : S2x8x256x512.Idx → EReal) (Y12 : S2x8x256x512.Idx → EReal)
    (q k kt v u : ℕ → ℕ → EReal) (ls dl : ℕ → ℕ → EReal)
    (h2 : ∀ y, Y2 y = q (y 0).val (y 1).val) (h3 : ∀ y, Y3 y = k (y 0).val (y 1).val) (h4 : ∀ y, Y4 y = kt (y 0).val (y 1).val)
    (h5 : ∀ y, Y5 y = v (y 0).val (y 1).val) (h6 : ∀ y, Y6 y = u (y 0).val (y 1).val)
    (h7 : ∀ y, Y7 y = ls (y 0).val (512 * (y 1).val + (y 3).val)) (h8 : ∀ y, Y8 y = dl (y 0).val (512 * (y 1).val + (y 3).val)) (Q : PUnit → sProp 𝕄) :
    iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ X, owns (c : Thread nD τ) arg10 fullShare X) ∗ (∃ X, owns (c : Thread nD τ) arg11 fullShare X) ∗ owns (c : Thread nD τ) arg12 fullShare Y12 ∗ (∃ X, owns (c : Thread nD τ) arg13 fullShare X) ∗ (∃ X, owns (c : Thread nD τ) arg14 fullShare X)
      ∗ ((owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare (if (i 1).val = 7 then next (i 1).val q k kt v u ls dl Y12 else Y9) ∗ owns (c : Thread nD τ) arg10 fullShare (keysValues (i 1).val q k v u ls dl) ∗ owns (c : Thread nD τ) arg11 fullShare (keysLast (i 1).val q k v u ls dl)
        ∗ owns (c : Thread nD τ) arg12 fullShare (next (i 1).val q k kt v u ls dl Y12) ∗ (∃ X, owns (c : Thread nD τ) arg13 fullShare X) ∗ (∃ X, owns (c : Thread nD τ) arg14 fullShare X)) -∗ Q ⟨⟩))
      ⊢ wp frame (wpE (defs₀ (F := Ideal)) 𝒱 (c : Thread nD τ) bd) E (cc0_l2_b_attn (F := Ideal) i arg2 harg2 arg3 harg3 arg4 harg4 arg5 harg5 arg6 harg6 arg7 harg7 arg8 harg8 arg9 harg9 arg10 harg10 arg11 harg11 arg12 harg12 arg13 harg13 arg14 harg14) Q := by
  rw [cc0_l2_b_attn_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%X10, %f10, %e10, H10⟩, ⟨%X11, %f11, %e11, H11⟩, ⟨%f12, %e12, H12⟩, ⟨%X13, %f13, %e13, H13⟩, ⟨%X14, %f14, %e14, H14⟩, HQ⟩
  iapply wp_wand_r
  isplitl [H2 H3 H4 H5 H6 H7 H8 H9 H10 H11 H12 H13 H14]
  · iapply (body 𝒱 c bd E i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 q k kt v u ls dl
      ⟨fun y => (congrFun e2 y).trans (h2 y), fun y => (congrFun e3 y).trans (h3 y), fun y => (congrFun e4 y).trans (h4 y), fun y => (congrFun e5 y).trans (h5 y),
       fun y => (congrFun e6 y).trans (h6 y), fun y => (congrFun e7 y).trans (h7 y), fun y => (congrFun e8 y).trans (h8 y)⟩)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %a ⟨H2, H3, H4, H5, H6, H7, H8, %g9, %g10, %g11, %g12, %g13, %g14, %o, H9, H10, H11, H12, H13, H14⟩
    have n12 : arg12.view.read (Elt Ideal) g12 = next (i 1).val q k kt v u ls dl Y12 := by
      funext y
      refine (o.h12 y).trans ?_
      unfold next
      rw [e12]
    iapply HQ
    isplitl [H2]
    · iexists f2; isplitr
      · ipureintro; exact e2
      · iexact H2
    isplitl [H3]
    · iexists f3; isplitr
      · ipureintro; exact e3
      · iexact H3
    isplitl [H4]
    · iexists f4; isplitr
      · ipureintro; exact e4
      · iexact H4
    isplitl [H5]
    · iexists f5; isplitr
      · ipureintro; exact e5
      · iexact H5
    isplitl [H6]
    · iexists f6; isplitr
      · ipureintro; exact e6
      · iexact H6
    isplitl [H7]
    · iexists f7; isplitr
      · ipureintro; exact e7
      · iexact H7
    isplitl [H8]
    · iexists f8; isplitr
      · ipureintro; exact e8
      · iexact H8
    isplitl [H9]
    · iexists g9; isplitr
      · ipureintro
        by_cases h : (i 1).val = 7
        · rw [if_pos h, ← n12]; exact funext (o.h9 h)
        · rw [if_neg h, o.h9' h]; exact e9
      · iexact H9
    isplitl [H10]
    · iexists g10; isplitr
      · ipureintro; exact funext fun y => o.h10 y
      · iexact H10
    isplitl [H11]
    · iexists g11; isplitr
      · ipureintro; exact funext fun y => o.h11 y
      · iexact H11
    isplitl [H12]
    · iexists g12; isplitr
      · ipureintro; exact n12
      · iexact H12
    isplitl [H13]
    · iexists _; iexists g13; isplitr
      · ipureintro; rfl
      · iexact H13
    iexists _; iexists g14; isplitr
    · ipureintro; rfl
    · iexact H14

section Run

variable (m : (ℓ : Loc nD τ sig) → Buf (Elt Ideal) ℓ) (ρ : Dev nD → PrngReg)

/-- Between grid points: the running sum of the pair's queries' gradient, once it is begun. -/
def Phi (c : Dev nD) (n : ℕ) : sProp 𝕄 :=
  iprop(∃ Y : S2x8x256x512.Idx → EReal, ⌜n % 8 ≠ 0 → ∀ y, Y y = sumQ m c (n / 8) (n % 8) (y 0).val (y 1).val (y 2).val (y 3).val⌝
    ∗ owns (c : Thread nD τ) (Memref.whole cc0_scratch0) fullShare Y ∗ (∃ X, owns (c : Thread nD τ) (Memref.whole cc0_scratch1) fullShare X)
    ∗ (∃ X, owns (c : Thread nD τ) (Memref.whole cc0_scratch2) fullShare X) ∗ ∃ r, prngReg c r)

/-- The proof data of the call. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (fun y => sumQ m c (t.val / 8) 8 (y 0).val (y 1).val (y 2).val (y 3).val : S2x8x256x512.Idx → EReal)
    | ⟨8, _⟩ => (fun y => outKV m c (t.val / 8) (t.val % 8) (y 0).val (y 1).val : S512x512.Idx → EReal)
    | ⟨9, _⟩ => (fun y => outR m c (t.val / 8) (t.val % 8) (y 0).val (y 1).val : S512x256.Idx → EReal)
  Φ t := Phi m c t.val
  q _ := fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = (fun y => sumQ m c (t.val / 8) 8 (y 0).val (y 1).val (y 2).val (y 3).val : S2x8x256x512.Idx → EReal) := by dsimp only [dat]
theorem after_8 (c : Dev nD) (t : Fin cfg0.N) : (dat m c).after 8 t = (fun y => outKV m c (t.val / 8) (t.val % 8) (y 0).val (y 1).val : S512x512.Idx → EReal) := by dsimp only [dat]
theorem after_9 (c : Dev nD) (t : Fin cfg0.N) : (dat m c).after 9 t = (fun y => outR m c (t.val / 8) (t.val % 8) (y 0).val (y 1).val : S512x256.Idx → EReal) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

theorem idle_7 : ∀ t : Fin cfg0.N, cfg0.idle 7 (cfg0.grid.coords t) = !decide (t.val % 8 = 7) := (by decide +kernel : ∀ t : Fin grid0.N, idle0 7 (grid0.coords t) = !decide (t.val % 8 = 7))

/-- What a point leaves of the queries' gradient: the block at the pair's last point, what it held before that. -/
theorem leave_last (c : Dev nD) (t : Fin cfg0.N) (h : t.val % 8 = 7) : owns (c : Thread nD τ) (st0_7 t) fullShare ((dat m c).after 7 t) ⊢ ((dat m c).leavesExact 7 t : sProp 𝕄) := by
  unfold Dat.leavesExact
  rw [idle_7, h]
  exact .rfl

theorem leave_idle (c : Dev nD) (t : Fin cfg0.N) (h : t.val % 8 ≠ 7) : (∃ d, owns (c : Thread nD τ) (st0_7 t) fullShare ((dat m c).before 7 t d)) ⊢ ((dat m c).leavesExact 7 t : sProp 𝕄) := by
  have hf : (cfg0.win 7).flush t = false := by
    rw [Bool.eq_false_iff]; exact fun k => h ((flush0_7 t).mp k)
  unfold Dat.leavesExact
  rw [idle_7, decide_eq_false h, hf]
  exact .rfl

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ (dat m c).leavesExact 7 t
    ∗ owns (c : Thread nD τ) (st0_8 t) fullShare ((dat m c).after 8 t)
    ∗ owns (c : Thread nD τ) (st0_9 t) fullShare ((dat m c).after 9 t))

theorem sumQ_next (c : Dev nD) (t : Fin cfg0.N) (Y : S2x8x256x512.Idx → EReal) (hY : t.val % 8 ≠ 0 → ∀ y, Y y = sumQ m c (t.val / 8) (t.val % 8) (y 0).val (y 1).val (y 2).val (y 3).val) (y : S2x8x256x512.Idx) :
    next (t.val % 8) (bq m c (t.val / 8)) (bk m c (t.val / 8) (t.val % 8)) (bkt m c (t.val / 8) (t.val % 8)) (bv m c (t.val / 8) (t.val % 8)) (bu m c (t.val / 8)) (bl m c (t.val / 8)) (bd m c (t.val / 8)) Y y
      = sumQ m c (t.val / 8) (t.val % 8 + 1) (y 0).val (y 1).val (y 2).val (y 3).val := by
  unfold next
  rw [sumQ, Finset.sum_range_succ, ← sumQ]
  congr 1
  by_cases h : t.val % 8 = 0
  · rw [if_pos h, h, sumQ, Finset.sum_range_zero]
  · rw [if_neg h, hY h y]

set_option maxHeartbeats 1000000 in
theorem sound (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6]
  rw [show (dat m c).Φ t.castSucc = Phi m c t.val from rfl, show (dat m c).Φ t.succ = Phi m c (t.val + 1) from rfl,
    show (dat m c).owesAt () t.succ = (dat m c).owesAt () t.castSucc from rfl,
    after_0, after_1, after_2, after_3, after_4, after_5, after_6, after_8, after_9]
  unfold Phi
  iintro ⟨⟨%Y, %hY, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_owned Variants.none c none Set.univ (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) ((dat m c).before 7 t d7) Y
    (bq m c (t.val / 8)) (bk m c (t.val / 8) (t.val % 8)) (bkt m c (t.val / 8) (t.val % 8)) (bv m c (t.val / 8) (t.val % 8)) (bu m c (t.val / 8)) (bl m c (t.val / 8)) (bd m c (t.val / 8))
    (bq_eq m c t) (bk_eq m c t) (bkt_eq m c t) (bv_eq m c t) (bu_eq m c t) (bl_eq m c t) (bd_eq m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  rw [coord t]
  iintro ⟨H0, H1, H2, H3, H4, H5, H6, H7, H8, H9, S0, S1, S2⟩
  isplitl [S0 S1 S2 Hr]
  · iexists _
    isplitr
    rotate_left
    · isplitl [S0]; · iexact S0
      isplitl [S1]; · iexact S1
      isplitl [S2]; · iexact S2
      iexact Hr
    · ipureintro
      intro h y
      rw [sumQ_next m c t Y hY y, show (t.val + 1) / 8 = t.val / 8 by omega, show (t.val + 1) % 8 = t.val % 8 + 1 by omega]
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · by_cases h : t.val % 8 = 7
    · iapply (leave_last m c t h)
      rw [if_pos h, after_7, show next _ _ _ _ _ _ _ _ Y = _ from funext (sumQ_next m c t Y hY), h]
      iexact H7
    · iapply (leave_idle m c t h)
      rw [if_neg h]
      iexists d7
      iexact H7
  isplitl [H8]; · iexact H8
  iexact H9

/-- The body table's row at a point. -/
theorem row (t : Fin cfg0.N) : defs₀ (F := Ideal) .tc cfg0.body (cfg0.bodyArgs t (cfg0.slots t)) = bodyAt0 t := by
  unfold defs₀; rw [Defs.onTc_tc]

theorem obligation (c : Dev nD) : BodyObligation (dat m c) (defs₀ (F := Ideal)) Variants.none () Set.univ := fun t => by
  rw [bigSep_W0, bigSep_W0, row]
  exact triple_restated (sound m c t) rfl .rfl fun _ => .rfl

theorem enter (c : Dev nD) : Pipeline.ΦA spec0 c ⊢ (dat m c).Φ 0 := by
  rw [show (dat m c).Φ 0 = Phi m c 0 from rfl]
  unfold Pipeline.ΦA Phi
  rw [scopedRest0_eq]
  iintro ⟨⟨⟨%f0, S0⟩, ⟨%f1, S1⟩, ⟨%f2, S2⟩⟩, Hr⟩
  iexists f0
  isplitr
  · ipureintro; exact fun h => absurd rfl h
  isplitl [S0]; · rw [owns_whole]; iexact S0
  isplitl [S1]; · iexists f1; rw [owns_whole]; iexact S1
  isplitl [S2]; · iexists f2; rw [owns_whole]; iexact S2
  iexact Hr

theorem leave (c : Dev nD) : (dat m c).Φ (Fin.last cfg0.N) ⊢ Pipeline.ΦA spec0 c := by
  rw [show (dat m c).Φ (Fin.last cfg0.N) = Phi m c 64 from rfl]
  unfold Pipeline.ΦA Phi
  rw [scopedRest0_eq]
  iintro ⟨%Y, -, S0, ⟨%f1, S1⟩, ⟨%f2, S2⟩, Hr⟩
  isplitl [S0 S1 S2]
  · isplitl [S0]; · iexists Y; rw [← owns_whole]; iexact S0
    isplitl [S1]; · iexists f1; rw [← owns_whole]; iexact S1
    iexists f2; rw [← owns_whole]; iexact S2
  iexact Hr

abbrev dats : (p : Fin 1) → (c : Dev nD) → Dat τ (Elt Ideal) Unit ℕ (UR sig nD τ) ℕ (cfgs p) c := fun _ c => dat m c

/-- The launch: every array ends as the proof data says, and the lines after the region run on them. -/
theorem run : θ_run defs (onTc (τ := τ) (main (F := Ideal))) (s₀ m ρ) (fun r => Pipeline.FramePost cfgs (dats m) 0 (Pipeline.afterTail₀ cfgs (dats m) 0 (V0 m) [hostOps1]) r ∧ r.2.sem = (fun _ => 0)) :=
  Pipeline.θ_run_frame_around_track cfgs (dats m) 0 launch0 (defs₀ (F := Ideal)) Variants.none m ρ main (fun c => (obligation m c).loose) (fun c => (dats m 0 c).share_full fun _ => rfl) (fun _ _ => rfl)
    (V0 m) [hostOps1] sfx_sub sfx_fresh sfx_keeps (hmain m Variants.none) (fun c w => A_eq m c w) (enter m) (leave m) (fun r => Pipeline.FramePost cfgs (dats m) 0 (Pipeline.afterTail₀ cfgs (dats m) 0 (V0 m) [hostOps1]) r ∧ r.2.sem = (fun _ => 0)) (fun _ h => h)

end Run

end Cert.AttnIdeal.Body

end
-- ==== Proof.AttnRef.lean ====
/- The reference's results are the stages of `AttnHost`. -/
module

public import proofs.«01_k».proof.Proof.AttnCoe
public import proofs.«01_k».proof.Proof.Gen.AttnRefIdeal.Run

@[expose] public section

set_option maxRecDepth 16384

noncomputable section

namespace Cert.AttnRefIdeal.Host

open Cert.AttnRefIdeal Cert.AttnRefIdeal.Gen
open Idealize.ShloMosaic Idealize.ShloMosaic.TcCoe

variable (m : (ℓ : Loc nD τ sig) → Buf (Elt Ideal) ℓ) (c : Dev nD)

abbrev in0 : FVec Ideal S4096x4096 .f32 := m ((c : Thread nD τ).loc main_arg0)
abbrev in1 : FVec Ideal S4096x4096 .f32 := m ((c : Thread nD τ).loc main_arg1)
abbrev in2 : FVec Ideal S4096x2048 .f32 := m ((c : Thread nD τ).loc main_arg2)
abbrev in3 : FVec Ideal S4096x2048 .f32 := m ((c : Thread nD τ).loc main_arg3)

/-- The row's shift as the reference writes it. -/
abbrev shift (X0 X1 : FVec Ideal S4096x4096 .f32) : FVec Ideal S16x4096 .f32 :=
  maximumf (broadcastInDim S16x4096 ![] bcast_S_S16x4096 (constant S_ .f32 0xFF800000#32)) (rowMax (masked X0 X1))

theorem shifted (X0 X1 : FVec Ideal S4096x4096 .f32) : expd (masked X0 X1) (shift X0 X1) = exps X0 X1 := by
  unfold shift
  rw [shift_eq]

/-- The queries' gradient. -/
def resQ (X0 X1 : FVec Ideal S4096x4096 .f32) (X2 X3 : FVec Ideal S4096x2048 .f32) : FVec Ideal S16x8x256x512 .bf16 :=
  outQ (gradQ X1 (gradS (cross X2 X3) (exps X0 X1)))

/-- The first columns of the keys' gradient, with the values'. -/
def resKV (X0 X1 : FVec Ideal S4096x4096 .f32) (X2 X3 : FVec Ideal S4096x2048 .f32) : FVec Ideal S4096x4096 .bf16 :=
  outKV (gradK X0 (gradS (cross X2 X3) (exps X0 X1))) (gradV X3 (share (exps X0 X1)))

/-- The last columns of the keys' gradient. -/
def resR (X0 X1 : FVec Ideal S4096x4096 .f32) (X2 X3 : FVec Ideal S4096x2048 .f32) : FVec Ideal S4096x2048 .bf16 :=
  outR (gradK X0 (gradS (cross X2 X3) (exps X0 X1)))

set_option maxHeartbeats 2000000 in
theorem res_q : Value.res_main_v76 m c = resQ (in0 m c) (in1 m c) (in2 m c) (in3 m c) := by
  unfold resQ
  rw [← shifted]
  unfold Value.res_main_v76
  rfl

set_option maxHeartbeats 2000000 in
theorem res_kv : Value.res_main_v77 m c = resKV (in0 m c) (in1 m c) (in2 m c) (in3 m c) := by
  unfold resKV
  rw [← shifted]
  unfold Value.res_main_v77
  rfl

set_option maxHeartbeats 2000000 in
theorem res_r : Value.res_main_v78 m c = resR (in0 m c) (in1 m c) (in2 m c) (in3 m c) := by
  unfold resR
  rw [← shifted]
  unfold Value.res_main_v78
  rfl

end Cert.AttnRefIdeal.Host

end
-- ==== Proof.AttnFinal.lean ====
/- The kernel's result arrays are the reference's. -/
module

public import proofs.«01_k».proof.Proof.AttnEntry
public import proofs.«01_k».proof.Proof.AttnRun
public import proofs.«01_k».proof.Proof.AttnRef

@[expose] public section

set_option maxRecDepth 16384

noncomputable section

namespace Cert.AttnIdeal.Body

open Cert.AttnIdeal Cert.AttnIdeal.Gen
open Idealize.ShloMosaic Idealize.ShloMosaic.TcCoe Idealize.ShloMosaic.StableHlo
open Idealize.SL.Sem
open Idealize.ShloMosaic.Pipeline (Dat)
open Cert.AttnRefIdeal.Host (Finite resQ resKV resR re mu sc)

section Final

variable {m : (ℓ : Loc nD τ sig) → Buf (Elt Ideal) ℓ} {c : Dev nD}

theorem num2_at {n0 n1 : ℕ} (X : (⟨2, ![n0, n1]⟩ : Shape).Idx → EReal) (a b : ℕ) (h0 : a < n0) (h1 : b < n1) : num2 X a b = X (ix2 ⟨a, h0⟩ ⟨b, h1⟩) :=
  dif_pos ⟨h0, h1⟩

theorem kv_point (H : Finite (arg0 m c) (arg1 m c) (arg2 m c) (arg3 m c)) (h j r col : ℕ) (hh : h < 8) (hj : j < 8) (hr : r < 512) (hc : col < 512) :
    outKV m c h j r col = num2 (n0 := 4096) (n1 := 4096) (resKV (arg0 m c) (arg1 m c) (arg2 m c) (arg3 m c)) (512 * j + r) (512 * h + col) := by
  have e : 512 * h + col = (2 * h + col / 256) * 256 + col % 256 := by omega
  rw [e, num2_at _ _ _ (by omega) (by omega)]
  refine Eq.trans ?_ (Cert.AttnRefIdeal.Host.outKV_apply _ _ ⟨512 * j + r, by omega⟩ ⟨2 * h + col / 256, by omega⟩ ⟨col % 256, by omega⟩).symm
  unfold outKV
  have B := blocks H h j (col / 256) hh hj (by omega)
  by_cases hd : col % 256 < 128
  · rw [if_pos hd, dif_pos hd, B.keys hj r (col % 256) hr (by omega)]
    exact (Cert.AttnRefIdeal.Host.gradK_coe H ⟨512 * j + r, by omega⟩ ⟨2 * h + col / 256, by omega⟩ ⟨col % 256, by omega⟩).symm
  · rw [if_neg hd, dif_neg hd, B.values hj r (col % 256 - 128) hr (by omega)]
    exact (Cert.AttnRefIdeal.Host.gradV_coe H ⟨512 * j + r, by omega⟩ ⟨2 * h + col / 256, by omega⟩ ⟨col % 256 - 128, by omega⟩).symm

theorem r_point (H : Finite (arg0 m c) (arg1 m c) (arg2 m c) (arg3 m c)) (h j r col : ℕ) (hh : h < 8) (hj : j < 8) (hr : r < 512) (hc : col < 256) :
    outR m c h j r col = num2 (n0 := 4096) (n1 := 2048) (resR (arg0 m c) (arg1 m c) (arg2 m c) (arg3 m c)) (512 * j + r) (256 * h + col) := by
  have e : 256 * h + col = (2 * h + col / 128) * 128 + col % 128 := by omega
  rw [e, num2_at _ _ _ (by omega) (by omega)]
  refine Eq.trans ?_ (Cert.AttnRefIdeal.Host.outR_apply _ ⟨512 * j + r, by omega⟩ ⟨2 * h + col / 128, by omega⟩ ⟨col % 128, by omega⟩).symm
  unfold outR
  rw [(blocks H h j (col / 128) hh hj (by omega)).keys hj r (128 + col % 128) hr (by omega)]
  exact (Cert.AttnRefIdeal.Host.gradK_coe H ⟨512 * j + r, by omega⟩ ⟨2 * h + col / 128, by omega⟩ ⟨128 + col % 128, by omega⟩).symm

theorem q_point (H : Finite (arg0 m c) (arg1 m c) (arg2 m c) (arg3 m c)) (a : Fin 16) (b : Fin 8) (d : Fin 256) (l : Fin 512) :
    sumQ m c (a.val / 2) 8 (a.val % 2) b.val d.val l.val * ((sc : ℝ) : EReal) = resQ (arg0 m c) (arg1 m c) (arg2 m c) (arg3 m c) (ix4 a b d l) := by
  have ha := a.isLt
  refine Eq.trans ?_ (Cert.AttnRefIdeal.Host.outQ_apply _ a b d l).symm
  have K : (2 * (a.val / 2) + a.val % 2) = a.val := by omega
  refine Eq.trans (queries (fun j hj => blocks H (a.val / 2) j (a.val % 2) (by omega) hj (by omega)) b.val d.val l.val b.isLt d.isLt l.isLt) ?_
  rw [K]
  have e : (⟨b.val * 512 + l.val, by omega⟩ : Fin 4096) = ⟨512 * b.val + l.val, by omega⟩ := Fin.ext (by dsimp only; omega)
  rw [e]
  exact (Cert.AttnRefIdeal.Host.gradQ_coe H ⟨512 * b.val + l.val, by omega⟩ a d).symm

theorem kv_final (H : Finite (arg0 m c) (arg1 m c) (arg2 m c) (arg3 m c)) :
    (dats m 0 c).arrAt 8 cfg0.N = resKV (arg0 m c) (arg1 m c) (arg2 m c) (arg3 m c) := by
  refine (dats m 0 c).arrAt_eq_of_covers 8 _ (by decide +kernel) fun t _ y => ?_
  blk_simp
  have e := (attn_idx t).2.2.2.2.2.2.2.2.1
  have ht : t.val < 64 := t.isLt
  have y0 : (y 0).val < 512 := (y 0).isLt
  have y1 : (y 1).val < 512 := (y 1).isLt
  rw [after_8]
  refine (kv_point H (t.val / 8) (t.val % 8) (y 0).val (y 1).val (by omega) (by omega) y0 y1).trans (num2_eq _ _ _ _ ?_ ?_).symm
  · blk_simp [e]
    first | done | omega | (simp; done) | (simp; omega)
  · blk_simp [e]
    first | done | omega | (simp; done) | (simp; omega)

theorem r_final (H : Finite (arg0 m c) (arg1 m c) (arg2 m c) (arg3 m c)) :
    (dats m 0 c).arrAt 9 cfg0.N = resR (arg0 m c) (arg1 m c) (arg2 m c) (arg3 m c) := by
  refine (dats m 0 c).arrAt_eq_of_covers 9 _ (by decide +kernel) fun t _ y => ?_
  blk_simp
  have e := (attn_idx t).2.2.2.2.2.2.2.2.2
  have ht : t.val < 64 := t.isLt
  have y0 : (y 0).val < 512 := (y 0).isLt
  have y1 : (y 1).val < 256 := (y 1).isLt
  rw [after_9]
  refine (r_point H (t.val / 8) (t.val % 8) (y 0).val (y 1).val (by omega) (by omega) y0 y1).trans (num2_eq _ _ _ _ ?_ ?_).symm
  · blk_simp [e]
    first | done | omega | (simp; done) | (simp; omega)
  · blk_simp [e]
    first | done | omega | (simp; done) | (simp; omega)

/-- The array of the queries' gradient before the host's scale. -/
def rawQ (m : (ℓ : Loc nD τ sig) → Buf (Elt Ideal) ℓ) (c : Dev nD) : S16x8x256x512.Idx → EReal :=
  fun y => sumQ m c ((y 0).val / 2) 8 ((y 0).val % 2) (y 1).val (y 2).val (y 3).val

theorem q_final : (dats m 0 c).arrAt 7 cfg0.N = rawQ m c := by
  refine (dats m 0 c).arrAt_eq_of_covers 7 _ (by decide +kernel) fun t hf y => ?_
  blk_simp
  have e := (attn_idx t).2.2.2.2.2.2.2.1
  have y0 : (y 0).val < 2 := (y 0).isLt
  rw [after_7]
  unfold rawQ
  have e0 : (((cfg0.win 7).blk t).view.emb y 0).val = 2 * (t.val / 8) + (y 0).val := by blk_simp [e]; first | done | omega | (simp; done) | (simp; omega)
  have e1 : (((cfg0.win 7).blk t).view.emb y 1).val = (y 1).val := by blk_simp [e]; first | done | omega | (simp; done) | (simp; omega)
  have e2 : (((cfg0.win 7).blk t).view.emb y 2).val = (y 2).val := by blk_simp [e]; first | done | omega | (simp; done) | (simp; omega)
  have e3 : (((cfg0.win 7).blk t).view.emb y 3).val = (y 3).val := by blk_simp [e]; first | done | omega | (simp; done) | (simp; omega)
  simp only [e0, e1, e2, e3]
  rw [show (2 * (t.val / 8) + (y 0).val) / 2 = t.val / 8 by omega, show (2 * (t.val / 8) + (y 0).val) % 2 = (y 0).val by omega]

/-- The host's scale after the call. -/
def rescaled (A : FVec Ideal S16x8x256x512 .bf16) : FVec Ideal S16x8x256x512 .bf16 :=
  truncf .bf16 (mulf (extf .f32 A bitsLt_bf16_f32) (broadcastInDim S16x8x256x512 ![] bcast_S_S16x8x256x512 (constant S_ .f32 0x3D93CD3A#32))) bitsLt_bf16_f32

theorem rescaled_apply (A : FVec Ideal S16x8x256x512 .bf16) (y : S16x8x256x512.Idx) : rescaled A y = A y * Ideal.ofBits .f32 0x3D93CD3A#32 := by
  pointwise [rescaled]

theorem q_scaled (H : Finite (arg0 m c) (arg1 m c) (arg2 m c) (arg3 m c)) : rescaled (rawQ m c) = resQ (arg0 m c) (arg1 m c) (arg2 m c) (arg3 m c) := by
  funext y
  obtain ⟨a, b, d, l, rfl⟩ : ∃ (a : Fin 16) (b : Fin 8) (d : Fin 256) (l : Fin 512), y = ix4 a b d l := ⟨y 0, y 1, y 2, y 3, funext fun b => by fin_cases b <;> rfl⟩
  rw [rescaled_apply, Cert.AttnRefIdeal.Host.sc_coe]
  exact q_point H a b d l

theorem tail_q : Pipeline.afterTail₀ cfgs (dats m) 0 (V0 m) [hostOps1] c main_v51 = rescaled ((dats m 0 c).arrAt 7 cfg0.N) := by
  unfold Pipeline.afterTail₀
  simp only [hostOps1, List.flatten_cons, List.flatten_nil, List.append_nil, TRef.nullary, TRef.ternary, TRef.unary, TRef.toBuf, TRef.ofBuf, cast_eq]
  after_results_simp
  exact congrArg rescaled (Pipeline.withArrays_arr spec0 (by decide) c (V0 m c) (fun w => (dats m 0 c).arrAt w cfg0.N) 7)

end Final

end Cert.AttnIdeal.Body

end
-- ==== Proof.AttnValue.lean ====
/- The claims about the attention's backward call over the reals. -/
module

public import proofs.«01_k».proof.Defs
public import proofs.«01_k».proof.Proof.AttnFinal
public import proofs.«01_k».proof.Proof.Gen.Pre_finite_inputs
public import Idealize.ShloMosaic.Lib.ReduceAll

@[expose] public section

set_option maxRecDepth 16384

noncomputable section

namespace Cert.AttnIdeal.Body

open Cert.AttnIdeal Cert.AttnIdeal.Gen
open Idealize.ShloMosaic Idealize.ShloMosaic.TcCoe
open Idealize.SL.Sem
open Cert.AttnRefIdeal.Host (Finite resQ resKV resR)

theorem infinite : Ideal.ofBits .f32 0x7F800000#32 = (⊤ : EReal) := by simp [Ideal.ofBits, Ideal.ieee]

/-- A number whose size is below the greatest is a real. -/
theorem real_of_lt (x : EReal) (h : Ideal.cmp .olt (max x (-x)) (Ideal.ofBits .f32 0x7F800000#32) = 1#1) : x = ((x.toReal : ℝ) : EReal) := by
  rw [infinite] at h
  induction x with
  | bot => exact absurd h (by simp [Ideal.cmp])
  | top => exact absurd h (by simp [Ideal.cmp])
  | coe r => rfl

/-- The precondition says that every input is a real. -/
theorem finite_of (X0 X1 : FVec Ideal S4096x4096 .f32) (X2 X3 : FVec Ideal S4096x2048 .f32)
    (h : Cert.Pre_finite_inputs.fn (F := Ideal) X0 X1 X2 X3 = fun _ => 1#1) : Finite X0 X1 X2 X3 := by
  have e := congrFun h (fun a => a.elim0)
  dsimp only [Cert.Pre_finite_inputs.fn, Cert.Pre_finite_inputs.fn_part1] at e
  obtain ⟨e, e3⟩ := IntOp.andi_eq_one.1 e
  obtain ⟨e, e2⟩ := IntOp.andi_eq_one.1 e
  obtain ⟨e0, e1⟩ := IntOp.andi_eq_one.1 e
  haveI : Subsingleton (⟨0, ![]⟩ : Shape).Idx := ⟨fun a b => funext fun i => i.elim0⟩
  have f0 := fun y => Host.reduce_andi_all _ _ _ _ _ e0 y
  have f1 := fun y => Host.reduce_andi_all _ _ _ _ _ e1 y
  have f2 := fun y => Host.reduce_andi_all _ _ _ _ _ e2 y
  have f3 := fun y => Host.reduce_andi_all _ _ _ _ _ e3 y
  exact ⟨fun y => real_of_lt _ (f0 y), fun y => real_of_lt _ (f1 y), fun y => real_of_lt _ (f2 y), fun y => real_of_lt _ (f3 y)⟩

end Cert.AttnIdeal.Body

namespace Cert.Proof

open Idealize.ShloMosaic Idealize.ShloMosaic.TcCoe Idealize.SL.Sem
open Cert.AttnIdeal.Body
open Cert.AttnIdeal.Gen (W_main_arg0 W_main_arg1 W_main_arg2 W_main_arg3)

/-- What the call's run leaves in its arguments and results. -/
theorem attn_ends (m : (ℓ : Loc Cert.AttnIdeal.nD Cert.AttnIdeal.τ Cert.AttnIdeal.sig) → Buf (Elt Ideal) ℓ) (ρ : Dev Cert.AttnIdeal.nD → PrngReg) :
    θ_run (Cert.AttnIdeal.defs (F := Ideal)) (onTc (τ := Cert.AttnIdeal.τ) (Cert.AttnIdeal.main (F := Ideal))) ⟨m, fun _ => 0, ρ⟩ (fun r => (∀ c : Dev Cert.AttnIdeal.nD,
      r.2.mem ((c.tc : Thread Cert.AttnIdeal.nD Cert.AttnIdeal.τ).loc Cert.AttnIdeal.main_v51) = rescaled (rawQ m c)
      ∧ r.2.mem ((c.tc : Thread Cert.AttnIdeal.nD Cert.AttnIdeal.τ).loc Cert.AttnIdeal.main_v47_1) = (dats m 0 c).arrAt 8 Cert.AttnIdeal.cfg0.N
      ∧ r.2.mem ((c.tc : Thread Cert.AttnIdeal.nD Cert.AttnIdeal.τ).loc Cert.AttnIdeal.main_v47_2) = (dats m 0 c).arrAt 9 Cert.AttnIdeal.cfg0.N
      ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0) :=
  (θ_run Cert.AttnIdeal.defs _ _).mono (fun r hr => ⟨fun c =>
    ⟨((hr.1 c).2 Cert.AttnIdeal.main_v51 (Pipeline.mem_restRefs_of Cert.AttnIdeal.main_v51 (by decide) (by decide))).trans (tail_q.trans (congrArg rescaled q_final)),
      (hr.1 c).1 8, (hr.1 c).1 9,
      ((hr.1 c).2 Cert.AttnIdeal.main_arg0 (Pipeline.mem_restRefs_of Cert.AttnIdeal.main_arg0 (by decide) (by decide))).trans (W_main_arg0 m (dats m) c),
      ((hr.1 c).2 Cert.AttnIdeal.main_arg1 (Pipeline.mem_restRefs_of Cert.AttnIdeal.main_arg1 (by decide) (by decide))).trans (W_main_arg1 m (dats m) c),
      ((hr.1 c).2 Cert.AttnIdeal.main_arg2 (Pipeline.mem_restRefs_of Cert.AttnIdeal.main_arg2 (by decide) (by decide))).trans (W_main_arg2 m (dats m) c),
      ((hr.1 c).2 Cert.AttnIdeal.main_arg3 (Pipeline.mem_restRefs_of Cert.AttnIdeal.main_arg3 (by decide) (by decide))).trans (W_main_arg3 m (dats m) c)⟩, hr.2⟩) (run m ρ)

/-- The call over the reals keeps its arguments and ends with every counter at zero. -/
theorem attnIdeal_frame : Cert.quiescent_AttnIdeal (hAttnIdeal := Cert.AttnIdeal.Gen.facts) := fun m ρ _ =>
  (θ_run Cert.AttnIdeal.defs _ _).mono (fun r h => ⟨fun c => (h.1 c).2.2.2, h.2⟩) (attn_ends m ρ)

theorem attnIdeal_frame_pre : Cert.quiescent_AttnIdeal_pre_finite_inputs (hAttnIdeal := Cert.AttnIdeal.Gen.facts) (hPre_finite_inputs := Cert.Pre_finite_inputs.Gen.facts) :=
  fun m ρ _ => attnIdeal_frame m ρ trivial

theorem attnRef_frame : Cert.quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

theorem attnRef_frame_pre : Cert.quiescent_AttnRefIdeal_pre_finite_inputs (hAttnRefIdeal := Cert.AttnRefIdeal.Gen.facts) (hPre_finite_inputs := Cert.Pre_finite_inputs.Gen.facts) :=
  fun m ρ _ => attnRef_frame m ρ trivial

/-- On real inputs, the attention's backward call returns, over the reals, what the reference returns. -/
theorem attn_algebraic : Cert.algebraic_AttnIdeal_AttnRefIdeal_pre_finite_inputs (hAttnIdeal := Cert.AttnIdeal.Gen.facts) (hAttnRefIdeal := Cert.AttnRefIdeal.Gen.facts)
    (hPre_finite_inputs := Cert.Pre_finite_inputs.Gen.facts) := by
  intro m g m' g' hpre hargs
  refine ⟨_, _, _, (θ_run Cert.AttnIdeal.defs _ _).mono (fun r h => h.1) (attn_ends m g), ?_⟩
  refine (θ_run Cert.AttnRefIdeal.defs _ _).mono (fun r h c => ?_) (Cert.AttnRefIdeal.Value.run (F := Ideal) m' g')
  obtain ⟨h0, h1, h2, hr⟩ := h c
  obtain ⟨e0, e1, e2, e3⟩ := hargs c
  have H : Cert.AttnRefIdeal.Host.Finite (arg0 m c) (arg1 m c) (arg2 m c) (arg3 m c) := finite_of _ _ _ _ (hpre c)
  refine ⟨h0.trans ?_, h1.trans ?_, h2.trans ?_, hr⟩
  · rw [Cert.AttnRefIdeal.Host.res_q, q_scaled H]
    unfold Cert.AttnRefIdeal.Host.in0 Cert.AttnRefIdeal.Host.in1 Cert.AttnRefIdeal.Host.in2 Cert.AttnRefIdeal.Host.in3
    rw [e0, e1, e2, e3]
  · rw [Cert.AttnRefIdeal.Host.res_kv, kv_final H]
    unfold Cert.AttnRefIdeal.Host.in0 Cert.AttnRefIdeal.Host.in1 Cert.AttnRefIdeal.Host.in2 Cert.AttnRefIdeal.Host.in3
    rw [e0, e1, e2, e3]
  · rw [Cert.AttnRefIdeal.Host.res_r, r_final H]
    unfold Cert.AttnRefIdeal.Host.in0 Cert.AttnRefIdeal.Host.in1 Cert.AttnRefIdeal.Host.in2 Cert.AttnRefIdeal.Host.in3
    rw [e0, e1, e2, e3]

end Cert.Proof

end
-- ==== Proof.AttnQuiet.lean ====
/- The attention gradient as written: every grid point keeps its inputs. -/
module

public import proofs.«01_k».proof.Proof.Gen.Attn.Skeleton
public import proofs.«01_k».proof.Proof.Gen.Attn.Loops
public import proofs.«01_k».proof.Proof.Gen.Attn.Points
public import proofs.«01_k».proof.Proof.Gen.Attn.Frame
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384

/-! The attention gradient as the version writes it: each grid point keeps its inputs, whatever it leaves in the outputs and in scratch. -/

noncomputable section

namespace Cert.Attn.Quiet

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a grid point. -/
theorem body (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ⊢ wp frame (wpE (defs₀ (F := F)) 𝒱 (c : Thread nD τ) bd) E (cc0_l2_b_attn_skel (F := F) i arg2 harg2 arg3 harg3 arg4 harg4 arg5 harg5 arg6 harg6 arg7 harg7 arg8 harg8 arg9 harg9 arg10 harg10 arg11 harg11 arg12 harg12 arg13 harg13 arg14 harg14) (fun _ => (
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ ∃ (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty), (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) : sProp 𝕄)) := by
  unfold cc0_l2_b_attn_skel
  iintro ⟨H2, H3, H4, H5, H6, H7, H8, H9, H10, H11, H12, H13, H14⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _; iexists _; iexists _
  isplitl [H9]; · iexact H9
  isplitl [H10]; · iexact H10
  isplitl [H11]; · iexact H11
  isplitl [H12]; · iexact H12
  isplitl [H13]; · iexact H13
  iexact H14

set_option maxHeartbeats 1000000 in
/-- The body at a grid point, over owned memrefs. -/
theorem body_owned (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .vmem S2x8x256x512 .bf16) (harg9 : arg9.IsWhole) (arg10 : Memref sig .tc .vmem S512x512 .bf16) (harg10 : arg10.IsWhole) (arg11 : Memref sig .tc .vmem S512x256 .bf16) (harg11 : arg11.IsWhole) (arg12 : Memref sig .tc .vmem S2x8x256x512 .f32) (harg12 : arg12.IsWhole) (arg13 : Memref sig .tc .vmem S512x512 .f32) (harg13 : arg13.IsWhole) (arg14 : Memref sig .tc .vmem S512x256 .f32) (harg14 : arg14.IsWhole)
    (Y2 : S4096x512.Idx → Elt F (.bf16)) (Y3 : S512x512.Idx → Elt F (.bf16)) (Y4 : S512x512.Idx → Elt F (.bf16)) (Y5 : S512x256.Idx → Elt F (.bf16)) (Y6 : S4096x256.Idx → Elt F (.bf16)) (Y7 : S2x8x1x512.Idx → Elt F (.f32)) (Y8 : S2x8x1x512.Idx → Elt F (.f32)) (Q : PUnit → sProp 𝕄) :
    iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)
      ∗ ((owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)) -∗ Q ⟨⟩))
      ⊢ wp frame (wpE (defs₀ (F := F)) 𝒱 (c : Thread nD τ) bd) E (cc0_l2_b_attn (F := F) i arg2 harg2 arg3 harg3 arg4 harg4 arg5 harg5 arg6 harg6 arg7 harg7 arg8 harg8 arg9 harg9 arg10 harg10 arg11 harg11 arg12 harg12 arg13 harg13 arg14 harg14) Q := by
  rw [cc0_l2_b_attn_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%X9, %f9, %e9, H9⟩, ⟨%X10, %f10, %e10, H10⟩, ⟨%X11, %f11, %e11, H11⟩, ⟨%X12, %f12, %e12, H12⟩, ⟨%X13, %f13, %e13, H13⟩, ⟨%X14, %f14, %e14, H14⟩, HQ⟩
  iapply wp_wand_r
  isplitl [H2 H3 H4 H5 H6 H7 H8 H9 H10 H11 H12 H13 H14]
  · iapply (body (F := F) 𝒱 c bd E i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %a ⟨H2, H3, H4, H5, H6, H7, H8, %g9, %g10, %g11, %g12, %g13, %g14, H9, H10, H11, H12, H13, H14⟩
    iapply HQ
    isplitl [H2]
    · iexists f2; isplitr
      · ipureintro; exact e2
      · iexact H2
    isplitl [H3]
    · iexists f3; isplitr
      · ipureintro; exact e3
      · iexact H3
    isplitl [H4]
    · iexists f4; isplitr
      · ipureintro; exact e4
      · iexact H4
    isplitl [H5]
    · iexists f5; isplitr
      · ipureintro; exact e5
      · iexact H5
    isplitl [H6]
    · iexists f6; isplitr
      · ipureintro; exact e6
      · iexact H6
    isplitl [H7]
    · iexists f7; isplitr
      · ipureintro; exact e7
      · iexact H7
    isplitl [H8]
    · iexists f8; isplitr
      · ipureintro; exact e8
      · iexact H8
    isplitl [H9]
    · iexists _; iexists g9; isplitr
      · ipureintro; rfl
      · iexact H9
    isplitl [H10]
    · iexists _; iexists g10; isplitr
      · ipureintro; rfl
      · iexact H10
    isplitl [H11]
    · iexists _; iexists g11; isplitr
      · ipureintro; rfl
      · iexact H11
    isplitl [H12]
    · iexists _; iexists g12; isplitr
      · ipureintro; rfl
      · iexact H12
    isplitl [H13]
    · iexists _; iexists g13; isplitr
      · ipureintro; rfl
      · iexact H13
    iexists _; iexists g14; isplitr
    · ipureintro; rfl
    · iexact H14

section Run

variable (m : (ℓ : Loc nD τ sig) → Buf (Elt F) ℓ) (ρ : Dev nD → PrngReg)

/-- Between grid points: the scratch at some contents. -/
def Phi (c : Dev nD) : sProp 𝕄 :=
  iprop((∃ X, owns (c : Thread nD τ) (Memref.whole cc0_scratch0) fullShare X) ∗ (∃ X, owns (c : Thread nD τ) (Memref.whole cc0_scratch1) fullShare X)
    ∗ (∃ X, owns (c : Thread nD τ) (Memref.whole cc0_scratch2) fullShare X) ∗ ∃ r, prngReg c r)

/-- The windows whose contents aren't kept track of: the three results. -/
def forget : Fin cfg0.W → Bool := fun w => decide (7 ≤ w.val)

/-- The proof data of the call. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Phi c
  q _ := fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ (∃ X, owns (c : Thread nD τ) (st0_7 t) fullShare X)
    ∗ (∃ X, owns (c : Thread nD τ) (st0_8 t) fullShare X)
    ∗ (∃ X, owns (c : Thread nD τ) (st0_9 t) fullShare X))

set_option maxHeartbeats 1000000 in
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dat m c).Φ t.castSucc = Phi c from rfl, show (dat m c).Φ t.succ = Phi c from rfl,
    show (dat m c).owesAt () t.succ = (dat m c).owesAt () t.castSucc from rfl,
    after_0, after_1, after_2, after_3, after_4, after_5, after_6]
  unfold Phi
  iintro ⟨⟨S0, S1, S2, Hr⟩, Ho, ⟨%d0, H0⟩, ⟨%d1, H1⟩, ⟨%d2, H2⟩, ⟨%d3, H3⟩, ⟨%d4, H4⟩, ⟨%d5, H5⟩, ⟨%d6, H6⟩, H7, H8, H9⟩
  iapply (body_owned (F := F) Variants.none c none Set.univ (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hr]
  · isplitl [S0]; · iexact S0
    isplitl [S1]; · iexact S1
    isplitl [S2]; · iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dat m c) (defs₀ (F := F)) Variants.none () Set.univ forget := fun t => by
  rw [bigSep_W0, bigSep_W0, row]
  exact triple_restated (sound m c t) rfl .rfl fun _ => .rfl

theorem enter (c : Dev nD) : Pipeline.ΦA spec0 c ⊢ (dat m c).Φ 0 := by
  rw [show (dat m c).Φ 0 = Phi c from rfl]
  unfold Pipeline.ΦA Phi
  rw [scopedRest0_eq]
  iintro ⟨⟨⟨%f0, S0⟩, ⟨%f1, S1⟩, ⟨%f2, S2⟩⟩, Hr⟩
  isplitl [S0]; · iexists f0; rw [owns_whole]; iexact S0
  isplitl [S1]; · iexists f1; rw [owns_whole]; iexact S1
  isplitl [S2]; · iexists f2; rw [owns_whole]; iexact S2
  iexact Hr

theorem leave (c : Dev nD) : (dat m c).Φ (Fin.last cfg0.N) ⊢ Pipeline.ΦA spec0 c := by
  rw [show (dat m c).Φ (Fin.last cfg0.N) = Phi c from rfl]
  unfold Pipeline.ΦA Phi
  rw [scopedRest0_eq]
  iintro ⟨⟨%f0, S0⟩, ⟨%f1, S1⟩, ⟨%f2, S2⟩, Hr⟩
  isplitl [S0 S1 S2]
  · isplitl [S0]; · iexists f0; rw [← owns_whole]; iexact S0
    isplitl [S1]; · iexists f1; rw [← owns_whole]; iexact S1
    iexists f2; rw [← owns_whole]; iexact S2
  iexact Hr

abbrev dats : (p : Fin 1) → (c : Dev nD) → Dat τ (Elt F) Unit ℕ (UR sig nD τ) ℕ (cfgs p) c := fun _ c => dat m c

/-- What the lines after the call write. -/
def written : Finset (Ref sig .tc) := {main_v48, main_cst_7, main_v49, main_v50, main_v51}

theorem written_all : ∀ ops ∈ ([hostOps1] : List (List (HloOp τ sig (Elt F)))), ∀ op ∈ ops, ∀ b : Ref sig .tc, Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl
  all_goals
    simp only [StableHlo.nullary_writes, StableHlo.unary_writes, StableHlo.binary_writes, Finset.mem_singleton] at hb
    have e := Proc.devRef_injective _ hb
    subst e
    decide

/-- The launch keeps what the host lines don't write, and ends with every counter at zero. -/
theorem run : θ_run defs (onTc (τ := τ) (main (F := F))) (s₀ m ρ)
    (fun r => Pipeline.RDat.FramePostR cfg0 (fun c => (dat m c).toRForget forget) written (fun c b => V0 m c (Proc.devRef .tc b)) r ∧ r.2.sem = (fun _ => 0)) :=
  Pipeline.θ_run_frame_around_T_track_forget cfgs (dats m) 0 launch0 (defs₀ (F := F)) Variants.none forget written m ρ main (fun c => (obligation m c).loose) (fun c => (dats m 0 c).share_full fun _ => rfl) (fun _ _ => rfl)
    (V0 m) [hostOps1] sfx_sub sfx_fresh sfx_keeps written_all (hmain m Variants.none) (fun c w => A_eq m c w) (enter m) (leave m)
    (fun r => Pipeline.RDat.FramePostR cfg0 (fun c => (dat m c).toRForget forget) written (fun c b => V0 m c (Proc.devRef .tc b)) r ∧ r.2.sem = (fun _ => 0)) (fun _ h => h)

/-- The launch keeps its four arguments and ends with every counter at zero. -/
theorem keeps : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = (fun _ => 0)) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c),
     ((h.1 c).2 main_arg3 (Finset.mem_sdiff.mpr ⟨Pipeline.mem_restRefs_of main_arg3 (by decide) (by decide), by decide⟩)).trans (V_main_arg3 m c)⟩, h.2⟩) (run m ρ)

end Run

end Cert.Attn.Quiet

end
-- ==== Proof.LinearRun.lean ====
/- The program of the linear gradients's run: every weakly fair execution ends with each result array at the last boundary's contents, the arguments as launched and every counter at zero. -/
module

public import proofs.«01_k».proof.Proof.Gen.LinearIdeal.Frame

@[expose] public section

set_option maxRecDepth 16384

noncomputable section

namespace Cert.LinearIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LinearIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, with the last boundary's contents read at the results. -/
theorem run : θ_run defs (onTc (τ := τ) (main (F := F))) ⟨m, fun _ => 0, ρ⟩ (fun r => (∀ c : Dev nD,
      r.2.mem ((c.tc : Thread nD τ).loc main_v9) = W7 m ρ c main_v9
      ∧ r.2.mem ((c.tc : Thread nD τ).loc main_v10) = W7 m ρ c main_v10
      ∧ r.2.mem ((c.tc : Thread nD τ).loc main_v11) = W7 m ρ c main_v11
      ∧ r.2.mem ((c.tc : Thread nD τ).loc main_v12) = W7 m ρ c main_v12
      ∧ r.2.mem ((c.tc : Thread nD τ).loc main_v13) = W7 m ρ c main_v13
      ∧ r.2.mem ((c.tc : Thread nD τ).loc main_v14) = W7 m ρ c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v9 (by decide)),
       h c _ (mem_uc main_v10 (by decide)),
       h c _ (mem_uc main_v11 (by decide)),
       h c _ (mem_uc main_v12 (by decide)),
       h c _ (mem_uc main_v13 (by decide)),
       h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩), funext fun g => hz g (.inr (no_unscoped g.2))⟩)

end Cert.LinearIdeal.Value

end
-- ==== Proof.LinearRows.lean ====
/- The gradients of three products' rows: each result array is the product of the cotangent with the transposed weight. -/
module

public import proofs.«01_k».proof.Proof.Gen.LinearIdeal.Frame
public import proofs.«01_k».proof.Proof.Gen.LinearRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LinearIdeal.Value

open Cert.LinearIdeal Cert.LinearIdeal.Gen

variable (V : (c : Dev nD) → (b : Ref sig .tc) → Buf (Elt Ideal) ((c : Thread nD τ).loc b))

/-- The gradient of the rows that enter the out projection of the spatial gate. -/
abbrev gateIn (a : FVec Ideal Cert.LinearRefIdeal.S4096x1024 .f32) (b : FVec Ideal Cert.LinearRefIdeal.S1024x1024 .f32) : FVec Ideal Cert.LinearRefIdeal.S4096x1024 .f32 :=
  Host.dotGeneral Cert.LinearRefIdeal.dot_S4096x1024_S1024x1024_S4096x1024_1_1_0_0_n_n none a b

/-- Where each window's block sits. -/
theorem gateIn_idx : ∀ t : Fin cfg0.N, win0_0.index t = ![t.val, 0] ∧ win0_1.index t = ![0, 0]
    ∧ win0_2.index t = ![t.val, 0] :=
  (by decide +kernel : ∀ t : Fin grid0.N, _)

set_option maxHeartbeats 1000000 in
/-- What a point stores is the gradient at the block the point owns. -/
theorem gateIn_point (c : Dev nD) (t : Fin cfg0.N) (y) :
    k0_pay1 (iblk0 V c 0 t) (iblk0 V c 1 t) y
      = gateIn (V c main_v6) (V c main_v1) (((cfg0.win 2).blk t).view.emb y) := by
  pointwise [k0_pay1, gateIn]
  refine Fin.sum_fin_congr fun k => ?_
  blk_point [iblk0, gateIn_idx t]

/-- The whole array of that gradient. -/
theorem gateIn_final (c : Dev nD) : (dat0 V c).arrAt 2 cfg0.N = gateIn (V c main_v6) (V c main_v1) := by
  refine (dat0 V c).arrAt_eq_of_covers 2 _ (by decide +kernel) fun t _ y => ?_
  blk_simp
  rw [after0_2]; frame_out
  exact gateIn_point V c t y

/-- The gradient of the rows that enter the in projection of the spatial gate. -/
abbrev normIn (a : FVec Ideal Cert.LinearRefIdeal.S4096x2048 .f32) (b : FVec Ideal Cert.LinearRefIdeal.S1024x2048 .f32) : FVec Ideal Cert.LinearRefIdeal.S4096x1024 .f32 :=
  Host.dotGeneral Cert.LinearRefIdeal.dot_S4096x2048_S1024x2048_S4096x1024_1_1_0_0_n_n none a b

/-- Where each window's block sits. -/
theorem normIn_idx : ∀ t : Fin cfg2.N, win2_0.index t = ![t.val, 0] ∧ win2_1.index t = ![0, 0]
    ∧ win2_2.index t = ![t.val, 0] :=
  (by decide +kernel : ∀ t : Fin grid2.N, _)

set_option maxHeartbeats 1000000 in
/-- What a point stores is the gradient at the block the point owns. -/
theorem normIn_point (c : Dev nD) (t : Fin cfg2.N) (y) :
    k2_pay1 (iblk2 V c 0 t) (iblk2 V c 1 t) y
      = normIn (V c main_v7) (V c main_v3) (((cfg2.win 2).blk t).view.emb y) := by
  pointwise [k2_pay1, normIn]
  refine Fin.sum_fin_congr fun k => ?_
  blk_point [iblk2, normIn_idx t]

/-- The whole array of that gradient. -/
theorem normIn_final (c : Dev nD) : (dat2 V c).arrAt 2 cfg2.N = normIn (V c main_v7) (V c main_v3) := by
  refine (dat2 V c).arrAt_eq_of_covers 2 _ (by decide +kernel) fun t _ y => ?_
  blk_simp
  rw [after2_2]; frame_out
  exact normIn_point V c t y

/-- The gradient of the rows that enter the attention's out projection. -/
abbrev attnIn (a : FVec Ideal Cert.LinearRefIdeal.S4096x1024 .f32) (b : FVec Ideal Cert.LinearRefIdeal.S2048x1024 .f32) : FVec Ideal Cert.LinearRefIdeal.S4096x2048 .f32 :=
  Host.dotGeneral Cert.LinearRefIdeal.dot_S4096x1024_S2048x1024_S4096x2048_1_1_0_0_n_n none a b

/-- Where each window's block sits. -/
theorem attnIn_idx : ∀ t : Fin cfg4.N, win4_0.index t = ![t.val / 2, 0] ∧ win4_1.index t = ![t.val % 2, 0]
    ∧ win4_2.index t = ![t.val / 2, t.val % 2] :=
  (by decide +kernel : ∀ t : Fin grid4.N, _)

set_option maxHeartbeats 1000000 in
/-- What a point stores is the gradient at the block the point owns. -/
theorem attnIn_point (c : Dev nD) (t : Fin cfg4.N) (y) :
    k4_pay1 (iblk4 V c 0 t) (iblk4 V c 1 t) y
      = attnIn (V c main_v8) (V c main_v5) (((cfg4.win 2).blk t).view.emb y) := by
  pointwise [k4_pay1, attnIn]
  refine Fin.sum_fin_congr fun k => ?_
  blk_point [iblk4, attnIn_idx t]

/-- The whole array of that gradient. -/
theorem attnIn_final (c : Dev nD) : (dat4 V c).arrAt 2 cfg4.N = attnIn (V c main_v8) (V c main_v5) := by
  refine (dat4 V c).arrAt_eq_of_covers 2 _ (by decide +kernel) fun t _ y => ?_
  blk_simp
  rw [after4_2]; frame_out
  exact attnIn_point V c t y

end Cert.LinearIdeal.Value

end
-- ==== Proof.LinearWeights.lean ====
/- The gradients of three products' weights: each result array is the transposed product of the rows with the cotangent. -/
module

public import proofs.«01_k».proof.Proof.Gen.LinearIdeal.Frame
public import proofs.«01_k».proof.Proof.Gen.LinearRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LinearIdeal.Value

open Cert.LinearIdeal Cert.LinearIdeal.Gen

variable (V : (c : Dev nD) → (b : Ref sig .tc) → Buf (Elt Ideal) ((c : Thread nD τ).loc b))

/-- The gradient of the out projection of the spatial gate. -/
abbrev gateOutW (a : FVec Ideal Cert.LinearRefIdeal.S4096x1024 .f32) (b : FVec Ideal Cert.LinearRefIdeal.S4096x1024 .f32) : FVec Ideal Cert.LinearRefIdeal.S1024x1024 .f32 :=
  transpose Cert.LinearRefIdeal.S1024x1024 [1, 0] (Host.dotGeneral Cert.LinearRefIdeal.dot_S4096x1024_S4096x1024_S1024x1024_0_0_1_1_n_n none b a) Cert.LinearRefIdeal.Gen.transposes_S1024x1024_S1024x1024_1_0

/-- Where each window's block sits. -/
theorem gateOutW_idx : ∀ t : Fin cfg1.N, win1_0.index t = ![0, 0] ∧ win1_1.index t = ![0, 0]
    ∧ win1_2.index t = ![0, 0] :=
  (by decide +kernel : ∀ t : Fin grid1.N, _)

set_option maxHeartbeats 1000000 in
/-- What a point stores is the gradient at the block the point owns. -/
theorem gateOutW_point (c : Dev nD) (t : Fin cfg1.N) (y) :
    k1_pay1 (iblk1 V c 0 t) (iblk1 V c 1 t) y
      = gateOutW (V c main_v0) (V c main_v6) (((cfg1.win 2).blk t).view.emb y) := by
  pointwise [k1_pay1, gateOutW]
  refine Fin.sum_fin_congr fun k => (mul_comm (G := EReal) _ _).trans ?_
  blk_point [iblk1, gateOutW_idx t]

/-- The whole array of that gradient. -/
theorem gateOutW_final (c : Dev nD) : (dat1 V c).arrAt 2 cfg1.N = gateOutW (V c main_v0) (V c main_v6) := by
  refine (dat1 V c).arrAt_eq_of_covers 2 _ (by decide +kernel) fun t _ y => ?_
  blk_simp
  rw [after1_2]; frame_out
  exact gateOutW_point V c t y

/-- The gradient of the in projection of the spatial gate. -/
abbrev gateInW (a : FVec Ideal Cert.LinearRefIdeal.S4096x1024 .f32) (b : FVec Ideal Cert.LinearRefIdeal.S4096x2048 .f32) : FVec Ideal Cert.LinearRefIdeal.S1024x2048 .f32 :=
  transpose Cert.LinearRefIdeal.S1024x2048 [1, 0] (Host.dotGeneral Cert.LinearRefIdeal.dot_S4096x2048_S4096x1024_S2048x1024_0_0_1_1_n_n none b a) Cert.LinearRefIdeal.Gen.transposes_S2048x1024_S1024x2048_1_0

/-- Where each window's block sits. -/
theorem gateInW_idx : ∀ t : Fin cfg3.N, win3_0.index t = ![0, 0] ∧ win3_1.index t = ![0, t.val]
    ∧ win3_2.index t = ![0, t.val] :=
  (by decide +kernel : ∀ t : Fin grid3.N, _)

set_option maxHeartbeats 1000000 in
/-- What a point stores is the gradient at the block the point owns. -/
theorem gateInW_point (c : Dev nD) (t : Fin cfg3.N) (y) :
    k3_pay1 (iblk3 V c 0 t) (iblk3 V c 1 t) y
      = gateInW (V c main_v2) (V c main_v7) (((cfg3.win 2).blk t).view.emb y) := by
  pointwise [k3_pay1, gateInW]
  refine Fin.sum_fin_congr fun k => (mul_comm (G := EReal) _ _).trans ?_
  blk_point [iblk3, gateInW_idx t]

/-- The whole array of that gradient. -/
theorem gateInW_final (c : Dev nD) : (dat3 V c).arrAt 2 cfg3.N = gateInW (V c main_v2) (V c main_v7) := by
  refine (dat3 V c).arrAt_eq_of_covers 2 _ (by decide +kernel) fun t _ y => ?_
  blk_simp
  rw [after3_2]; frame_out
  exact gateInW_point V c t y

/-- The gradient of the attention's out projection. -/
abbrev attnOutW (a : FVec Ideal Cert.LinearRefIdeal.S4096x2048 .f32) (b : FVec Ideal Cert.LinearRefIdeal.S4096x1024 .f32) : FVec Ideal Cert.LinearRefIdeal.S2048x1024 .f32 :=
  transpose Cert.LinearRefIdeal.S2048x1024 [1, 0] (Host.dotGeneral Cert.LinearRefIdeal.dot_S4096x1024_S4096x2048_S1024x2048_0_0_1_1_n_n none b a) Cert.LinearRefIdeal.Gen.transposes_S1024x2048_S2048x1024_1_0

/-- Where each window's block sits. -/
theorem attnOutW_idx : ∀ t : Fin cfg5.N, win5_0.index t = ![0, t.val] ∧ win5_1.index t = ![0, 0]
    ∧ win5_2.index t = ![t.val, 0] :=
  (by decide +kernel : ∀ t : Fin grid5.N, _)

set_option maxHeartbeats 1000000 in
/-- What a point stores is the gradient at the block the point owns. -/
theorem attnOutW_point (c : Dev nD) (t : Fin cfg5.N) (y) :
    k5_pay1 (iblk5 V c 0 t) (iblk5 V c 1 t) y
      = attnOutW (V c main_v4) (V c main_v8) (((cfg5.win 2).blk t).view.emb y) := by
  pointwise [k5_pay1, attnOutW]
  refine Fin.sum_fin_congr fun k => (mul_comm (G := EReal) _ _).trans ?_
  blk_point [iblk5, attnOutW_idx t]

/-- The whole array of that gradient. -/
theorem attnOutW_final (c : Dev nD) : (dat5 V c).arrAt 2 cfg5.N = attnOutW (V c main_v4) (V c main_v8) := by
  refine (dat5 V c).arrAt_eq_of_covers 2 _ (by decide +kernel) fun t _ y => ?_
  blk_simp
  rw [after5_2]; frame_out
  exact attnOutW_point V c t y

end Cert.LinearIdeal.Value

end
-- ==== Proof.LinearValue.lean ====
/- The linear gradients' results at the program's last boundary, as terms of its arguments. -/
module

public import proofs.«01_k».proof.Proof.LinearRows
public import proofs.«01_k».proof.Proof.LinearWeights
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LinearIdeal.Value

open Cert.LinearIdeal Cert.LinearIdeal.Gen

variable (m : (ℓ : Loc nD τ sig) → Buf (Elt Ideal) ℓ) (ρ : Dev nD → PrngReg) (c : Dev nD)

/-- The arguments of a launch at the reference's shapes. -/
abbrev a0 : FVec Ideal Cert.LinearRefIdeal.S4096x1024 .f32 := m ((c : Thread nD τ).loc main_arg0)
abbrev a1 : FVec Ideal Cert.LinearRefIdeal.S1024x1024 .f32 := m ((c : Thread nD τ).loc main_arg1)
abbrev a2 : FVec Ideal Cert.LinearRefIdeal.S4096x1024 .f32 := m ((c : Thread nD τ).loc main_arg2)
abbrev a3 : FVec Ideal Cert.LinearRefIdeal.S1024x2048 .f32 := m ((c : Thread nD τ).loc main_arg3)
abbrev a4 : FVec Ideal Cert.LinearRefIdeal.S4096x2048 .f32 := m ((c : Thread nD τ).loc main_arg4)
abbrev a5 : FVec Ideal Cert.LinearRefIdeal.S2048x1024 .f32 := m ((c : Thread nD τ).loc main_arg5)
abbrev a6 : FVec Ideal Cert.LinearRefIdeal.S4096x1024 .f32 := m ((c : Thread nD τ).loc main_arg6)
abbrev a7 : FVec Ideal Cert.LinearRefIdeal.S4096x2048 .f32 := m ((c : Thread nD τ).loc main_arg7)
abbrev a8 : FVec Ideal Cert.LinearRefIdeal.S4096x1024 .f32 := m ((c : Thread nD τ).loc main_arg8)

theorem v1_0 : V1 m ρ c main_v0 = a0 m c := by
  unfold V1 W1 hostOps0; after_results; rfl
theorem v1_1 : V1 m ρ c main_v1 = a1 m c := by
  unfold V1 W1 hostOps0; after_results; rfl
theorem v1_2 : V1 m ρ c main_v2 = a2 m c := by
  unfold V1 W1 hostOps0; after_results; rfl
theorem v1_3 : V1 m ρ c main_v3 = a3 m c := by
  unfold V1 W1 hostOps0; after_results; rfl
theorem v1_4 : V1 m ρ c main_v4 = a4 m c := by
  unfold V1 W1 hostOps0; after_results; rfl
theorem v1_5 : V1 m ρ c main_v5 = a5 m c := by
  unfold V1 W1 hostOps0; after_results; rfl
theorem v1_6 : V1 m ρ c main_v6 = a6 m c := by
  unfold V1 W1 hostOps0; after_results; rfl
theorem v1_7 : V1 m ρ c main_v7 = a7 m c := by
  unfold V1 W1 hostOps0; after_results; rfl
theorem v1_8 : V1 m ρ c main_v8 = a8 m c := by
  unfold V1 W1 hostOps0; after_results; rfl

/-- The program's result: the gradient of the rows that enter the out projection of the spatial gate. -/
theorem w7_gateIn : W7 m ρ c main_v9 = gateIn (a6 m c) (a1 m c) := by
  have h6 : V1 m ρ c main_v6 = a6 m c := v1_6 m ρ c
  have h1 : V1 m ρ c main_v1 = a1 m c := v1_1 m ρ c
  refine (W7_of m ρ c main_v9 (by decide)).trans ((W6_of m ρ c main_v9 (by decide)).trans ((W5_of m ρ c main_v9 (by decide)).trans ((W4_of m ρ c main_v9 (by decide)).trans ((W3_of m ρ c main_v9 (by decide)).trans ((W2_arr m ρ c 2).trans ((gateIn_final (V1 m ρ) c).trans ?_))))))
  rw [h6, h1]
/-- The program's result: the gradient of the out projection of the spatial gate. -/
theorem w7_gateOutW : W7 m ρ c main_v10 = gateOutW (a0 m c) (a6 m c) := by
  have h0 : V2 m ρ c main_v0 = a0 m c := (W2_of m ρ c main_v0 (by decide)).trans (v1_0 m ρ c)
  have h6 : V2 m ρ c main_v6 = a6 m c := (W2_of m ρ c main_v6 (by decide)).trans (v1_6 m ρ c)
  refine (W7_of m ρ c main_v10 (by decide)).trans ((W6_of m ρ c main_v10 (by decide)).trans ((W5_of m ρ c main_v10 (by decide)).trans ((W4_of m ρ c main_v10 (by decide)).trans ((W3_arr m ρ c 2).trans ((gateOutW_final (V2 m ρ) c).trans ?_)))))
  rw [h0, h6]
/-- The program's result: the gradient of the rows that enter the in projection of the spatial gate. -/
theorem w7_normIn : W7 m ρ c main_v11 = normIn (a7 m c) (a3 m c) := by
  have h7 : V3 m ρ c main_v7 = a7 m c := (W3_of m ρ c main_v7 (by decide)).trans ((W2_of m ρ c main_v7 (by decide)).trans (v1_7 m ρ c))
  have h3 : V3 m ρ c main_v3 = a3 m c := (W3_of m ρ c main_v3 (by decide)).trans ((W2_of m ρ c main_v3 (by decide)).trans (v1_3 m ρ c))
  refine (W7_of m ρ c main_v11 (by decide)).trans ((W6_of m ρ c main_v11 (by decide)).trans ((W5_of m ρ c main_v11 (by decide)).trans ((W4_arr m ρ c 2).trans ((normIn_final (V3 m ρ) c).trans ?_))))
  rw [h7, h3]
/-- The program's result: the gradient of the in projection of the spatial gate. -/
theorem w7_gateInW : W7 m ρ c main_v12 = gateInW (a2 m c) (a7 m c) := by
  have h2 : V4 m ρ c main_v2 = a2 m c := (W4_of m ρ c main_v2 (by decide)).trans ((W3_of m ρ c main_v2 (by decide)).trans ((W2_of m ρ c main_v2 (by decide)).trans (v1_2 m ρ c)))
  have h7 : V4 m ρ c main_v7 = a7 m c := (W4_of m ρ c main_v7 (by decide)).trans ((W3_of m ρ c main_v7 (by decide)).trans ((W2_of m ρ c main_v7 (by decide)).trans (v1_7 m ρ c)))
  refine (W7_of m ρ c main_v12 (by decide)).trans ((W6_of m ρ c main_v12 (by decide)).trans ((W5_arr m ρ c 2).trans ((gateInW_final (V4 m ρ) c).trans ?_)))
  rw [h2, h7]
/-- The program's result: the gradient of the rows that enter the attention's out projection. -/
theorem w7_attnIn : W7 m ρ c main_v13 = attnIn (a8 m c) (a5 m c) := by
  have h8 : V5 m ρ c main_v8 = a8 m c := (W5_of m ρ c main_v8 (by decide)).trans ((W4_of m ρ c main_v8 (by decide)).trans ((W3_of m ρ c main_v8 (by decide)).trans ((W2_of m ρ c main_v8 (by decide)).trans (v1_8 m ρ c))))
  have h5 : V5 m ρ c main_v5 = a5 m c := (W5_of m ρ c main_v5 (by decide)).trans ((W4_of m ρ c main_v5 (by decide)).trans ((W3_of m ρ c main_v5 (by decide)).trans ((W2_of m ρ c main_v5 (by decide)).trans (v1_5 m ρ c))))
  refine (W7_of m ρ c main_v13 (by decide)).trans ((W6_arr m ρ c 2).trans ((attnIn_final (V5 m ρ) c).trans ?_))
  rw [h8, h5]
/-- The program's result: the gradient of the attention's out projection. -/
theorem w7_attnOutW : W7 m ρ c main_v14 = attnOutW (a4 m c) (a8 m c) := by
  have h4 : V6 m ρ c main_v4 = a4 m c := (W6_of m ρ c main_v4 (by decide)).trans ((W5_of m ρ c main_v4 (by decide)).trans ((W4_of m ρ c main_v4 (by decide)).trans ((W3_of m ρ c main_v4 (by decide)).trans ((W2_of m ρ c main_v4 (by decide)).trans (v1_4 m ρ c)))))
  have h8 : V6 m ρ c main_v8 = a8 m c := (W6_of m ρ c main_v8 (by decide)).trans ((W5_of m ρ c main_v8 (by decide)).trans ((W4_of m ρ c main_v8 (by decide)).trans ((W3_of m ρ c main_v8 (by decide)).trans ((W2_of m ρ c main_v8 (by decide)).trans (v1_8 m ρ c)))))
  refine (W7_arr m ρ c 2).trans ((attnOutW_final (V6 m ρ) c).trans ?_)
  rw [h4, h8]

end Cert.LinearIdeal.Value

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormWide
public import proofs.«01_k».proof.Proof.Gen.NormWide.Skeleton
public import proofs.«01_k».proof.Proof.Gen.NormWide.Launch
public import proofs.«01_k».proof.Proof.Gen.NormWide.Points
public import proofs.«01_k».proof.Proof.Gen.NormWide.Frame
public import proofs.«01_k».proof.Proof.Gen.NormWideIdeal
public import proofs.«01_k».proof.Proof.Gen.NormWideIdeal.Skeleton
public import proofs.«01_k».proof.Proof.Gen.NormWideIdeal.Launch
public import proofs.«01_k».proof.Proof.Gen.NormWideIdeal.Points
public import proofs.«01_k».proof.Proof.Gen.NormWideIdeal.Frame
public import proofs.«01_k».proof.Proof.Gen.NormWideIdeal.Value
public import proofs.«01_k».proof.Proof.Gen.NormWideRefIdeal
public import proofs.«01_k».proof.Proof.Gen.NormWideRefIdeal.Run
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Linear
public import proofs.«01_k».proof.Proof.Gen.Linear.Skeleton
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Launch
public import proofs.«01_k».proof.Proof.Gen.LinearIdeal.Points
public import proofs.«01_k».proof.Proof.Gen.LinearIdeal.Frame
public import proofs.«01_k».proof.Proof.Gen.LinearRefIdeal
public import proofs.«01_k».proof.Proof.Gen.LinearRefIdeal.Run
public import proofs.«01_k».proof.Proof.Gen.Pre_finite_inputs
public import proofs.«01_k».proof.Proof.MlpRun
public import proofs.«01_k».proof.Proof.MlpValue
public import proofs.«01_k».proof.Proof.NormValue
public import proofs.«01_k».proof.Proof.NormWideValue
public import proofs.«01_k».proof.Proof.AttnValue
public import proofs.«01_k».proof.Proof.AttnQuiet
public import proofs.«01_k».proof.Proof.LinearRun
public import proofs.«01_k».proof.Proof.LinearValue
public import Idealize.ShloMosaic.Lib.Claim
public import Idealize.ShloMosaic.Adequacy
public import Idealize.ShloMosaic.Init

@[expose] public section

noncomputable section

namespace Cert.Proof

open Idealize.ShloMosaic Idealize.SL.Sem Cert.Mlp

/-- The MLP's reference keeps its arguments and has no counter. -/
theorem mlpRef_frame : Cert.quiescent_MlpRefIdeal (hMlpRefIdeal := Cert.MlpRefIdeal.Gen.facts) := fun m ρ _ =>
  (θ_run Cert.MlpRefIdeal.defs _ _).mono (fun r h => ⟨fun c => (h c).2.2.2.2, sem_eq_zero_of_no_sems (by decide) r.2⟩)
    (Cert.MlpRefIdeal.Value.run (F := Ideal) m ρ)

/-- The MLP program over the reals returns what the reference returns. -/
theorem mlp_algebraic : Cert.algebraic_MlpIdeal_MlpRefIdeal (hMlpIdeal := Cert.MlpIdeal.Gen.facts) (hMlpRefIdeal := Cert.MlpRefIdeal.Gen.facts) := by
  intro m g m' g' _ hargs
  refine ⟨_, _, _, _, (θ_run Cert.MlpIdeal.defs _ _).mono (fun r h => h.1) (Cert.MlpIdeal.Value.run (F := Ideal) m g), ?_⟩
  refine (θ_run Cert.MlpRefIdeal.defs _ _).mono (fun r h c => ?_) (Cert.MlpRefIdeal.Value.run (F := Ideal) m' g')
  obtain ⟨h0, h1, h2, h3, hr⟩ := h c
  obtain ⟨e0, e1, e2, e3, e4, e5⟩ := hargs c
  refine ⟨h0.trans ?_, h1.trans ?_, h2.trans ?_, h3.trans ?_, hr⟩
  · rw [e0, e1, e2, e3, e4]; exact (Cert.MlpIdeal.Value.w7_residual m g c).symm
  · rw [e1, e2, e3, e4, e5]; exact (Cert.MlpIdeal.Value.w7_hidden m g c).symm
  · rw [e1, e2, e3, e4, e5]; exact (Cert.MlpIdeal.Value.w7_weight1 m g c).symm
  · rw [e1, e2, e3, e5]; exact (Cert.MlpIdeal.Value.w7_weight2 m g c).symm

/-- The norm's reference keeps its arguments and has no counter. -/
theorem normRef_frame : Cert.quiescent_NormRefIdeal (hNormRefIdeal := Cert.NormRefIdeal.Gen.facts) := fun m ρ _ =>
  (θ_run Cert.NormRefIdeal.defs _ _).mono (fun r h => ⟨fun c => (h c).2.2.2, sem_eq_zero_of_no_sems (by decide) r.2⟩)
    (Cert.NormRefIdeal.Value.run (F := Ideal) m ρ)

/-- The second product with the next layer's norm returns, over the reals, what the reference returns. -/
theorem norm_algebraic : Cert.algebraic_NormIdeal_NormRefIdeal (hNormIdeal := Cert.NormIdeal.Gen.facts) (hNormRefIdeal := Cert.NormRefIdeal.Gen.facts) := by
  intro m g m' g' _ hargs
  refine ⟨_, _, _, (θ_run Cert.NormIdeal.defs _ _).mono (fun r h c => h c) (Cert.NormIdeal.Value.run_blocks (F := Ideal) m g), ?_⟩
  refine (θ_run Cert.NormRefIdeal.defs _ _).mono (fun r h c => ?_) (Cert.NormRefIdeal.Value.run (F := Ideal) m' g')
  obtain ⟨h0, h1, h2, hr⟩ := h c
  obtain ⟨e0, e1, e2, e3, e4, e5, e6⟩ := hargs c
  refine ⟨h0.trans ?_, h1.trans ?_, h2.trans ?_, hr⟩
  · rw [e0, e1, e2, e3, Cert.NormIdeal.Value.stream_final, Cert.NormIdeal.Gen.V_main_arg0, Cert.NormIdeal.Gen.V_main_arg1, Cert.NormIdeal.Value.v_z, Cert.NormIdeal.Value.v_w2]
  · rw [e2, e3, Cert.NormIdeal.Value.product_final, Cert.NormIdeal.Value.v_z, Cert.NormIdeal.Value.v_w2]
    rfl
  · rw [e0, e1, e2, e3, e4, e5, e6, Cert.NormIdeal.Value.normed_final, Cert.NormIdeal.Gen.V_main_arg0, Cert.NormIdeal.Gen.V_main_arg1, Cert.NormIdeal.Gen.V_main_arg4,
      Cert.NormIdeal.Gen.V_main_arg5, Cert.NormIdeal.Gen.V_main_arg6, Cert.NormIdeal.Value.v_z, Cert.NormIdeal.Value.v_w2]
    rfl

/-- Layer 2's reference keeps its arguments and has no counter. -/
theorem normWideRef_frame : Cert.quiescent_NormWideRefIdeal (hNormWideRefIdeal := Cert.NormWideRefIdeal.Gen.facts) := fun m ρ _ =>
  (θ_run Cert.NormWideRefIdeal.defs _ _).mono (fun r h => ⟨fun c => (h c).2.2.2, sem_eq_zero_of_no_sems (by decide) r.2⟩)
    (Cert.NormWideRefIdeal.Value.run (F := Ideal) m ρ)

/-- Layer 2's second product with the next layer's norm returns, over the reals, what the reference returns. -/
theorem normWide_algebraic : Cert.algebraic_NormWideIdeal_NormWideRefIdeal (hNormWideIdeal := Cert.NormWideIdeal.Gen.facts) (hNormWideRefIdeal := Cert.NormWideRefIdeal.Gen.facts) := by
  intro m g m' g' _ hargs
  refine ⟨_, _, _, (θ_run Cert.NormWideIdeal.defs _ _).mono (fun r h c => h c) (Cert.NormWideIdeal.Value.run_blocks (F := Ideal) m g), ?_⟩
  refine (θ_run Cert.NormWideRefIdeal.defs _ _).mono (fun r h c => ?_) (Cert.NormWideRefIdeal.Value.run (F := Ideal) m' g')
  obtain ⟨h0, h1, h2, hr⟩ := h c
  obtain ⟨e0, e1, e2, e3, e4, e5, e6⟩ := hargs c
  refine ⟨h0.trans ?_, h1.trans ?_, h2.trans ?_, hr⟩
  · rw [e0, e1, e2, e3, Cert.NormWideIdeal.Value.stream_final, Cert.NormWideIdeal.Gen.V_main_arg0, Cert.NormWideIdeal.Gen.V_main_arg1, Cert.NormWideIdeal.Value.v_z, Cert.NormWideIdeal.Value.v_w2]
  · rw [e2, e3, Cert.NormWideIdeal.Value.product_final, Cert.NormWideIdeal.Value.v_z, Cert.NormWideIdeal.Value.v_w2]
    rfl
  · rw [e0, e1, e2, e3, e4, e5, e6, Cert.NormWideIdeal.Value.normed_final, Cert.NormWideIdeal.Gen.V_main_arg0, Cert.NormWideIdeal.Gen.V_main_arg1, Cert.NormWideIdeal.Gen.V_main_arg4,
      Cert.NormWideIdeal.Gen.V_main_arg5, Cert.NormWideIdeal.Gen.V_main_arg6, Cert.NormWideIdeal.Value.v_z, Cert.NormWideIdeal.Value.v_w2]

/-- The linear gradients' reference keeps its arguments and has no counter. -/
theorem linearRef_frame : Cert.quiescent_LinearRefIdeal (hLinearRefIdeal := Cert.LinearRefIdeal.Gen.facts) := fun m ρ _ =>
  (θ_run Cert.LinearRefIdeal.defs _ _).mono (fun r h => ⟨fun c => (h c).2.2.2.2.2.2, sem_eq_zero_of_no_sems (by decide) r.2⟩)
    (Cert.LinearRefIdeal.Value.run (F := Ideal) m ρ)

/-- The six gradient calls return, over the reals, what the reference returns. -/
theorem linear_algebraic : Cert.algebraic_LinearIdeal_LinearRefIdeal (hLinearIdeal := Cert.LinearIdeal.Gen.facts) (hLinearRefIdeal := Cert.LinearRefIdeal.Gen.facts) := by
  intro m g m' g' _ hargs
  refine ⟨_, _, _, _, _, _, (θ_run Cert.LinearIdeal.defs _ _).mono (fun r h => h.1) (Cert.LinearIdeal.Value.run (F := Ideal) m g), ?_⟩
  refine (θ_run Cert.LinearRefIdeal.defs _ _).mono (fun r h c => ?_) (Cert.LinearRefIdeal.Value.run (F := Ideal) m' g')
  obtain ⟨h0, h1, h2, h3, h4, h5, hr⟩ := h c
  obtain ⟨e0, e1, e2, e3, e4, e5, e6, e7, e8⟩ := hargs c
  refine ⟨h0.trans ?_, h1.trans ?_, h2.trans ?_, h3.trans ?_, h4.trans ?_, h5.trans ?_, hr⟩
  · rw [e1, e6]; exact (Cert.LinearIdeal.Value.w7_gateIn m g c).symm
  · rw [e0, e6]; exact (Cert.LinearIdeal.Value.w7_gateOutW m g c).symm
  · rw [e3, e7]; exact (Cert.LinearIdeal.Value.w7_normIn m g c).symm
  · rw [e2, e7]; exact (Cert.LinearIdeal.Value.w7_gateInW m g c).symm
  · rw [e5, e8]; exact (Cert.LinearIdeal.Value.w7_attnIn m g c).symm
  · rw [e4, e8]; exact (Cert.LinearIdeal.Value.w7_attnOutW m g c).symm

/-- The attention's backward call as written keeps its arguments and ends with every counter at zero. -/
theorem attn_frame : Cert.quiescent_Attn (hAttn := Cert.Attn.Gen.facts) := fun m ρ _ => Cert.Attn.Quiet.keeps m ρ

/-- The two named constants: the mask and the logarithm of two. -/
theorem attn_preserves : Cert.preserves_Attn_AttnIdeal :=
  ⟨IdealRules.named_const.statement Cert.AttnIdeal.κ "mask" .f32 _ _ rfl, IdealRules.named_const.statement Cert.AttnIdeal.κ "ln2" .f32 _ _ rfl⟩

theorem claim : Cert.Claim := ⟨Cert.Mlp.Gen.facts, Cert.MlpIdeal.Gen.facts, Cert.MlpRefIdeal.Gen.facts, Cert.Norm.Gen.facts, Cert.NormIdeal.Gen.facts,
  Cert.NormRefIdeal.Gen.facts, Cert.NormWide.Gen.facts, Cert.NormWideIdeal.Gen.facts, Cert.NormWideRefIdeal.Gen.facts, Cert.Linear.Gen.facts, Cert.LinearIdeal.Gen.facts, Cert.LinearRefIdeal.Gen.facts, Cert.Attn.Gen.facts, Cert.AttnIdeal.Gen.facts,
  Cert.AttnRefIdeal.Gen.facts, Cert.Pre_finite_inputs.Gen.facts, fun m ρ _ => Cert.Mlp.Gen.frame m ρ, fun m ρ _ => Cert.MlpIdeal.Gen.frame m ρ, mlpRef_frame,
  fun m ρ _ => Cert.Norm.Gen.frame m ρ, fun m ρ _ => Cert.NormIdeal.Gen.frame m ρ, normRef_frame,
  fun m ρ _ => Cert.NormWide.Gen.frame m ρ, fun m ρ _ => Cert.NormWideIdeal.Gen.frame m ρ, normWideRef_frame,
  fun m ρ _ => Cert.Linear.Gen.frame m ρ, fun m ρ _ => Cert.LinearIdeal.Gen.frame m ρ, linearRef_frame,
  attn_frame, attnIdeal_frame, attnIdeal_frame_pre, attnRef_frame, attnRef_frame_pre, trivial, mlp_algebraic, trivial, norm_algebraic, trivial, normWide_algebraic, trivial, linear_algebraic, attn_preserves, attn_algebraic⟩

end Cert.Proof

end
